-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_finite_normed [hPre_finite_normed : Cert.Pre_finite_normed.Facts] (m : (ℓ : Loc Cert.ProjIdeal.nD Cert.ProjIdeal.τ Cert.ProjIdeal.sig) → Buf (Elt Ideal) ℓ) : Prop :=
  ∀ c : Dev Cert.ProjIdeal.nD,
    (Cert.Pre_finite_normed.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4))).1 = (fun _ => 1#1)
    ∧ (Cert.Pre_finite_normed.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4))).2 = (fun _ => 1#1)

def Pre_ProjRefIdeal (m : (ℓ : Loc Cert.ProjRefIdeal.nD Cert.ProjRefIdeal.τ Cert.ProjRefIdeal.sig) → Buf (Elt Ideal) ℓ) : Prop :=
  True

def Pre_ProjRefIdeal_finite_normed [hPre_finite_normed : Cert.Pre_finite_normed.Facts] (m : (ℓ : Loc Cert.ProjRefIdeal.nD Cert.ProjRefIdeal.τ Cert.ProjRefIdeal.sig) → Buf (Elt Ideal) ℓ) : Prop :=
  ∀ c : Dev Cert.ProjRefIdeal.nD,
    (Cert.Pre_finite_normed.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4))).1 = (fun _ => 1#1)
    ∧ (Cert.Pre_finite_normed.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4))).2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Stick (m : (ℓ : Loc Cert.Stick.nD Cert.Stick.τ Cert.Stick.sig) → Buf (Elt Bits) ℓ) : Prop :=
  True

def Pre_StickIdeal (m : (ℓ : Loc Cert.StickIdeal.nD Cert.StickIdeal.τ Cert.StickIdeal.sig) → Buf (Elt Ideal) ℓ) : Prop :=
  True

def Pre_StickIdeal_finite_scores [hPre_finite_scores : Cert.Pre_finite_scores.Facts] (m : (ℓ : Loc Cert.StickIdeal.nD Cert.StickIdeal.τ Cert.StickIdeal.sig) → Buf (Elt Ideal) ℓ) : Prop :=
  ∀ c : Dev Cert.StickIdeal.nD,
    (Cert.Pre_finite_scores.fn (F := Ideal) (m ((c.tc : Thread Cert.StickIdeal.nD Cert.StickIdeal.τ).loc Cert.StickIdeal.main_arg0)) (m ((c.tc : Thread Cert.StickIdeal.nD Cert.StickIdeal.τ).loc Cert.StickIdeal.main_arg1))) = (fun _ => 1#1)

def Pre_StickRefIdeal (m : (ℓ : Loc Cert.StickRefIdeal.nD Cert.StickRefIdeal.τ Cert.StickRefIdeal.sig) → Buf (Elt Ideal) ℓ) : Prop :=
  True

def Pre_StickRefIdeal_finite_scores [hPre_finite_scores : Cert.Pre_finite_scores.Facts] (m : (ℓ : Loc Cert.StickRefIdeal.nD Cert.StickRefIdeal.τ Cert.StickRefIdeal.sig) → Buf (Elt Ideal) ℓ) : Prop :=
  ∀ c : Dev Cert.StickRefIdeal.nD,
    (Cert.Pre_finite_scores.fn (F := Ideal) (m ((c.tc : Thread Cert.StickRefIdeal.nD Cert.StickRefIdeal.τ).loc Cert.StickRefIdeal.main_arg0)) (m ((c.tc : Thread Cert.StickRefIdeal.nD Cert.StickRefIdeal.τ).loc Cert.StickRefIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjIdeal_pre_finite_normed [hProjIdeal : Cert.ProjIdeal.Facts] [hPre_finite_normed : Cert.Pre_finite_normed.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_finite_normed m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_ProjRefIdeal_pre_finite_normed [hProjRefIdeal : Cert.ProjRefIdeal.Facts] [hPre_finite_normed : Cert.Pre_finite_normed.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal_finite_normed m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4))
      ∧ r.2.sem = fun _ => 0)

def quiescent_Stick [hStick : Cert.Stick.Facts] : Prop :=
  ∀ (m : (ℓ : Loc Cert.Stick.nD Cert.Stick.τ Cert.Stick.sig) → Buf (Elt Bits) ℓ) (g : Dev Cert.Stick.nD → PrngReg), Pre_Stick m →
    θ_run (Cert.Stick.defs (F := Bits)) (onTc (τ := Cert.Stick.τ) (Cert.Stick.main (F := Bits))) ⟨m, fun _ => 0, g⟩ (fun r => (∀ c : Dev Cert.Stick.nD,
      r.2.mem ((c.tc : Thread Cert.Stick.nD Cert.Stick.τ).loc Cert.Stick.main_arg0) = m ((c.tc : Thread Cert.Stick.nD Cert.Stick.τ).loc Cert.Stick.main_arg0)
      ∧ r.2.mem ((c.tc : Thread Cert.Stick.nD Cert.Stick.τ).loc Cert.Stick.main_arg1) = m ((c.tc : Thread Cert.Stick.nD Cert.Stick.τ).loc Cert.Stick.main_arg1))
      ∧ r.2.sem = fun _ => 0)

def quiescent_StickIdeal [hStickIdeal : Cert.StickIdeal.Facts] : Prop :=
  ∀ (m : (ℓ : Loc Cert.StickIdeal.nD Cert.StickIdeal.τ Cert.StickIdeal.sig) → Buf (Elt Ideal) ℓ) (g : Dev Cert.StickIdeal.nD → PrngReg), Pre_StickIdeal m →
    θ_run (Cert.StickIdeal.defs (F := Ideal)) (onTc (τ := Cert.StickIdeal.τ) (Cert.StickIdeal.main (F := Ideal))) ⟨m, fun _ => 0, g⟩ (fun r => (∀ c : Dev Cert.StickIdeal.nD,
      r.2.mem ((c.tc : Thread Cert.StickIdeal.nD Cert.StickIdeal.τ).loc Cert.StickIdeal.main_arg0) = m ((c.tc : Thread Cert.StickIdeal.nD Cert.StickIdeal.τ).loc Cert.StickIdeal.main_arg0)
      ∧ r.2.mem ((c.tc : Thread Cert.StickIdeal.nD Cert.StickIdeal.τ).loc Cert.StickIdeal.main_arg1) = m ((c.tc : Thread Cert.StickIdeal.nD Cert.StickIdeal.τ).loc Cert.StickIdeal.main_arg1))
      ∧ r.2.sem = fun _ => 0)

def quiescent_StickIdeal_pre_finite_scores [hStickIdeal : Cert.StickIdeal.Facts] [hPre_finite_scores : Cert.Pre_finite_scores.Facts] : Prop :=
  ∀ (m : (ℓ : Loc Cert.StickIdeal.nD Cert.StickIdeal.τ Cert.StickIdeal.sig) → Buf (Elt Ideal) ℓ) (g : Dev Cert.StickIdeal.nD → PrngReg), Pre_StickIdeal_finite_scores m →
    θ_run (Cert.StickIdeal.defs (F := Ideal)) (onTc (τ := Cert.StickIdeal.τ) (Cert.StickIdeal.main (F := Ideal))) ⟨m, fun _ => 0, g⟩ (fun r => (∀ c : Dev Cert.StickIdeal.nD,
      r.2.mem ((c.tc : Thread Cert.StickIdeal.nD Cert.StickIdeal.τ).loc Cert.StickIdeal.main_arg0) = m ((c.tc : Thread Cert.StickIdeal.nD Cert.StickIdeal.τ).loc Cert.StickIdeal.main_arg0)
      ∧ r.2.mem ((c.tc : Thread Cert.StickIdeal.nD Cert.StickIdeal.τ).loc Cert.StickIdeal.main_arg1) = m ((c.tc : Thread Cert.StickIdeal.nD Cert.StickIdeal.τ).loc Cert.StickIdeal.main_arg1))
      ∧ r.2.sem = fun _ => 0)

def quiescent_StickRefIdeal [hStickRefIdeal : Cert.StickRefIdeal.Facts] : Prop :=
  ∀ (m : (ℓ : Loc Cert.StickRefIdeal.nD Cert.StickRefIdeal.τ Cert.StickRefIdeal.sig) → Buf (Elt Ideal) ℓ) (g : Dev Cert.StickRefIdeal.nD → PrngReg), Pre_StickRefIdeal m →
    θ_run (Cert.StickRefIdeal.defs (F := Ideal)) (onTc (τ := Cert.StickRefIdeal.τ) (Cert.StickRefIdeal.main (F := Ideal))) ⟨m, fun _ => 0, g⟩ (fun r => (∀ c : Dev Cert.StickRefIdeal.nD,
      r.2.mem ((c.tc : Thread Cert.StickRefIdeal.nD Cert.StickRefIdeal.τ).loc Cert.StickRefIdeal.main_arg0) = m ((c.tc : Thread Cert.StickRefIdeal.nD Cert.StickRefIdeal.τ).loc Cert.StickRefIdeal.main_arg0)
      ∧ r.2.mem ((c.tc : Thread Cert.StickRefIdeal.nD Cert.StickRefIdeal.τ).loc Cert.StickRefIdeal.main_arg1) = m ((c.tc : Thread Cert.StickRefIdeal.nD Cert.StickRefIdeal.τ).loc Cert.StickRefIdeal.main_arg1))
      ∧ r.2.sem = fun _ => 0)

def quiescent_StickRefIdeal_pre_finite_scores [hStickRefIdeal : Cert.StickRefIdeal.Facts] [hPre_finite_scores : Cert.Pre_finite_scores.Facts] : Prop :=
  ∀ (m : (ℓ : Loc Cert.StickRefIdeal.nD Cert.StickRefIdeal.τ Cert.StickRefIdeal.sig) → Buf (Elt Ideal) ℓ) (g : Dev Cert.StickRefIdeal.nD → PrngReg), Pre_StickRefIdeal_finite_scores m →
    θ_run (Cert.StickRefIdeal.defs (F := Ideal)) (onTc (τ := Cert.StickRefIdeal.τ) (Cert.StickRefIdeal.main (F := Ideal))) ⟨m, fun _ => 0, g⟩ (fun r => (∀ c : Dev Cert.StickRefIdeal.nD,
      r.2.mem ((c.tc : Thread Cert.StickRefIdeal.nD Cert.StickRefIdeal.τ).loc Cert.StickRefIdeal.main_arg0) = m ((c.tc : Thread Cert.StickRefIdeal.nD Cert.StickRefIdeal.τ).loc Cert.StickRefIdeal.main_arg0)
      ∧ r.2.mem ((c.tc : Thread Cert.StickRefIdeal.nD Cert.StickRefIdeal.τ).loc Cert.StickRefIdeal.main_arg1) = m ((c.tc : Thread Cert.StickRefIdeal.nD Cert.StickRefIdeal.τ).loc Cert.StickRefIdeal.main_arg1))
      ∧ r.2.sem = fun _ => 0)

def preserves_Kernel_KernelIdeal : Prop :=
  True

def preserves_Proj_ProjIdeal : Prop :=
  True

def preserves_Merge_MergeIdeal : Prop :=
  True

def preserves_Ple_PleIdeal : Prop :=
  True

def preserves_Stick_StickIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v54_0)) (v1 : (c : Dev Cert.KernelIdeal.nD) → Buf (Elt Ideal) ((c.tc : Thread Cert.KernelIdeal.nD Cert.KernelIdeal.τ).loc Cert.KernelIdeal.main_v54_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54_0) = v0 c
          ∧ r.2.mem ((c.tc : Thread Cert.KernelIdeal.nD Cert.KernelIdeal.τ).loc Cert.KernelIdeal.main_v54_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v14_4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v11_0)) (v1 : (c : Dev Cert.MergeIdeal.nD) → Buf (Elt Ideal) ((c.tc : Thread Cert.MergeIdeal.nD Cert.MergeIdeal.τ).loc Cert.MergeIdeal.main_v11_1)) (v2 : (c : Dev Cert.MergeIdeal.nD) → Buf (Elt Ideal) ((c.tc : Thread Cert.MergeIdeal.nD Cert.MergeIdeal.τ).loc Cert.MergeIdeal.main_v11_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v11_0) = v0 c
          ∧ r.2.mem ((c.tc : Thread Cert.MergeIdeal.nD Cert.MergeIdeal.τ).loc Cert.MergeIdeal.main_v11_1) = v1 c
          ∧ r.2.mem ((c.tc : Thread Cert.MergeIdeal.nD Cert.MergeIdeal.τ).loc Cert.MergeIdeal.main_v11_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v24) = v0 c
          ∧ r.2.mem ((c.tc : Thread Cert.MergeRefIdeal.nD Cert.MergeRefIdeal.τ).loc Cert.MergeRefIdeal.main_v38) = v1 c
          ∧ r.2.mem ((c.tc : Thread Cert.MergeRefIdeal.nD Cert.MergeRefIdeal.τ).loc Cert.MergeRefIdeal.main_v40) = v2 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)) →
    ∃ (v0 : (c : Dev Cert.PleIdeal.nD) → Buf (Elt Ideal) ((c.tc : Thread Cert.PleIdeal.nD Cert.PleIdeal.τ).loc Cert.PleIdeal.main_v8)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v8) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v27) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4))

def algebraic_ProjIdeal_ProjRefIdeal_pre_finite_normed [hProjIdeal : Cert.ProjIdeal.Facts] [hProjRefIdeal : Cert.ProjRefIdeal.Facts] [hPre_finite_normed : Cert.Pre_finite_normed.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal_finite_normed m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v42_0)) (v1 : (c : Dev Cert.ProjIdeal.nD) → Buf (Elt Ideal) ((c.tc : Thread Cert.ProjIdeal.nD Cert.ProjIdeal.τ).loc Cert.ProjIdeal.main_v42_1)) (v2 : (c : Dev Cert.ProjIdeal.nD) → Buf (Elt Ideal) ((c.tc : Thread Cert.ProjIdeal.nD Cert.ProjIdeal.τ).loc Cert.ProjIdeal.main_v42_2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v42_0) = v0 c
          ∧ r.2.mem ((c.tc : Thread Cert.ProjIdeal.nD Cert.ProjIdeal.τ).loc Cert.ProjIdeal.main_v42_1) = v1 c
          ∧ r.2.mem ((c.tc : Thread Cert.ProjIdeal.nD Cert.ProjIdeal.τ).loc Cert.ProjIdeal.main_v42_2) = v2 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v120) = v0 c
          ∧ r.2.mem ((c.tc : Thread Cert.ProjRefIdeal.nD Cert.ProjRefIdeal.τ).loc Cert.ProjRefIdeal.main_v121) = v1 c
          ∧ r.2.mem ((c.tc : Thread Cert.ProjRefIdeal.nD Cert.ProjRefIdeal.τ).loc Cert.ProjRefIdeal.main_v122) = v2 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def algebraic_StickIdeal_StickRefIdeal_pre_finite_scores [hStickIdeal : Cert.StickIdeal.Facts] [hStickRefIdeal : Cert.StickRefIdeal.Facts] [hPre_finite_scores : Cert.Pre_finite_scores.Facts] : Prop :=
  ∀ (m : (ℓ : Loc Cert.StickIdeal.nD Cert.StickIdeal.τ Cert.StickIdeal.sig) → Buf (Elt Ideal) ℓ) (g : Dev Cert.StickIdeal.nD → PrngReg)
    (m' : (ℓ : Loc Cert.StickRefIdeal.nD Cert.StickRefIdeal.τ Cert.StickRefIdeal.sig) → Buf (Elt Ideal) ℓ) (g' : Dev Cert.StickRefIdeal.nD → PrngReg), Pre_StickIdeal_finite_scores m →
    (∀ c : Dev Cert.StickIdeal.nD,
      m' ((c.tc : Thread Cert.StickRefIdeal.nD Cert.StickRefIdeal.τ).loc Cert.StickRefIdeal.main_arg0) = m ((c.tc : Thread Cert.StickIdeal.nD Cert.StickIdeal.τ).loc Cert.StickIdeal.main_arg0)
      ∧ m' ((c.tc : Thread Cert.StickRefIdeal.nD Cert.StickRefIdeal.τ).loc Cert.StickRefIdeal.main_arg1) = m ((c.tc : Thread Cert.StickIdeal.nD Cert.StickIdeal.τ).loc Cert.StickIdeal.main_arg1)) →
    ∃ (v0 : (c : Dev Cert.StickIdeal.nD) → Buf (Elt Ideal) ((c.tc : Thread Cert.StickIdeal.nD Cert.StickIdeal.τ).loc Cert.StickIdeal.main_v11)),
      θ_run (Cert.StickIdeal.defs (F := Ideal)) (onTc (τ := Cert.StickIdeal.τ) (Cert.StickIdeal.main (F := Ideal))) ⟨m, fun _ => 0, g⟩ (fun r => ∀ c : Dev Cert.StickIdeal.nD,
          r.2.mem ((c.tc : Thread Cert.StickIdeal.nD Cert.StickIdeal.τ).loc Cert.StickIdeal.main_v11) = v0 c
          ∧ r.2.mem ((c.tc : Thread Cert.StickIdeal.nD Cert.StickIdeal.τ).loc Cert.StickIdeal.main_arg0) = m ((c.tc : Thread Cert.StickIdeal.nD Cert.StickIdeal.τ).loc Cert.StickIdeal.main_arg0)
          ∧ r.2.mem ((c.tc : Thread Cert.StickIdeal.nD Cert.StickIdeal.τ).loc Cert.StickIdeal.main_arg1) = m ((c.tc : Thread Cert.StickIdeal.nD Cert.StickIdeal.τ).loc Cert.StickIdeal.main_arg1))
      ∧ θ_run (Cert.StickRefIdeal.defs (F := Ideal)) (onTc (τ := Cert.StickRefIdeal.τ) (Cert.StickRefIdeal.main (F := Ideal))) ⟨m', fun _ => 0, g'⟩ (fun r => ∀ c : Dev Cert.StickRefIdeal.nD,
          r.2.mem ((c.tc : Thread Cert.StickRefIdeal.nD Cert.StickRefIdeal.τ).loc Cert.StickRefIdeal.main_v30) = v0 c
          ∧ r.2.mem ((c.tc : Thread Cert.StickRefIdeal.nD Cert.StickRefIdeal.τ).loc Cert.StickRefIdeal.main_arg0) = m' ((c.tc : Thread Cert.StickRefIdeal.nD Cert.StickRefIdeal.τ).loc Cert.StickRefIdeal.main_arg0)
          ∧ r.2.mem ((c.tc : Thread Cert.StickRefIdeal.nD Cert.StickRefIdeal.τ).loc Cert.StickRefIdeal.main_arg1) = m' ((c.tc : Thread Cert.StickRefIdeal.nD Cert.StickRefIdeal.τ).loc Cert.StickRefIdeal.main_arg1))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hPle : Cert.Ple.Facts) (hPleIdeal : Cert.PleIdeal.Facts) (hPleRefIdeal : Cert.PleRefIdeal.Facts) (hStick : Cert.Stick.Facts) (hStickIdeal : Cert.StickIdeal.Facts) (hStickRefIdeal : Cert.StickRefIdeal.Facts) (hPre_finite_normed : Cert.Pre_finite_normed.Facts) (hPre_finite_scores : Cert.Pre_finite_scores.Facts),
    quiescent_Kernel (hKernel := hKernel)
    ∧ quiescent_KernelIdeal (hKernelIdeal := hKernelIdeal)
    ∧ quiescent_ReferenceIdeal (hReferenceIdeal := hReferenceIdeal)
    ∧ quiescent_Proj (hProj := hProj)
    ∧ quiescent_ProjIdeal (hProjIdeal := hProjIdeal)
    ∧ quiescent_ProjIdeal_pre_finite_normed (hProjIdeal := hProjIdeal) (hPre_finite_normed := hPre_finite_normed)
    ∧ quiescent_ProjRefIdeal (hProjRefIdeal := hProjRefIdeal)
    ∧ quiescent_ProjRefIdeal_pre_finite_normed (hProjRefIdeal := hProjRefIdeal) (hPre_finite_normed := hPre_finite_normed)
    ∧ quiescent_Merge (hMerge := hMerge)
    ∧ quiescent_MergeIdeal (hMergeIdeal := hMergeIdeal)
    ∧ quiescent_MergeRefIdeal (hMergeRefIdeal := hMergeRefIdeal)
    ∧ quiescent_Ple (hPle := hPle)
    ∧ quiescent_PleIdeal (hPleIdeal := hPleIdeal)
    ∧ quiescent_PleRefIdeal (hPleRefIdeal := hPleRefIdeal)
    ∧ quiescent_Stick (hStick := hStick)
    ∧ quiescent_StickIdeal (hStickIdeal := hStickIdeal)
    ∧ quiescent_StickIdeal_pre_finite_scores (hStickIdeal := hStickIdeal) (hPre_finite_scores := hPre_finite_scores)
    ∧ quiescent_StickRefIdeal (hStickRefIdeal := hStickRefIdeal)
    ∧ quiescent_StickRefIdeal_pre_finite_scores (hStickRefIdeal := hStickRefIdeal) (hPre_finite_scores := hPre_finite_scores)
    ∧ preserves_Kernel_KernelIdeal
    ∧ preserves_Proj_ProjIdeal
    ∧ preserves_Merge_MergeIdeal
    ∧ preserves_Ple_PleIdeal
    ∧ preserves_Stick_StickIdeal
    ∧ algebraic_KernelIdeal_ReferenceIdeal (hKernelIdeal := hKernelIdeal) (hReferenceIdeal := hReferenceIdeal)
    ∧ algebraic_MergeIdeal_MergeRefIdeal (hMergeIdeal := hMergeIdeal) (hMergeRefIdeal := hMergeRefIdeal)
    ∧ algebraic_PleIdeal_PleRefIdeal (hPleIdeal := hPleIdeal) (hPleRefIdeal := hPleRefIdeal)
    ∧ algebraic_ProjIdeal_ProjRefIdeal_pre_finite_normed (hProjIdeal := hProjIdeal) (hProjRefIdeal := hProjRefIdeal) (hPre_finite_normed := hPre_finite_normed)
    ∧ algebraic_StickIdeal_StickRefIdeal_pre_finite_scores (hStickIdeal := hStickIdeal) (hStickRefIdeal := hStickRefIdeal) (hPre_finite_scores := hPre_finite_scores)
-- ==== Pre_finite_normed.lean ====
abbrev S16x2048x1024 : Shape := ⟨3, ![16, 2048, 1024]⟩
abbrev S1x1024 : Shape := ⟨2, ![1, 1024]⟩
abbrev S1x1024x6656 : Shape := ⟨3, ![1, 1024, 6656]⟩
abbrev S1x64 : Shape := ⟨2, ![1, 64]⟩
abbrev S_ : Shape := ⟨0, ![]⟩
abbrev S1x1024x1024 : Shape := ⟨3, ![1, 1024, 1024]⟩

class Facts : Prop where
  bcast_S_S1x1024 : S_.BroadcastsInDim S1x1024 (![] : Fin 0 → Fin S1x1024.rank)
  slices_S1x1024x6656_S1x1024x1024_0_0_0 : S1x1024x6656.Slices ![0, 0, 0] S1x1024x1024
  bcast_S_S1x1024x1024 : S_.BroadcastsInDim S1x1024x1024 (![] : Fin 0 → Fin S1x1024x1024.rank)

variable [Facts]

def fn {F : FTy → Type} [FloatOps F] (main_arg0 : FVec F S16x2048x1024 .f32) (main_arg1 : FVec F S1x1024 .f32) (main_arg2 : FVec F S1x1024x6656 .f32) (main_arg3 : FVec F S1x64 .f32) (main_arg4 : FVec F S1x64 .f32) : IVec S1x1024 1 × IVec S1x1024x1024 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S1x1024x1024 .f32 := (extractStridedSlice S1x1024x1024 ![0, 0, 0] · slices_S1x1024x6656_S1x1024x1024_0_0_0) main_arg2
  let main_v4 : FVec F S1x1024x1024 .f32 := Host.absf main_v3
  let main_cst_0 : FVec F S_ .f32 := constant S_ .f32 0x7F800000#32
  let main_v5 : FVec F S1x1024x1024 .f32 := broadcastInDim S1x1024x1024 ![] bcast_S_S1x1024x1024 main_cst_0
  let main_v6 : IVec S1x1024x1024 1 := cmpf .olt main_v4 main_v5
  (main_v2, main_v6)
-- ==== Pre_finite_scores.lean ====
abbrev S32768x6656 : Shape := ⟨2, ![32768, 6656]⟩
abbrev S1x8 : Shape := ⟨2, ![1, 8]⟩
abbrev S32768x1024 : Shape := ⟨2, ![32768, 1024]⟩
abbrev S_ : Shape := ⟨0, ![]⟩

class Facts : Prop where
  slices_S32768x6656_S32768x1024_0_0 : S32768x6656.Slices ![0, 0] S32768x1024
  bcast_S_S32768x1024 : S_.BroadcastsInDim S32768x1024 (![] : Fin 0 → Fin S32768x1024.rank)

variable [Facts]

def fn {F : FTy → Type} [FloatOps F] (main_arg0 : FVec F S32768x6656 .f32) (main_arg1 : FVec F S1x8 .f32) : IVec S32768x1024 1 :=
  let main_v0 : FVec F S32768x1024 .f32 := (extractStridedSlice S32768x1024 ![0, 0] · slices_S32768x6656_S32768x1024_0_0) main_arg0
  let main_v1 : FVec F S32768x1024 .f32 := Host.absf main_v0
  let main_cst : FVec F S_ .f32 := constant S_ .f32 0x7F800000#32
  let main_v2 : FVec F S32768x1024 .f32 := broadcastInDim S32768x1024 ![] bcast_S_S32768x1024 main_cst
  let main_v3 : IVec S32768x1024 1 := cmpf .olt main_v1 main_v2
  main_v3
-- ==== Kernel.lean ====
abbrev S32768x6656 : Shape := ⟨2, ![32768, 6656]⟩
abbrev S1x4x256 : Shape := ⟨3, ![1, 4, 256]⟩
abbrev S4 : Shape := ⟨1, ![4]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S4x256 : Shape := ⟨2, ![4, 256]⟩
abbrev S4x1x256 : Shape := ⟨3, ![4, 1, 256]⟩
abbrev S1x4x128x256 : Shape := ⟨4, ![1, 4, 128, 256]⟩
abbrev S32768x1024 : Shape := ⟨2, ![32768, 1024]⟩
abbrev S16x4x128x256 : Shape := ⟨4, ![16, 4, 128, 256]⟩
abbrev S128x512 : Shape := ⟨2, ![128, 512]⟩
abbrev S128x1024 : Shape := ⟨2, ![128, 1024]⟩
abbrev S4x128x256 : Shape := ⟨3, ![4, 128, 256]⟩
abbrev S8x512 : Shape := ⟨2, ![8, 512]⟩
abbrev S8x1024 : Shape := ⟨2, ![8, 1024]⟩
abbrev S128x256 : Shape := ⟨2, ![128, 256]⟩
abbrev S1x128x256 : Shape := ⟨3, ![1, 128, 256]⟩
abbrev S1x128x1 : Shape := ⟨3, ![1, 128, 1]⟩
abbrev S1x1x1 : Shape := ⟨3, ![1, 1, 1]⟩
abbrev S1x1 : Shape := ⟨2, ![1, 1]⟩
abbrev S1x1x256 : Shape := ⟨3, ![1, 1, 256]⟩
abbrev S1x256 : Shape := ⟨2, ![1, 256]⟩

abbrev nBuf : Space → Nat
  | .hbm => 77
  | .vmem => 26
  | .smem => 0
  | _ => 0

abbrev bufTy : (tb : Table) → Fin (tcTables nBuf tb) → BufTy
  | .hbm, ⟨0, _⟩ => ⟨S32768x6656, .f32⟩
  | .hbm, ⟨1, _⟩ => ⟨S1x4x256, .f32⟩
  | .hbm, ⟨2, _⟩ => ⟨S4, .f32⟩
  | .hbm, ⟨3, _⟩ => ⟨S_, .f32⟩
  | .hbm, ⟨4, _⟩ => ⟨S4, .f32⟩
  | .hbm, ⟨5, _⟩ => ⟨S4, .f32⟩
  | .hbm, ⟨6, _⟩ => ⟨S_, .f32⟩
  | .hbm, ⟨7, _⟩ => ⟨S4, .f32⟩
  | .hbm, ⟨8, _⟩ => ⟨S4, .f32⟩
  | .hbm, ⟨9, _⟩ => ⟨S4, .f32⟩
  | .hbm, ⟨10, _⟩ => ⟨S4, .f32⟩
  | .hbm, ⟨11, _⟩ => ⟨S4, .f32⟩
  | .hbm, ⟨12, _⟩ => ⟨S128, .f32⟩
  | .hbm, ⟨13, _⟩ => ⟨S128x1, .f32⟩
  | .hbm, ⟨14, _⟩ => ⟨S1x128, .f32⟩
  | .hbm, ⟨15, _⟩ => ⟨S128x128, .f32⟩
  | .hbm, ⟨16, _⟩ => ⟨S128x128, .f32⟩
  | .hbm, ⟨17, _⟩ => ⟨S128x128, .f32⟩
  | .hbm, ⟨18, _⟩ => ⟨S_, .f32⟩
  | .hbm, ⟨19, _⟩ => ⟨S128x128, .f32⟩
  | .hbm, ⟨20, _⟩ => ⟨S128x128, .i1⟩
  | .hbm, ⟨21, _⟩ => ⟨S1x128x128, .i1⟩
  | .hbm, ⟨22, _⟩ => ⟨S_, .f32⟩
  | .hbm, ⟨23, _⟩ => ⟨S_, .f32⟩
  | .hbm, ⟨24, _⟩ => ⟨S128x128, .f32⟩
  | .hbm, ⟨25, _⟩ => ⟨S128x128, .f32⟩
  | .hbm, ⟨26, _⟩ => ⟨S1x128x128, .f32⟩
  | .hbm, ⟨27, _⟩ => ⟨S4x1x1, .f32⟩
  | .hbm, ⟨28, _⟩ => ⟨S4x128x128, .f32⟩
  | .hbm, ⟨29, _⟩ => ⟨S4x128x128, .f32⟩
  | .hbm, ⟨30, _⟩ => ⟨S4x128x128, .f32⟩
  | .hbm, ⟨31, _⟩ => ⟨S4x128x128, .f32⟩
  | .hbm, ⟨32, _⟩ => ⟨S_, .f32⟩
  | .hbm, ⟨33, _⟩ => ⟨S_, .f32⟩
  | .hbm, ⟨34, _⟩ => ⟨S4x128x128, .i1⟩
  | .hbm, ⟨35, _⟩ => ⟨S4x128x128, .f32⟩
  | .hbm, ⟨36, _⟩ => ⟨S4x128x128, .f32⟩
  | .hbm, ⟨37, _⟩ => ⟨S1x128, .f32⟩
  | .hbm, ⟨38, _⟩ => ⟨S_, .f32⟩
  | .hbm, ⟨39, _⟩ => ⟨S1x128, .f32⟩
  | .hbm, ⟨40, _⟩ => ⟨S1x128, .f32⟩
  | .hbm, ⟨41, _⟩ => ⟨S4x1, .f32⟩
  | .hbm, ⟨42, _⟩ => ⟨S4x128, .f32⟩
  | .hbm, ⟨43, _⟩ => ⟨S4x128, .f32⟩
  | .hbm, ⟨44, _⟩ => ⟨S4x128, .f32⟩
  | .hbm, ⟨45, _⟩ => ⟨S4x128, .f32⟩
  | .hbm, ⟨46, _⟩ => ⟨S_, .f32⟩
  | .hbm, ⟨47, _⟩ => ⟨S128, .f32⟩
  | .hbm, ⟨48, _⟩ => ⟨S128, .f32⟩
  | .hbm, ⟨49, _⟩ => ⟨S1x128, .f32⟩
  | .hbm, ⟨50, _⟩ => ⟨S4x1, .f32⟩
  | .hbm, ⟨51, _⟩ => ⟨S4x128, .f32⟩
  | .hbm, ⟨52, _⟩ => ⟨S4x128, .f32⟩
  | .hbm, ⟨53, _⟩ => ⟨S4x128, .f32⟩
  | .hbm, ⟨54, _⟩ => ⟨S4x128, .f32⟩
  | .hbm, ⟨55, _⟩ => ⟨S1x128, .f32⟩
  | .hbm, ⟨56, _⟩ => ⟨S_, .f32⟩
  | .hbm, ⟨57, _⟩ => ⟨S1x128, .f32⟩
  | .hbm, ⟨58, _⟩ => ⟨S1x128, .i1⟩
  | .hbm, ⟨59, _⟩ => ⟨S_, .f32⟩
  | .hbm, ⟨60, _⟩ => ⟨S_, .f32⟩
  | .hbm, ⟨61, _⟩ => ⟨S4x128, .i1⟩
  | .hbm, ⟨62, _⟩ => ⟨S4x128, .f32⟩
  | .hbm, ⟨63, _⟩ => ⟨S4x128, .f32⟩
  | .hbm, ⟨64, _⟩ => ⟨S_, .f32⟩
  | .hbm, ⟨65, _⟩ => ⟨S4, .f32⟩
  | .hbm, ⟨66, _⟩ => ⟨S4, .f32⟩
  | .hbm, ⟨67, _⟩ => ⟨S4, .f32⟩
  | .hbm, ⟨68, _⟩ => ⟨S4x128x1, .f32⟩
  | .hbm, ⟨69, _⟩ => ⟨S4x128x1, .f32⟩
  | .hbm, ⟨70, _⟩ => ⟨S4x1x1, .f32⟩
  | .hbm, ⟨71, _⟩ => ⟨S4x256, .f32⟩
  | .hbm, ⟨72, _⟩ => ⟨S4x1x256, .f32⟩
  | .hbm, ⟨73, _⟩ => ⟨S_, .f32⟩
  | .hbm, ⟨74, _⟩ => ⟨S1x4x128x256, .f32⟩
  | .hbm, ⟨75, _⟩ => ⟨S32768x1024, .f32⟩
  | .hbm, ⟨76, _⟩ => ⟨S16x4x128x256, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S1x4x128x256, .f32⟩
  | .local _ .vmem, ⟨13, _⟩ => ⟨S4x128x128, .f32⟩
  | .local _ .vmem, ⟨14, _⟩ => ⟨S4x128x1, .f32⟩
  | .local _ .vmem, ⟨15, _⟩ => ⟨S4x128x1, .f32⟩
  | .local _ .vmem, ⟨16, _⟩ => ⟨S4x1x1, .f32⟩
  | .local _ .vmem, ⟨17, _⟩ => ⟨S4x1x256, .f32⟩
  | .local _ .vmem, ⟨18, _⟩ => ⟨S128x1024, .f32⟩
  | .local _ .vmem, ⟨19, _⟩ => ⟨S128x1024, .f32⟩
  | .local _ .vmem, ⟨20, _⟩ => ⟨S1x4x128x256, .f32⟩
  | .local _ .vmem, ⟨21, _⟩ => ⟨S1x4x128x256, .f32⟩
  | .local _ .vmem, ⟨22, _⟩ => ⟨S4x128x256, .f32⟩
  | .local _ .vmem, ⟨23, _⟩ => ⟨S8x512, .f32⟩
  | .local _ .vmem, ⟨24, _⟩ => ⟨S8x512, .f32⟩
  | .local _ .vmem, ⟨25, _⟩ => ⟨S8x1024, .f32⟩
  | _, _ => ⟨S32768x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_9 : Ref sig .tc := ⟨.hbm, 73, rfl⟩
abbrev main_v53 : Ref sig .tc := ⟨.hbm, 74, rfl⟩
abbrev main_v54_0 : Ref sig .tc := ⟨.hbm, 75, rfl⟩
abbrev main_v54_1 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v231 : BitVec 1 := Scalar.cmpi .eq arg1 c15_i32
  let v232 : BitVec 32 := Scalar.extui v231
  let c0_i32_125 : BitVec 32 := 0#32
  let v233 : BitVec 1 := Scalar.cmpi .ne v232 c0_i32_125
  v233

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c3_i32 : BitVec 32 := 3#32
  let c0_i32 : BitVec 32 := 0#32
  ![v1.toNat, c3_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let c0_i32 : BitVec 32 := 0#32
  ![v1.toNat, c4_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c5_i32 : BitVec 32 := 5#32
  let c0_i32 : BitVec 32 := 0#32
  ![v1.toNat, c5_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c6_i32 : BitVec 32 := 6#32
  let c0_i32 : BitVec 32 := 0#32
  ![v1.toNat, c6_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c7_i32 : BitVec 32 := 7#32
  let c0_i32 : BitVec 32 := 0#32
  ![v1.toNat, c7_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c8_i32 : BitVec 32 := 8#32
  let c0_i32 : BitVec 32 := 0#32
  ![v1.toNat, c8_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x4x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4x1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4x1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S128x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4x128x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ReferenceIdeal.lean ====
abbrev S32768x6656 : Shape := ⟨2, ![32768, 6656]⟩
abbrev S1x4x256 : Shape := ⟨3, ![1, 4, 256]⟩
abbrev S32768x512 : Shape := ⟨2, ![32768, 512]⟩
abbrev S16x2048x4x128 : Shape := ⟨4, ![16, 2048, 4, 128]⟩
abbrev S32768x1024 : Shape := ⟨2, ![32768, 1024]⟩
abbrev S16x2048x4x256 : Shape := ⟨4, ![16, 2048, 4, 256]⟩
abbrev S_ : Shape := ⟨0, ![]⟩
abbrev S16x4x128x256 : Shape := ⟨4, ![16, 4, 128, 256]⟩
abbrev S16x16x128x4x128 : Shape := ⟨5, ![16, 16, 128, 4, 128]⟩
abbrev S16x16x128x4x256 : Shape := ⟨5, ![16, 16, 128, 4, 256]⟩
abbrev S1x16x128x4x128 : Shape := ⟨5, ![1, 16, 128, 4, 128]⟩
abbrev S16x128x4x128 : Shape := ⟨4, ![16, 128, 4, 128]⟩
abbrev S1x16x128x4x256 : Shape := ⟨5, ![1, 16, 128, 4, 256]⟩
abbrev S16x128x4x256 : Shape := ⟨4, ![16, 128, 4, 256]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S16x4x128x128 : Shape := ⟨4, ![16, 4, 128, 128]⟩
abbrev S1x4x128x128 : Shape := ⟨4, ![1, 4, 128, 128]⟩
abbrev S16x4x256x128 : Shape := ⟨4, ![16, 4, 256, 128]⟩
abbrev S1x4 : Shape := ⟨2, ![1, 4]⟩
abbrev S128x4 : Shape := ⟨2, ![128, 4]⟩
abbrev S1x128x4x1 : Shape := ⟨4, ![1, 128, 4, 1]⟩
abbrev S1x4x1x1 : Shape := ⟨4, ![1, 4, 1, 1]⟩
abbrev S4x256 : Shape := ⟨2, ![4, 256]⟩
abbrev S16x2048x4 : Shape := ⟨3, ![16, 2048, 4]⟩
abbrev S16x2048x4x1 : Shape := ⟨4, ![16, 2048, 4, 1]⟩
abbrev S1x1x4x256 : Shape := ⟨4, ![1, 1, 4, 256]⟩

abbrev nBuf : Space → Nat
  | .hbm => 162
  | .vmem => 0
  | .smem => 0
  | _ => 0

abbrev hbmTy0_0 (i : Nat) : BufTy := match i % 128 with
  | 0 => ⟨S32768x6656, .f32⟩
  | 1 => ⟨S1x4x256, .f32⟩
  | 2 => ⟨S32768x512, .f32⟩
  | 3 => ⟨S16x2048x4x128, .f32⟩
  | 4 => ⟨S32768x512, .f32⟩
  | 5 => ⟨S16x2048x4x128, .f32⟩
  | 6 => ⟨S32768x1024, .f32⟩
  | 7 => ⟨S16x2048x4x256, .f32⟩
  | 8 => ⟨S_, .f32⟩
  | 9 => ⟨S16x4x128x256, .f32⟩
  | 10 => ⟨S16x16x128x4x128, .f32⟩
  | 11 => ⟨S16x16x128x4x128, .f32⟩
  | 12 => ⟨S16x16x128x4x128, .f32⟩
  | 13 => ⟨S16x16x128x4x128, .f32⟩
  | 14 => ⟨S16x16x128x4x256, .f32⟩
  | 15 => ⟨S16x16x128x4x256, .f32⟩
  | 16 => ⟨S_, .f32⟩
  | 17 => ⟨S16x16x128x4x256, .f32⟩
  | 18 => ⟨S_, .i32⟩
  | 19 => ⟨S16x16x128x4x128, .f32⟩
  | 20 => ⟨S16x16x128x4x128, .f32⟩
  | 21 => ⟨S16x16x128x4x256, .f32⟩
  | 22 => ⟨S_, .i32⟩
  | 23 => ⟨S16x4x128x256, .f32⟩
  | 24 => ⟨S16x16x128x4x256, .f32⟩
  | 25 => ⟨S_, .i32⟩
  | 26 => ⟨S_, .i1⟩
  | 27 => ⟨S_, .i32⟩
  | 28 => ⟨S_, .i32⟩
  | 29 => ⟨S_, .i32⟩
  | 30 => ⟨S_, .i32⟩
  | 31 => ⟨S1x16x128x4x128, .f32⟩
  | 32 => ⟨S16x128x4x128, .f32⟩
  | 33 => ⟨S_, .i32⟩
  | 34 => ⟨S_, .i32⟩
  | 35 => ⟨S_, .i32⟩
  | 36 => ⟨S_, .i32⟩
  | 37 => ⟨S1x16x128x4x128, .f32⟩
  | 38 => ⟨S16x128x4x128, .f32⟩
  | 39 => ⟨S_, .i32⟩
  | 40 => ⟨S_, .i32⟩
  | 41 => ⟨S_, .i32⟩
  | 42 => ⟨S_, .i32⟩
  | 43 => ⟨S1x16x128x4x256, .f32⟩
  | 44 => ⟨S16x128x4x256, .f32⟩
  | 45 => ⟨S4, .f32⟩
  | 46 => ⟨S_, .f32⟩
  | 47 => ⟨S4, .f32⟩
  | 48 => ⟨S4, .f32⟩
  | 49 => ⟨S_, .f32⟩
  | 50 => ⟨S4, .f32⟩
  | 51 => ⟨S4, .f32⟩
  | 52 => ⟨S4, .f32⟩
  | 53 => ⟨S4, .f32⟩
  | 54 => ⟨S4, .f32⟩
  | 55 => ⟨S128, .f32⟩
  | 56 => ⟨S128x1, .f32⟩
  | 57 => ⟨S1x128, .f32⟩
  | 58 => ⟨S128x128, .f32⟩
  | 59 => ⟨S128x128, .f32⟩
  | 60 => ⟨S128x128, .f32⟩
  | 61 => ⟨S_, .f32⟩
  | 62 => ⟨S128x128, .f32⟩
  | 63 => ⟨S128x128, .i1⟩
  | 64 => ⟨S1x128x128, .i1⟩
  | 65 => ⟨S_, .f32⟩
  | 66 => ⟨S_, .f32⟩
  | 67 => ⟨S128x128, .f32⟩
  | 68 => ⟨S128x128, .f32⟩
  | 69 => ⟨S1x128x128, .f32⟩
  | 70 => ⟨S4x1x1, .f32⟩
  | 71 => ⟨S4x128x128, .f32⟩
  | 72 => ⟨S4x128x128, .f32⟩
  | 73 => ⟨S4x128x128, .f32⟩
  | 74 => ⟨S4x128x128, .f32⟩
  | 75 => ⟨S_, .f32⟩
  | 76 => ⟨S_, .f32⟩
  | 77 => ⟨S4x128x128, .i1⟩
  | 78 => ⟨S4x128x128, .f32⟩
  | 79 => ⟨S4x128x128, .f32⟩
  | 80 => ⟨S16x4x128x128, .f32⟩
  | 81 => ⟨S1x4x128x128, .f32⟩
  | 82 => ⟨S16x4x128x128, .f32⟩
  | 83 => ⟨S16x4x128x128, .f32⟩
  | 84 => ⟨S16x4x256x128, .f32⟩
  | 85 => ⟨S16x128x4x256, .f32⟩
  | 86 => ⟨S128x1, .f32⟩
  | 87 => ⟨S_, .f32⟩
  | 88 => ⟨S128x1, .f32⟩
  | 89 => ⟨S128x1, .f32⟩
  | 90 => ⟨S1x4, .f32⟩
  | 91 => ⟨S128x4, .f32⟩
  | 92 => ⟨S128x4, .f32⟩
  | 93 => ⟨S128x4, .f32⟩
  | 94 => ⟨S128x4, .f32⟩
  | 95 => ⟨S16x4x256x128, .f32⟩
  | 96 => ⟨S16x128x4x256, .f32⟩
  | 97 => ⟨S1x128x4x1, .f32⟩
  | 98 => ⟨S16x128x4x256, .f32⟩
  | 99 => ⟨S16x128x4x256, .f32⟩
  | 100 => ⟨S_, .f32⟩
  | 101 => ⟨S128, .f32⟩
  | 102 => ⟨S128, .f32⟩
  | 103 => ⟨S128x1, .f32⟩
  | 104 => ⟨S1x4, .f32⟩
  | 105 => ⟨S128x4, .f32⟩
  | 106 => ⟨S128x4, .f32⟩
  | 107 => ⟨S128x4, .f32⟩
  | 108 => ⟨S128x4, .f32⟩
  | 109 => ⟨S_, .f32⟩
  | 110 => ⟨S4, .f32⟩
  | 111 => ⟨S4, .f32⟩
  | 112 => ⟨S4, .f32⟩
  | 113 => ⟨S1x4x1x1, .f32⟩
  | 114 => ⟨S16x4x128x256, .f32⟩
  | 115 => ⟨S16x4x128x256, .f32⟩
  | 116 => ⟨S1x128x4x1, .f32⟩
  | 117 => ⟨S16x128x4x128, .f32⟩
  | 118 => ⟨S16x128x4x128, .f32⟩
  | 119 => ⟨S16x4x128x256, .f32⟩
  | 120 => ⟨S16x4x128x256, .f32⟩
  | 121 => ⟨S16x128x4x256, .f32⟩
  | 122 => ⟨S1x16x128x4x256, .f32⟩
  | 123 => ⟨S_, .i32⟩
  | 124 => ⟨S_, .i32⟩
  | 125 => ⟨S_, .i32⟩
  | 126 => ⟨S_, .i32⟩
  | 127 => ⟨S16x16x128x4x256, .f32⟩
  | _ => ⟨S32768x6656, .f32⟩

abbrev hbmTy0_1 (i : Nat) : BufTy := match i % 128 with
  | 0 => ⟨S_, .i32⟩
  | 1 => ⟨S_, .i32⟩
  | 2 => ⟨S16x16x128x4x256, .f32⟩
  | 3 => ⟨S16x2048x4x256, .f32⟩
  | 4 => ⟨S32768x1024, .f32⟩
  | 5 => ⟨S16x2048x4x256, .f32⟩
  | 6 => ⟨S4x256, .f32⟩
  | 7 => ⟨S16x2048x4x256, .f32⟩
  | 8 => ⟨S_, .f32⟩
  | 9 => ⟨S16x2048x4, .f32⟩
  | 10 => ⟨S16x2048x4x1, .f32⟩
  | 11 => ⟨S_, .f32⟩
  | 12 => ⟨S16x2048x4x1, .f32⟩
  | 13 => ⟨S16x2048x4x1, .f32⟩
  | 14 => ⟨S_, .f32⟩
  | 15 => ⟨S16x2048x4x1, .f32⟩
  | 16 => ⟨S16x2048x4x1, .f32⟩
  | 17 => ⟨S16x2048x4x1, .f32⟩
  | 18 => ⟨S16x2048x4x256, .f32⟩
  | 19 => ⟨S16x2048x4x256, .f32⟩
  | 20 => ⟨S1x1x4x256, .f32⟩
  | 21 => ⟨S16x2048x4x256, .f32⟩
  | 22 => ⟨S16x2048x4x256, .f32⟩
  | 23 => ⟨S16x2048x4x256, .f32⟩
  | 24 => ⟨S16x2048x4x256, .f32⟩
  | 25 => ⟨S_, .f32⟩
  | 26 => ⟨S16x2048x4x256, .f32⟩
  | 27 => ⟨S16x2048x4x256, .f32⟩
  | 28 => ⟨S_, .f32⟩
  | 29 => ⟨S16x2048x4x256, .f32⟩
  | 30 => ⟨S16x2048x4x256, .f32⟩
  | 31 => ⟨S16x2048x4x256, .f32⟩
  | 32 => ⟨S16x2048x4x256, .f32⟩
  | 33 => ⟨S32768x1024, .f32⟩
  | _ => ⟨S32768x6656, .f32⟩

abbrev hbmTy (i : Nat) : BufTy := match i / 128 with
  | 0 => hbmTy0_0 i
  | 1 => hbmTy0_1 i
  | _ => ⟨S32768x6656, .f32⟩

abbrev bufTy : (tb : Table) → Fin (tcTables nBuf tb) → BufTy
  | .hbm, ⟨i, _⟩ => hbmTy i
  | _, _ => ⟨S32768x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_c : Ref sig .tc := ⟨.hbm, 18, rfl⟩
abbrev main_v14_0 : Ref sig .tc := ⟨.hbm, 19, rfl⟩
abbrev main_v14_1 : Ref sig .tc := ⟨.hbm, 20, rfl⟩
abbrev main_v14_2 : Ref sig .tc := ⟨.hbm, 21, rfl⟩
abbrev main_v14_3 : Ref sig .tc := ⟨.hbm, 22, rfl⟩
abbrev main_v14_4 : Ref sig .tc := ⟨.hbm, 23, rfl⟩
abbrev main_v14_5 : Ref sig .tc := ⟨.hbm, 24, rfl⟩
abbrev main_while0c_c_9 : Ref sig .tc := ⟨.hbm, 25, rfl⟩
abbrev main_while0c_v36 : Ref sig .tc := ⟨.hbm, 26, rfl⟩
abbrev main_while0b_call0_c : Ref sig .tc := ⟨.hbm, 27, rfl⟩
abbrev main_while0b_call0_c_0 : Ref sig .tc := ⟨.hbm, 28, rfl⟩
abbrev main_while0b_call0_c_1 : Ref sig .tc := ⟨.hbm, 29, rfl⟩
abbrev main_while0b_call0_c_2 : Ref sig .tc := ⟨.hbm, 30, rfl⟩
abbrev main_while0b_call0_v0 : Ref sig .tc := ⟨.hbm, 31, rfl⟩
abbrev main_while0b_v36 : Ref sig .tc := ⟨.hbm, 32, rfl⟩
abbrev main_while0b_call1_c : Ref sig .tc := ⟨.hbm, 33, rfl⟩
abbrev main_while0b_call1_c_0 : Ref sig .tc := ⟨.hbm, 34, rfl⟩
abbrev main_while0b_call1_c_1 : Ref sig .tc := ⟨.hbm, 35, rfl⟩
abbrev main_while0b_call1_c_2 : Ref sig .tc := ⟨.hbm, 36, rfl⟩
abbrev main_while0b_call1_v0 : Ref sig .tc := ⟨.hbm, 37, rfl⟩
abbrev main_while0b_v37 : Ref sig .tc := ⟨.hbm, 38, rfl⟩
abbrev main_while0b_call2_c : Ref sig .tc := ⟨.hbm, 39, rfl⟩
abbrev main_while0b_call2_c_0 : Ref sig .tc := ⟨.hbm, 40, rfl⟩
abbrev main_while0b_call2_c_1 : Ref sig .tc := ⟨.hbm, 41, rfl⟩
abbrev main_while0b_call2_c_2 : Ref sig .tc := ⟨.hbm, 42, rfl⟩
abbrev main_while0b_call2_v0 : Ref sig .tc := ⟨.hbm, 43, rfl⟩
abbrev main_while0b_v38 : Ref sig .tc := ⟨.hbm, 44, rfl⟩
abbrev main_while0b_v39 : Ref sig .tc := ⟨.hbm, 45, rfl⟩
abbrev main_while0b_cst_9 : Ref sig .tc := ⟨.hbm, 46, rfl⟩
abbrev main_while0b_v40 : Ref sig .tc := ⟨.hbm, 47, rfl⟩
abbrev main_while0b_v41 : Ref sig .tc := ⟨.hbm, 48, rfl⟩
abbrev main_while0b_cst_10 : Ref sig .tc := ⟨.hbm, 49, rfl⟩
abbrev main_while0b_v42 : Ref sig .tc := ⟨.hbm, 50, rfl⟩
abbrev main_while0b_v43 : Ref sig .tc := ⟨.hbm, 51, rfl⟩
abbrev main_while0b_v44 : Ref sig .tc := ⟨.hbm, 52, rfl⟩
abbrev main_while0b_v45 : Ref sig .tc := ⟨.hbm, 53, rfl⟩
abbrev main_while0b_v46 : Ref sig .tc := ⟨.hbm, 54, rfl⟩
abbrev main_while0b_v47 : Ref sig .tc := ⟨.hbm, 55, rfl⟩
abbrev main_while0b_v48 : Ref sig .tc := ⟨.hbm, 56, rfl⟩
abbrev main_while0b_v49 : Ref sig .tc := ⟨.hbm, 57, rfl⟩
abbrev main_while0b_v50 : Ref sig .tc := ⟨.hbm, 58, rfl⟩
abbrev main_while0b_v51 : Ref sig .tc := ⟨.hbm, 59, rfl⟩
abbrev main_while0b_v52 : Ref sig .tc := ⟨.hbm, 60, rfl⟩
abbrev main_while0b_cst_11 : Ref sig .tc := ⟨.hbm, 61, rfl⟩
abbrev main_while0b_v53 : Ref sig .tc := ⟨.hbm, 62, rfl⟩
abbrev main_while0b_v54 : Ref sig .tc := ⟨.hbm, 63, rfl⟩
abbrev main_while0b_v55 : Ref sig .tc := ⟨.hbm, 64, rfl⟩
abbrev main_while0b_cst_12 : Ref sig .tc := ⟨.hbm, 65, rfl⟩
abbrev main_while0b_call3_v0 : Ref sig .tc := ⟨.hbm, 66, rfl⟩
abbrev main_while0b_call3_v1 : Ref sig .tc := ⟨.hbm, 67, rfl⟩
abbrev main_while0b_v56 : Ref sig .tc := ⟨.hbm, 68, rfl⟩
abbrev main_while0b_v57 : Ref sig .tc := ⟨.hbm, 69, rfl⟩
abbrev main_while0b_v58 : Ref sig .tc := ⟨.hbm, 70, rfl⟩
abbrev main_while0b_v59 : Ref sig .tc := ⟨.hbm, 71, rfl⟩
abbrev main_while0b_v60 : Ref sig .tc := ⟨.hbm, 72, rfl⟩
abbrev main_while0b_v61 : Ref sig .tc := ⟨.hbm, 73, rfl⟩
abbrev main_while0b_v62 : Ref sig .tc := ⟨.hbm, 74, rfl⟩
abbrev main_while0b_cst_13 : Ref sig .tc := ⟨.hbm, 75, rfl⟩
abbrev main_while0b_call4_v0 : Ref sig .tc := ⟨.hbm, 76, rfl⟩
abbrev main_while0b_call4_v1 : Ref sig .tc := ⟨.hbm, 77, rfl⟩
abbrev main_while0b_call4_v2 : Ref sig .tc := ⟨.hbm, 78, rfl⟩
abbrev main_while0b_v63 : Ref sig .tc := ⟨.hbm, 79, rfl⟩
abbrev main_while0b_v64 : Ref sig .tc := ⟨.hbm, 80, rfl⟩
abbrev main_while0b_v65 : Ref sig .tc := ⟨.hbm, 81, rfl⟩
abbrev main_while0b_v66 : Ref sig .tc := ⟨.hbm, 82, rfl⟩
abbrev main_while0b_v67 : Ref sig .tc := ⟨.hbm, 83, rfl⟩
abbrev main_while0b_v68 : Ref sig .tc := ⟨.hbm, 84, rfl⟩
abbrev main_while0b_v69 : Ref sig .tc := ⟨.hbm, 85, rfl⟩
abbrev main_while0b_v70 : Ref sig .tc := ⟨.hbm, 86, rfl⟩
abbrev main_while0b_cst_14 : Ref sig .tc := ⟨.hbm, 87, rfl⟩
abbrev main_while0b_v71 : Ref sig .tc := ⟨.hbm, 88, rfl⟩
abbrev main_while0b_v72 : Ref sig .tc := ⟨.hbm, 89, rfl⟩
abbrev main_while0b_v73 : Ref sig .tc := ⟨.hbm, 90, rfl⟩
abbrev main_while0b_v74 : Ref sig .tc := ⟨.hbm, 91, rfl⟩
abbrev main_while0b_v75 : Ref sig .tc := ⟨.hbm, 92, rfl⟩
abbrev main_while0b_v76 : Ref sig .tc := ⟨.hbm, 93, rfl⟩
abbrev main_while0b_v77 : Ref sig .tc := ⟨.hbm, 94, rfl⟩
abbrev main_while0b_v78 : Ref sig .tc := ⟨.hbm, 95, rfl⟩
abbrev main_while0b_v79 : Ref sig .tc := ⟨.hbm, 96, rfl⟩
abbrev main_while0b_v80 : Ref sig .tc := ⟨.hbm, 97, rfl⟩
abbrev main_while0b_v81 : Ref sig .tc := ⟨.hbm, 98, rfl⟩
abbrev main_while0b_v82 : Ref sig .tc := ⟨.hbm, 99, rfl⟩
abbrev main_while0b_cst_15 : Ref sig .tc := ⟨.hbm, 100, rfl⟩
abbrev main_while0b_v83 : Ref sig .tc := ⟨.hbm, 101, rfl⟩
abbrev main_while0b_v84 : Ref sig .tc := ⟨.hbm, 102, rfl⟩
abbrev main_while0b_v85 : Ref sig .tc := ⟨.hbm, 103, rfl⟩
abbrev main_while0b_v86 : Ref sig .tc := ⟨.hbm, 104, rfl⟩
abbrev main_while0b_v87 : Ref sig .tc := ⟨.hbm, 105, rfl⟩
abbrev main_while0b_v88 : Ref sig .tc := ⟨.hbm, 106, rfl⟩
abbrev main_while0b_v89 : Ref sig .tc := ⟨.hbm, 107, rfl⟩
abbrev main_while0b_v90 : Ref sig .tc := ⟨.hbm, 108, rfl⟩
abbrev main_while0b_cst_16 : Ref sig .tc := ⟨.hbm, 109, rfl⟩
abbrev main_while0b_v91 : Ref sig .tc := ⟨.hbm, 110, rfl⟩
abbrev main_while0b_v92 : Ref sig .tc := ⟨.hbm, 111, rfl⟩
abbrev main_while0b_v93 : Ref sig .tc := ⟨.hbm, 112, rfl⟩
abbrev main_while0b_v94 : Ref sig .tc := ⟨.hbm, 113, rfl⟩
abbrev main_while0b_v95 : Ref sig .tc := ⟨.hbm, 114, rfl⟩
abbrev main_while0b_v96 : Ref sig .tc := ⟨.hbm, 115, rfl⟩
abbrev main_while0b_v97 : Ref sig .tc := ⟨.hbm, 116, rfl⟩
abbrev main_while0b_v98 : Ref sig .tc := ⟨.hbm, 117, rfl⟩
abbrev main_while0b_v99 : Ref sig .tc := ⟨.hbm, 118, rfl⟩
abbrev main_while0b_v100 : Ref sig .tc := ⟨.hbm, 119, rfl⟩
abbrev main_while0b_v101 : Ref sig .tc := ⟨.hbm, 120, rfl⟩
abbrev main_while0b_v102 : Ref sig .tc := ⟨.hbm, 121, rfl⟩
abbrev main_while0b_call5_v0 : Ref sig .tc := ⟨.hbm, 122, rfl⟩
abbrev main_while0b_call5_c : Ref sig .tc := ⟨.hbm, 123, rfl⟩
abbrev main_while0b_call5_c_0 : Ref sig .tc := ⟨.hbm, 124, rfl⟩
abbrev main_while0b_call5_c_1 : Ref sig .tc := ⟨.hbm, 125, rfl⟩
abbrev main_while0b_call5_c_2 : Ref sig .tc := ⟨.hbm, 126, rfl⟩
abbrev main_while0b_v103 : Ref sig .tc := ⟨.hbm, 127, rfl⟩
abbrev main_while0b_c_17 : Ref sig .tc := ⟨.hbm, 128, rfl⟩
abbrev main_while0b_v104 : Ref sig .tc := ⟨.hbm, 129, rfl⟩
abbrev main_v15 : Ref sig .tc := ⟨.hbm, 130, rfl⟩
abbrev main_v16 : Ref sig .tc := ⟨.hbm, 131, rfl⟩
abbrev main_v17 : Ref sig .tc := ⟨.hbm, 132, rfl⟩
abbrev main_v18 : Ref sig .tc := ⟨.hbm, 133, rfl⟩
abbrev main_v19 : Ref sig .tc := ⟨.hbm, 134, rfl⟩
abbrev main_v20 : Ref sig .tc := ⟨.hbm, 135, rfl⟩
abbrev main_cst_1 : Ref sig .tc := ⟨.hbm, 136, rfl⟩
abbrev main_v21 : Ref sig .tc := ⟨.hbm, 137, rfl⟩
abbrev main_v22 : Ref sig .tc := ⟨.hbm, 138, rfl⟩
abbrev main_cst_2 : Ref sig .tc := ⟨.hbm, 139, rfl⟩
abbrev main_v23 : Ref sig .tc := ⟨.hbm, 140, rfl⟩
abbrev main_v24 : Ref sig .tc := ⟨.hbm, 141, rfl⟩
abbrev main_cst_3 : Ref sig .tc := ⟨.hbm, 142, rfl⟩
abbrev main_v25 : Ref sig .tc := ⟨.hbm, 143, rfl⟩
abbrev main_v26 : Ref sig .tc := ⟨.hbm, 144, rfl⟩
abbrev main_v27 : Ref sig .tc := ⟨.hbm, 145, rfl⟩
abbrev main_v28 : Ref sig .tc := ⟨.hbm, 146, rfl⟩
abbrev main_v29 : Ref sig .tc := ⟨.hbm, 147, rfl⟩
abbrev main_v30 : Ref sig .tc := ⟨.hbm, 148, rfl⟩
abbrev main_v31 : Ref sig .tc := ⟨.hbm, 149, rfl⟩
abbrev main_v32 : Ref sig .tc := ⟨.hbm, 150, rfl⟩
abbrev main_call6_v0 : Ref sig .tc := ⟨.hbm, 151, rfl⟩
abbrev main_call6_v1 : Ref sig .tc := ⟨.hbm, 152, rfl⟩
abbrev main_call6_cst : Ref sig .tc := ⟨.hbm, 153, rfl⟩
abbrev main_call6_v2 : Ref sig .tc := ⟨.hbm, 154, rfl⟩
abbrev main_call6_v3 : Ref sig .tc := ⟨.hbm, 155, rfl⟩
abbrev main_call6_cst_0 : Ref sig .tc := ⟨.hbm, 156, rfl⟩
abbrev main_call6_v4 : Ref sig .tc := ⟨.hbm, 157, rfl⟩
abbrev main_call6_v5 : Ref sig .tc := ⟨.hbm, 158, rfl⟩
abbrev main_v33 : Ref sig .tc := ⟨.hbm, 159, rfl⟩
abbrev main_v34 : Ref sig .tc := ⟨.hbm, 160, rfl⟩
abbrev main_v35 : Ref sig .tc := ⟨.hbm, 161, rfl⟩

abbrev nD : Nat := 1
abbrev τ : Topo := Topo.v7x

variable {F : FTy → Type} [FloatOps F]

abbrev main_while0_count : Scf.Loop 32 := ⟨0#32, 16#32, 1#32⟩
-- ==== Proj.lean ====
abbrev S16x2048x1024 : Shape := ⟨3, ![16, 2048, 1024]⟩
abbrev S1x1024 : Shape := ⟨2, ![1, 1024]⟩
abbrev S1x1024x6656 : Shape := ⟨3, ![1, 1024, 6656]⟩
abbrev S1x64 : Shape := ⟨2, ![1, 64]⟩
abbrev S32768x1024 : Shape := ⟨2, ![32768, 1024]⟩
abbrev S2048 : Shape := ⟨1, ![2048]⟩
abbrev S64 : Shape := ⟨1, ![64]⟩
abbrev S_ : Shape := ⟨0, ![]⟩
abbrev S2048x1 : Shape := ⟨2, ![2048, 1]⟩
abbrev S2048x64 : Shape := ⟨2, ![2048, 64]⟩
abbrev S2048x128 : Shape := ⟨2, ![2048, 128]⟩
abbrev S8x8 : Shape := ⟨2, ![8, 8]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S1024x6656 : Shape := ⟨2, ![1024, 6656]⟩
abbrev S1024 : Shape := ⟨1, ![1024]⟩
abbrev S8x64 : Shape := ⟨2, ![8, 64]⟩
abbrev S512 : Shape := ⟨1, ![512]⟩
abbrev S1x512 : Shape := ⟨2, ![1, 512]⟩
abbrev S32768x6656 : Shape := ⟨2, ![32768, 6656]⟩
abbrev S16x512x2048 : Shape := ⟨3, ![16, 512, 2048]⟩
abbrev S256x1024 : Shape := ⟨2, ![256, 1024]⟩
abbrev S256x128 : Shape := ⟨2, ![256, 128]⟩
abbrev S256x6656 : Shape := ⟨2, ![256, 6656]⟩
abbrev S1x512x256 : Shape := ⟨3, ![1, 512, 256]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S512x256 : Shape := ⟨2, ![512, 256]⟩

abbrev nBuf : Space → Nat
  | .hbm => 59
  | .vmem => 17
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x6656, .f32⟩
  | .hbm, ⟨3, _⟩ => ⟨S1x64, .f32⟩
  | .hbm, ⟨4, _⟩ => ⟨S1x64, .f32⟩
  | .hbm, ⟨5, _⟩ => ⟨S32768x1024, .f32⟩
  | .hbm, ⟨6, _⟩ => ⟨S2048, .i32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S2048, .f32⟩
  | .hbm, ⟨16, _⟩ => ⟨S2048x1, .f32⟩
  | .hbm, ⟨17, _⟩ => ⟨S1x64, .f32⟩
  | .hbm, ⟨18, _⟩ => ⟨S2048x64, .f32⟩
  | .hbm, ⟨19, _⟩ => ⟨S2048x64, .f32⟩
  | .hbm, ⟨20, _⟩ => ⟨S2048x64, .f32⟩
  | .hbm, ⟨21, _⟩ => ⟨S2048x64, .f32⟩
  | .hbm, ⟨22, _⟩ => ⟨S2048x64, .f32⟩
  | .hbm, ⟨23, _⟩ => ⟨S2048x128, .f32⟩
  | .hbm, ⟨24, _⟩ => ⟨S2048x64, .f32⟩
  | .hbm, ⟨25, _⟩ => ⟨S2048x128, .f32⟩
  | .hbm, ⟨26, _⟩ => ⟨S8x8, .i32⟩
  | .hbm, ⟨27, _⟩ => ⟨S8x8, .i32⟩
  | .hbm, ⟨28, _⟩ => ⟨S_, .i32⟩
  | .hbm, ⟨29, _⟩ => ⟨S8x8, .i32⟩
  | .hbm, ⟨30, _⟩ => ⟨S8x8, .i32⟩
  | .hbm, ⟨31, _⟩ => ⟨S8x8, .i1⟩
  | .hbm, ⟨32, _⟩ => ⟨S8x8, .f32⟩
  | .hbm, ⟨33, _⟩ => ⟨S_, .f32⟩
  | .hbm, ⟨34, _⟩ => ⟨S64x64, .f32⟩
  | .hbm, ⟨35, _⟩ => ⟨S8x1x8x1, .f32⟩
  | .hbm, ⟨36, _⟩ => ⟨S1x64x1x64, .f32⟩
  | .hbm, ⟨37, _⟩ => ⟨S8x64x8x64, .f32⟩
  | .hbm, ⟨38, _⟩ => ⟨S8x64x8x64, .f32⟩
  | .hbm, ⟨39, _⟩ => ⟨S8x64x8x64, .f32⟩
  | .hbm, ⟨40, _⟩ => ⟨S512x512, .f32⟩
  | .hbm, ⟨41, _⟩ => ⟨S512x512, .bf16⟩
  | .hbm, ⟨42, _⟩ => ⟨S1024x6656, .f32⟩
  | .hbm, ⟨43, _⟩ => ⟨S1024x6656, .bf16⟩
  | .hbm, ⟨44, _⟩ => ⟨S1024, .f32⟩
  | .hbm, ⟨45, _⟩ => ⟨S1x1024, .f32⟩
  | .hbm, ⟨46, _⟩ => ⟨S64, .f32⟩
  | .hbm, ⟨47, _⟩ => ⟨S1x64, .f32⟩
  | .hbm, ⟨48, _⟩ => ⟨S8x64, .f32⟩
  | .hbm, ⟨49, _⟩ => ⟨S512, .f32⟩
  | .hbm, ⟨50, _⟩ => ⟨S1x512, .f32⟩
  | .hbm, ⟨51, _⟩ => ⟨S64, .f32⟩
  | .hbm, ⟨52, _⟩ => ⟨S1x64, .f32⟩
  | .hbm, ⟨53, _⟩ => ⟨S8x64, .f32⟩
  | .hbm, ⟨54, _⟩ => ⟨S512, .f32⟩
  | .hbm, ⟨55, _⟩ => ⟨S1x512, .f32⟩
  | .hbm, ⟨56, _⟩ => ⟨S32768x6656, .f32⟩
  | .hbm, ⟨57, _⟩ => ⟨S16x512x2048, .f32⟩
  | .hbm, ⟨58, _⟩ => ⟨S16x512x2048, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x6656, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S1x512, .f32⟩
  | .local _ .vmem, ⟨9, _⟩ => ⟨S1x512, .f32⟩
  | .local _ .vmem, ⟨10, _⟩ => ⟨S512x512, .bf16⟩
  | .local _ .vmem, ⟨11, _⟩ => ⟨S256x6656, .f32⟩
  | .local _ .vmem, ⟨12, _⟩ => ⟨S256x6656, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | .local _ .vmem, ⟨16, _⟩ => ⟨S1x512x256, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42_0 : Ref sig .tc := ⟨.hbm, 56, rfl⟩
abbrev main_v42_1 : Ref sig .tc := ⟨.hbm, 57, rfl⟩
abbrev main_v42_2 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6656 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x6656 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ProjRefIdeal.lean ====
abbrev S16x2048x1024 : Shape := ⟨3, ![16, 2048, 1024]⟩
abbrev S1x1024 : Shape := ⟨2, ![1, 1024]⟩
abbrev S1x1024x6656 : Shape := ⟨3, ![1, 1024, 6656]⟩
abbrev S1x64 : Shape := ⟨2, ![1, 64]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x6656 : Shape := ⟨2, ![1024, 6656]⟩
abbrev S16x2048x6656 : Shape := ⟨3, ![16, 2048, 6656]⟩
abbrev S2048 : Shape := ⟨1, ![2048]⟩
abbrev S16x2048x512 : Shape := ⟨3, ![16, 2048, 512]⟩
abbrev S16x2048x8x64 : Shape := ⟨4, ![16, 2048, 8, 64]⟩
abbrev S64 : Shape := ⟨1, ![64]⟩
abbrev S16x2048x8 : Shape := ⟨3, ![16, 2048, 8]⟩
abbrev S16x2048x8x1 : Shape := ⟨4, ![16, 2048, 8, 1]⟩
abbrev S1x1x1x64 : Shape := ⟨4, ![1, 1, 1, 64]⟩
abbrev S16x2048x4x128 : Shape := ⟨4, ![16, 2048, 4, 128]⟩
abbrev S2048x1 : Shape := ⟨2, ![2048, 1]⟩
abbrev S2048x64 : Shape := ⟨2, ![2048, 64]⟩
abbrev S1x2048x1x64 : Shape := ⟨4, ![1, 2048, 1, 64]⟩
abbrev S16x2048x4x64 : Shape := ⟨4, ![16, 2048, 4, 64]⟩
abbrev S16x2048x4096 : Shape := ⟨3, ![16, 2048, 4096]⟩
abbrev S32768x6656 : Shape := ⟨2, ![32768, 6656]⟩
abbrev S16x512x2048 : Shape := ⟨3, ![16, 512, 2048]⟩

abbrev nBuf : Space → Nat
  | .hbm => 142
  | .vmem => 0
  | .smem => 0
  | _ => 0

abbrev hbmTy0_0 (i : Nat) : BufTy := match i % 128 with
  | 0 => ⟨S16x2048x1024, .f32⟩
  | 1 => ⟨S1x1024, .f32⟩
  | 2 => ⟨S1x1024x6656, .f32⟩
  | 3 => ⟨S1x64, .f32⟩
  | 4 => ⟨S1x64, .f32⟩
  | 5 => ⟨S1024, .f32⟩
  | 6 => ⟨S16x2048x1024, .f32⟩
  | 7 => ⟨S_, .f32⟩
  | 8 => ⟨S16x2048, .f32⟩
  | 9 => ⟨S16x2048x1, .f32⟩
  | 10 => ⟨S_, .f32⟩
  | 11 => ⟨S16x2048x1, .f32⟩
  | 12 => ⟨S16x2048x1, .f32⟩
  | 13 => ⟨S_, .f32⟩
  | 14 => ⟨S16x2048x1, .f32⟩
  | 15 => ⟨S16x2048x1, .f32⟩
  | 16 => ⟨S16x2048x1, .f32⟩
  | 17 => ⟨S16x2048x1024, .f32⟩
  | 18 => ⟨S16x2048x1024, .f32⟩
  | 19 => ⟨S1x1x1024, .f32⟩
  | 20 => ⟨S16x2048x1024, .f32⟩
  | 21 => ⟨S16x2048x1024, .f32⟩
  | 22 => ⟨S1024x6656, .f32⟩
  | 23 => ⟨S16x2048x6656, .f32⟩
  | 24 => ⟨S2048, .i32⟩
  | 25 => ⟨S16x2048x512, .f32⟩
  | 26 => ⟨S16x2048x8x64, .f32⟩
  | 27 => ⟨S64, .f32⟩
  | 28 => ⟨S16x2048x8x64, .f32⟩
  | 29 => ⟨S_, .f32⟩
  | 30 => ⟨S16x2048x8, .f32⟩
  | 31 => ⟨S16x2048x8x1, .f32⟩
  | 32 => ⟨S_, .f32⟩
  | 33 => ⟨S16x2048x8x1, .f32⟩
  | 34 => ⟨S16x2048x8x1, .f32⟩
  | 35 => ⟨S_, .f32⟩
  | 36 => ⟨S16x2048x8x1, .f32⟩
  | 37 => ⟨S16x2048x8x1, .f32⟩
  | 38 => ⟨S16x2048x8x1, .f32⟩
  | 39 => ⟨S16x2048x8x64, .f32⟩
  | 40 => ⟨S16x2048x8x64, .f32⟩
  | 41 => ⟨S1x1x1x64, .f32⟩
  | 42 => ⟨S16x2048x8x64, .f32⟩
  | 43 => ⟨S16x2048x8x64, .f32⟩
  | 44 => ⟨S16x2048x512, .f32⟩
  | 45 => ⟨S16x2048x8x64, .f32⟩
  | 46 => ⟨S64, .f32⟩
  | 47 => ⟨S16x2048x8x64, .f32⟩
  | 48 => ⟨S_, .f32⟩
  | 49 => ⟨S16x2048x8, .f32⟩
  | 50 => ⟨S16x2048x8x1, .f32⟩
  | 51 => ⟨S_, .f32⟩
  | 52 => ⟨S16x2048x8x1, .f32⟩
  | 53 => ⟨S16x2048x8x1, .f32⟩
  | 54 => ⟨S_, .f32⟩
  | 55 => ⟨S16x2048x8x1, .f32⟩
  | 56 => ⟨S16x2048x8x1, .f32⟩
  | 57 => ⟨S16x2048x8x1, .f32⟩
  | 58 => ⟨S16x2048x8x64, .f32⟩
  | 59 => ⟨S16x2048x8x64, .f32⟩
  | 60 => ⟨S1x1x1x64, .f32⟩
  | 61 => ⟨S16x2048x8x64, .f32⟩
  | 62 => ⟨S16x2048x8x64, .f32⟩
  | 63 => ⟨S16x2048x512, .f32⟩
  | 64 => ⟨S16x2048x512, .f32⟩
  | 65 => ⟨S16x2048x4x128, .f32⟩
  | 66 => ⟨S64, .f32⟩
  | 67 => ⟨S64, .f32⟩
  | 68 => ⟨S_, .f32⟩
  | 69 => ⟨S64, .f32⟩
  | 70 => ⟨S64, .f32⟩
  | 71 => ⟨S_, .f32⟩
  | 72 => ⟨S64, .f32⟩
  | 73 => ⟨S64, .f32⟩
  | 74 => ⟨S2048, .f32⟩
  | 75 => ⟨S2048x1, .f32⟩
  | 76 => ⟨S1x64, .f32⟩
  | 77 => ⟨S2048x64, .f32⟩
  | 78 => ⟨S2048x64, .f32⟩
  | 79 => ⟨S2048x64, .f32⟩
  | 80 => ⟨S2048x64, .f32⟩
  | 81 => ⟨S1x2048x1x64, .f32⟩
  | 82 => ⟨S2048x64, .f32⟩
  | 83 => ⟨S1x2048x1x64, .f32⟩
  | 84 => ⟨S16x2048x4x64, .f32⟩
  | 85 => ⟨S16x2048x4x64, .f32⟩
  | 86 => ⟨S16x2048x4x64, .f32⟩
  | 87 => ⟨S16x2048x4x64, .f32⟩
  | 88 => ⟨S16x2048x4x64, .f32⟩
  | 89 => ⟨S16x2048x4x64, .f32⟩
  | 90 => ⟨S16x2048x4x64, .f32⟩
  | 91 => ⟨S16x2048x4x64, .f32⟩
  | 92 => ⟨S16x2048x4x64, .f32⟩
  | 93 => ⟨S16x2048x4x64, .f32⟩
  | 94 => ⟨S16x2048x4x64, .f32⟩
  | 95 => ⟨S16x2048x4x64, .f32⟩
  | 96 => ⟨S16x2048x4x128, .f32⟩
  | 97 => ⟨S16x2048x512, .f32⟩
  | 98 => ⟨S16x2048x4x128, .f32⟩
  | 99 => ⟨S64, .f32⟩
  | 100 => ⟨S64, .f32⟩
  | 101 => ⟨S_, .f32⟩
  | 102 => ⟨S64, .f32⟩
  | 103 => ⟨S64, .f32⟩
  | 104 => ⟨S_, .f32⟩
  | 105 => ⟨S64, .f32⟩
  | 106 => ⟨S64, .f32⟩
  | 107 => ⟨S2048, .f32⟩
  | 108 => ⟨S2048x1, .f32⟩
  | 109 => ⟨S1x64, .f32⟩
  | 110 => ⟨S2048x64, .f32⟩
  | 111 => ⟨S2048x64, .f32⟩
  | 112 => ⟨S2048x64, .f32⟩
  | 113 => ⟨S2048x64, .f32⟩
  | 114 => ⟨S1x2048x1x64, .f32⟩
  | 115 => ⟨S2048x64, .f32⟩
  | 116 => ⟨S1x2048x1x64, .f32⟩
  | 117 => ⟨S16x2048x4x64, .f32⟩
  | 118 => ⟨S16x2048x4x64, .f32⟩
  | 119 => ⟨S16x2048x4x64, .f32⟩
  | 120 => ⟨S16x2048x4x64, .f32⟩
  | 121 => ⟨S16x2048x4x64, .f32⟩
  | 122 => ⟨S16x2048x4x64, .f32⟩
  | 123 => ⟨S16x2048x4x64, .f32⟩
  | 124 => ⟨S16x2048x4x64, .f32⟩
  | 125 => ⟨S16x2048x4x64, .f32⟩
  | 126 => ⟨S16x2048x4x64, .f32⟩
  | 127 => ⟨S16x2048x4x64, .f32⟩
  | _ => ⟨S16x2048x1024, .f32⟩

abbrev hbmTy0_1 (i : Nat) : BufTy := match i % 128 with
  | 0 => ⟨S16x2048x4x64, .f32⟩
  | 1 => ⟨S16x2048x4x128, .f32⟩
  | 2 => ⟨S_, .f32⟩
  | 3 => ⟨S16x2048x4x128, .f32⟩
  | 4 => ⟨S16x2048x4x128, .f32⟩
  | 5 => ⟨S16x2048x512, .f32⟩
  | 6 => ⟨S16x2048x512, .f32⟩
  | 7 => ⟨S16x2048x512, .f32⟩
  | 8 => ⟨S16x2048x512, .f32⟩
  | 9 => ⟨S16x2048x4096, .f32⟩
  | 10 => ⟨S16x2048x6656, .f32⟩
  | 11 => ⟨S32768x6656, .f32⟩
  | 12 => ⟨S16x512x2048, .f32⟩
  | 13 => ⟨S16x512x2048, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_8 : Ref sig .tc := ⟨.hbm, 68, rfl⟩
abbrev main_v54 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_cst_10 : Ref sig .tc := ⟨.hbm, 101, rfl⟩
abbrev main_v85 : Ref sig .tc := ⟨.hbm, 102, rfl⟩
abbrev main_v86 : Ref sig .tc := ⟨.hbm, 103, rfl⟩
abbrev main_cst_11 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_cst_12 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩

abbrev nD : Nat := 1
abbrev τ : Topo := Topo.v7x

variable {F : FTy → Type} [FloatOps F]
-- ==== Merge.lean ====
abbrev S16x2048x1024 : Shape := ⟨3, ![16, 2048, 1024]⟩
abbrev S32768x512 : Shape := ⟨2, ![32768, 512]⟩
abbrev S32768x1024 : Shape := ⟨2, ![32768, 1024]⟩
abbrev S32768x6656 : Shape := ⟨2, ![32768, 6656]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x2048 : Shape := ⟨3, ![1, 1024, 2048]⟩
abbrev S512x1024 : Shape := ⟨2, ![512, 1024]⟩
abbrev S1024x1024 : Shape := ⟨2, ![1024, 1024]⟩
abbrev S1024 : Shape := ⟨1, ![1024]⟩
abbrev S1024x2048 : Shape := ⟨2, ![1024, 2048]⟩
abbrev S32768x2048 : Shape := ⟨2, ![32768, 2048]⟩
abbrev S256x1024 : Shape := ⟨2, ![256, 1024]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩

abbrev nBuf : Space → Nat
  | .hbm => 23
  | .vmem => 25
  | .smem => 0
  | _ => 0

abbrev bufTy : (tb : Table) → Fin (tcTables nBuf tb) → BufTy
  | .hbm, ⟨0, _⟩ => ⟨S16x2048x1024, .f32⟩
  | .hbm, ⟨1, _⟩ => ⟨S32768x512, .f32⟩
  | .hbm, ⟨2, _⟩ => ⟨S32768x1024, .f32⟩
  | .hbm, ⟨3, _⟩ => ⟨S32768x6656, .f32⟩
  | .hbm, ⟨4, _⟩ => ⟨S1x512x1024, .f32⟩
  | .hbm, ⟨5, _⟩ => ⟨S1x1024x1024, .f32⟩
  | .hbm, ⟨6, _⟩ => ⟨S1x1024x1024, .f32⟩
  | .hbm, ⟨7, _⟩ => ⟨S1x1024, .f32⟩
  | .hbm, ⟨8, _⟩ => ⟨S1x1024x2048, .f32⟩
  | .hbm, ⟨9, _⟩ => ⟨S32768x1024, .f32⟩
  | .hbm, ⟨10, _⟩ => ⟨S512x1024, .f32⟩
  | .hbm, ⟨11, _⟩ => ⟨S512x1024, .bf16⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S1024, .f32⟩
  | .hbm, ⟨17, _⟩ => ⟨S1x1024, .f32⟩
  | .hbm, ⟨18, _⟩ => ⟨S1024x2048, .f32⟩
  | .hbm, ⟨19, _⟩ => ⟨S1024x2048, .bf16⟩
  | .hbm, ⟨20, _⟩ => ⟨S32768x1024, .f32⟩
  | .hbm, ⟨21, _⟩ => ⟨S32768x1024, .f32⟩
  | .hbm, ⟨22, _⟩ => ⟨S32768x2048, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x1024, .f32⟩
  | .local _ .vmem, ⟨5, _⟩ => ⟨S256x1024, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S512x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1x1024, .f32⟩
  | .local _ .vmem, ⟨18, _⟩ => ⟨S1024x2048, .bf16⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x2048, .f32⟩
  | .local _ .vmem, ⟨24, _⟩ => ⟨S256x2048, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_4 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_5 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_6 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MergeRefIdeal.lean ====
abbrev S16x2048x1024 : Shape := ⟨3, ![16, 2048, 1024]⟩
abbrev S32768x512 : Shape := ⟨2, ![32768, 512]⟩
abbrev S32768x1024 : Shape := ⟨2, ![32768, 1024]⟩
abbrev S32768x6656 : Shape := ⟨2, ![32768, 6656]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x2048 : Shape := ⟨3, ![1, 1024, 2048]⟩
abbrev S_ : Shape := ⟨0, ![]⟩
abbrev S512x1024 : Shape := ⟨2, ![512, 1024]⟩
abbrev S1024x1024 : Shape := ⟨2, ![1024, 1024]⟩
abbrev S1024 : Shape := ⟨1, ![1024]⟩
abbrev S32768 : Shape := ⟨1, ![32768]⟩
abbrev S32768x1 : Shape := ⟨2, ![32768, 1]⟩
abbrev S1024x2048 : Shape := ⟨2, ![1024, 2048]⟩
abbrev S32768x2048 : Shape := ⟨2, ![32768, 2048]⟩

abbrev nBuf : Space → Nat
  | .hbm => 57
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S32768x512, .f32⟩
  | .hbm, ⟨2, _⟩ => ⟨S32768x1024, .f32⟩
  | .hbm, ⟨3, _⟩ => ⟨S32768x6656, .f32⟩
  | .hbm, ⟨4, _⟩ => ⟨S1x512x1024, .f32⟩
  | .hbm, ⟨5, _⟩ => ⟨S1x1024x1024, .f32⟩
  | .hbm, ⟨6, _⟩ => ⟨S1x1024x1024, .f32⟩
  | .hbm, ⟨7, _⟩ => ⟨S1x1024, .f32⟩
  | .hbm, ⟨8, _⟩ => ⟨S1x1024x2048, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S_, .f32⟩
  | .hbm, ⟨15, _⟩ => ⟨S32768x1024, .f32⟩
  | .hbm, ⟨16, _⟩ => ⟨S32768x1024, .f32⟩
  | .hbm, ⟨17, _⟩ => ⟨S_, .f32⟩
  | .hbm, ⟨18, _⟩ => ⟨S32768x1024, .f32⟩
  | .hbm, ⟨19, _⟩ => ⟨S32768x1024, .f32⟩
  | .hbm, ⟨20, _⟩ => ⟨S512x1024, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S_, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768x1024, .f32⟩
  | .hbm, ⟨30, _⟩ => ⟨S32768x1024, .f32⟩
  | .hbm, ⟨31, _⟩ => ⟨S1024x1024, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S1024x1024, .f32⟩
  | .hbm, ⟨36, _⟩ => ⟨S32768x1024, .f32⟩
  | .hbm, ⟨37, _⟩ => ⟨S32768x1024, .f32⟩
  | .hbm, ⟨38, _⟩ => ⟨S1024, .f32⟩
  | .hbm, ⟨39, _⟩ => ⟨S32768x1024, .f32⟩
  | .hbm, ⟨40, _⟩ => ⟨S_, .f32⟩
  | .hbm, ⟨41, _⟩ => ⟨S32768, .f32⟩
  | .hbm, ⟨42, _⟩ => ⟨S32768x1, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S32768x1, .f32⟩
  | .hbm, ⟨50, _⟩ => ⟨S32768x1024, .f32⟩
  | .hbm, ⟨51, _⟩ => ⟨S32768x1024, .f32⟩
  | .hbm, ⟨52, _⟩ => ⟨S1x1024, .f32⟩
  | .hbm, ⟨53, _⟩ => ⟨S32768x1024, .f32⟩
  | .hbm, ⟨54, _⟩ => ⟨S32768x1024, .f32⟩
  | .hbm, ⟨55, _⟩ => ⟨S1024x2048, .f32⟩
  | .hbm, ⟨56, _⟩ => ⟨S32768x2048, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]
-- ==== Ple.lean ====
abbrev S32768x1024 : Shape := ⟨2, ![32768, 1024]⟩
abbrev S1x16x2048x256 : Shape := ⟨4, ![1, 16, 2048, 256]⟩
abbrev S1x1024 : Shape := ⟨2, ![1, 1024]⟩
abbrev S1x1024x1024 : Shape := ⟨3, ![1, 1024, 1024]⟩
abbrev S1x256x1024 : Shape := ⟨3, ![1, 256, 1024]⟩
abbrev S16x2048x256 : Shape := ⟨3, ![16, 2048, 256]⟩
abbrev S32768x256 : Shape := ⟨2, ![32768, 256]⟩
abbrev S1024 : Shape := ⟨1, ![1024]⟩
abbrev S1024x1024 : Shape := ⟨2, ![1024, 1024]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩

abbrev nBuf : Space → Nat
  | .hbm => 14
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1x16x2048x256, .f32⟩
  | .hbm, ⟨2, _⟩ => ⟨S1x1024, .f32⟩
  | .hbm, ⟨3, _⟩ => ⟨S1x1024x1024, .f32⟩
  | .hbm, ⟨4, _⟩ => ⟨S1x256x1024, .f32⟩
  | .hbm, ⟨5, _⟩ => ⟨S16x2048x256, .f32⟩
  | .hbm, ⟨6, _⟩ => ⟨S32768x256, .f32⟩
  | .hbm, ⟨7, _⟩ => ⟨S1024, .f32⟩
  | .hbm, ⟨8, _⟩ => ⟨S1x1024, .f32⟩
  | .hbm, ⟨9, _⟩ => ⟨S1024x1024, .f32⟩
  | .hbm, ⟨10, _⟩ => ⟨S1024x1024, .bf16⟩
  | .hbm, ⟨11, _⟩ => ⟨S256x1024, .f32⟩
  | .hbm, ⟨12, _⟩ => ⟨S256x1024, .bf16⟩
  | .hbm, ⟨13, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S256x1024, .f32⟩
  | .local _ .vmem, ⟨8, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PleRefIdeal.lean ====
abbrev S32768x1024 : Shape := ⟨2, ![32768, 1024]⟩
abbrev S1x16x2048x256 : Shape := ⟨4, ![1, 16, 2048, 256]⟩
abbrev S1x1024 : Shape := ⟨2, ![1, 1024]⟩
abbrev S1x1024x1024 : Shape := ⟨3, ![1, 1024, 1024]⟩
abbrev S1x256x1024 : Shape := ⟨3, ![1, 256, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x1024 : Shape := ⟨2, ![1024, 1024]⟩
abbrev S16x2048x256 : Shape := ⟨3, ![16, 2048, 256]⟩
abbrev S32768x256 : Shape := ⟨2, ![32768, 256]⟩
abbrev S256x1024 : Shape := ⟨2, ![256, 1024]⟩

abbrev nBuf : Space → Nat
  | .hbm => 38
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x16x2048x256, .f32⟩
  | .hbm, ⟨2, _⟩ => ⟨S1x1024, .f32⟩
  | .hbm, ⟨3, _⟩ => ⟨S1x1024x1024, .f32⟩
  | .hbm, ⟨4, _⟩ => ⟨S1x256x1024, .f32⟩
  | .hbm, ⟨5, _⟩ => ⟨S1024, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S1024x1024, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S_, .f32⟩
  | .hbm, ⟨27, _⟩ => ⟨S32768x1024, .f32⟩
  | .hbm, ⟨28, _⟩ => ⟨S32768x1024, .f32⟩
  | .hbm, ⟨29, _⟩ => ⟨S_, .f32⟩
  | .hbm, ⟨30, _⟩ => ⟨S32768x1024, .f32⟩
  | .hbm, ⟨31, _⟩ => ⟨S32768x1024, .f32⟩
  | .hbm, ⟨32, _⟩ => ⟨S16x2048x256, .f32⟩
  | .hbm, ⟨33, _⟩ => ⟨S32768x256, .f32⟩
  | .hbm, ⟨34, _⟩ => ⟨S256x1024, .f32⟩
  | .hbm, ⟨35, _⟩ => ⟨S32768x1024, .f32⟩
  | .hbm, ⟨36, _⟩ => ⟨S32768x1024, .f32⟩
  | .hbm, ⟨37, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Stick.lean ====
abbrev S32768x6656 : Shape := ⟨2, ![32768, 6656]⟩
abbrev S1x8 : Shape := ⟨2, ![1, 8]⟩
abbrev S8 : Shape := ⟨1, ![8]⟩
abbrev S2x2 : Shape := ⟨2, ![2, 2]⟩
abbrev S_ : Shape := ⟨0, ![]⟩
abbrev S128x128 : Shape := ⟨2, ![128, 128]⟩
abbrev S2x1x2x1 : Shape := ⟨4, ![2, 1, 2, 1]⟩
abbrev S1x128x1x128 : Shape := ⟨4, ![1, 128, 1, 128]⟩
abbrev S2x128x2x128 : Shape := ⟨4, ![2, 128, 2, 128]⟩
abbrev S256x256 : Shape := ⟨2, ![256, 256]⟩
abbrev S32768x512 : Shape := ⟨2, ![32768, 512]⟩
abbrev S128x512 : Shape := ⟨2, ![128, 512]⟩
abbrev S2048x512 : Shape := ⟨2, ![2048, 512]⟩
abbrev S4x128x128 : Shape := ⟨3, ![4, 128, 128]⟩
abbrev S4x128x256 : Shape := ⟨3, ![4, 128, 256]⟩
abbrev S1x128 : Shape := ⟨2, ![1, 128]⟩
abbrev S1x256 : Shape := ⟨2, ![1, 256]⟩
abbrev S1x128x128 : Shape := ⟨3, ![1, 128, 128]⟩
abbrev S128x256 : Shape := ⟨2, ![128, 256]⟩
abbrev S256x128 : Shape := ⟨2, ![256, 128]⟩
abbrev S1 : Shape := ⟨1, ![1]⟩
abbrev S1x128x256 : Shape := ⟨3, ![1, 128, 256]⟩
abbrev S128 : Shape := ⟨1, ![128]⟩
abbrev S128x1 : Shape := ⟨2, ![128, 1]⟩

abbrev nBuf : Space → Nat
  | .hbm => 29
  | .vmem => 12
  | .smem => 1
  | _ => 0

abbrev bufTy : (tb : Table) → Fin (tcTables nBuf tb) → BufTy
  | .hbm, ⟨0, _⟩ => ⟨S32768x6656, .f32⟩
  | .hbm, ⟨1, _⟩ => ⟨S1x8, .f32⟩
  | .hbm, ⟨2, _⟩ => ⟨S8, .f32⟩
  | .hbm, ⟨3, _⟩ => ⟨S2x2, .i32⟩
  | .hbm, ⟨4, _⟩ => ⟨S2x2, .i32⟩
  | .hbm, ⟨5, _⟩ => ⟨S_, .i32⟩
  | .hbm, ⟨6, _⟩ => ⟨S2x2, .i32⟩
  | .hbm, ⟨7, _⟩ => ⟨S2x2, .i32⟩
  | .hbm, ⟨8, _⟩ => ⟨S2x2, .i1⟩
  | .hbm, ⟨9, _⟩ => ⟨S2x2, .f32⟩
  | .hbm, ⟨10, _⟩ => ⟨S_, .f32⟩
  | .hbm, ⟨11, _⟩ => ⟨S128x128, .f32⟩
  | .hbm, ⟨12, _⟩ => ⟨S128x128, .i32⟩
  | .hbm, ⟨13, _⟩ => ⟨S_, .i32⟩
  | .hbm, ⟨14, _⟩ => ⟨S128x128, .i32⟩
  | .hbm, ⟨15, _⟩ => ⟨S128x128, .i32⟩
  | .hbm, ⟨16, _⟩ => ⟨S128x128, .i32⟩
  | .hbm, ⟨17, _⟩ => ⟨S128x128, .i1⟩
  | .hbm, ⟨18, _⟩ => ⟨S_, .f32⟩
  | .hbm, ⟨19, _⟩ => ⟨S128x128, .f32⟩
  | .hbm, ⟨20, _⟩ => ⟨S128x128, .f32⟩
  | .hbm, ⟨21, _⟩ => ⟨S2x1x2x1, .f32⟩
  | .hbm, ⟨22, _⟩ => ⟨S1x128x1x128, .f32⟩
  | .hbm, ⟨23, _⟩ => ⟨S2x128x2x128, .f32⟩
  | .hbm, ⟨24, _⟩ => ⟨S2x128x2x128, .f32⟩
  | .hbm, ⟨25, _⟩ => ⟨S2x128x2x128, .f32⟩
  | .hbm, ⟨26, _⟩ => ⟨S256x256, .f32⟩
  | .hbm, ⟨27, _⟩ => ⟨S256x256, .bf16⟩
  | .hbm, ⟨28, _⟩ => ⟨S32768x512, .f32⟩
  | .local _ .vmem, ⟨0, _⟩ => ⟨S128x512, .f32⟩
  | .local _ .vmem, ⟨1, _⟩ => ⟨S128x512, .f32⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S256x256, .bf16⟩
  | .local _ .vmem, ⟨7, _⟩ => ⟨S128x512, .f32⟩
  | .local _ .vmem, ⟨8, _⟩ => ⟨S128x512, .f32⟩
  | .local _ .vmem, ⟨9, _⟩ => ⟨S4x128x128, .bf16⟩
  | .local _ .vmem, ⟨10, _⟩ => ⟨S128x512, .f32⟩
  | .local _ .vmem, ⟨11, _⟩ => ⟨S4x128x256, .f32⟩
  | .local _ .smem, ⟨0, _⟩ => ⟨S8, .f32⟩
  | _, _ => ⟨S32768x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_cst : Ref sig .tc := ⟨.hbm, 18, rfl⟩
abbrev main_call0_v5 : Ref sig .tc := ⟨.hbm, 19, rfl⟩
abbrev main_v8 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let arg1 : BitVec 32 := BitVec.ofNat 32 (i 1).val
  let c128_i32_26 : BitVec 32 := 128#32
  let v51 : BitVec 32 := Scalar.muli arg1 c128_i32_26
  v51
def k0_off1 (i : grid0.Coords) : Fin 2 → Nat :=
  let arg1 : BitVec 32 := BitVec.ofNat 32 (i 1).val
  let c128_i32_26 : BitVec 32 := 128#32
  let v51 : BitVec 32 := Scalar.muli arg1 c128_i32_26
  let v52 : BitVec 32 := v51
  let v53 : Index := Scalar.indexCast v52
  let c0_27 : Index := 0#32
  ![v53.toNat, 0]
def k0_off2 (i : grid0.Coords) : Fin 2 → Nat :=
  let arg1 : BitVec 32 := BitVec.ofNat 32 (i 1).val
  let c128_i32_26 : BitVec 32 := 128#32
  let v51 : BitVec 32 := Scalar.muli arg1 c128_i32_26
  let v52 : BitVec 32 := v51
  let v75 : Index := Scalar.indexCast v52
  let c128_36 : Index := 128#32
  ![v75.toNat, 128]
def k0_off3 (i : grid0.Coords) : Fin 2 → Nat :=
  let arg1 : BitVec 32 := BitVec.ofNat 32 (i 1).val
  let c128_i32_26 : BitVec 32 := 128#32
  let v51 : BitVec 32 := Scalar.muli arg1 c128_i32_26
  let v52 : BitVec 32 := v51
  let v97 : Index := Scalar.indexCast v52
  let c256_45 : Index := 256#32
  ![v97.toNat, 256]
def k0_off4 (i : grid0.Coords) : Fin 2 → Nat :=
  let arg1 : BitVec 32 := BitVec.ofNat 32 (i 1).val
  let c128_i32_26 : BitVec 32 := 128#32
  let v51 : BitVec 32 := Scalar.muli arg1 c128_i32_26
  let v52 : BitVec 32 := v51
  let v119 : Index := Scalar.indexCast v52
  let c384_52 : Index := 384#32
  ![v119.toNat, 384]
@[reducible] def k0_t1_loop (i : grid0.Coords) : Scf.Loop 32 :=
  let c0_i32_151 : BitVec 32 := 0#32
  let arg1 : BitVec 32 := BitVec.ofNat 32 (i 1).val
  let c1_i32 : BitVec 32 := 1#32
  let v385 : BitVec 32 := Scalar.shrui arg1 c1_i32
  let v386 : BitVec 32 := Scalar.subi v385 c0_i32_151
  let c1_i32_152 : BitVec 32 := 1#32
  let v388 : BitVec 32 := Scalar.divsi v386 c1_i32_152
  let v389 : BitVec 32 := Scalar.muli v388 c1_i32_152
  let v390 : BitVec 32 := Scalar.addi c0_i32_151 v389
  let c1_i32_153 : BitVec 32 := 1#32
  ⟨c0_i32_151, v390, c1_i32_153⟩
def k0_mult2 (i : grid0.Coords) (k0_t1 : Fin (k0_t1_loop i).trips) : BitVec 32 :=
  let arg1 : BitVec 32 := BitVec.ofNat 32 (i 1).val
  let c1_i32_162 : BitVec 32 := 1#32
  let v397 : BitVec 32 := Scalar.subi arg1 c1_i32_162
  let c2_i32 : BitVec 32 := 2#32
  let c0_i32_151 : BitVec 32 := 0#32
  let c1_i32_153 : BitVec 32 := 1#32
  let arg11 : BitVec 32 := Scf.iv c0_i32_151 c1_i32_153 k0_t1
  let v398 : BitVec 32 := Scalar.muli c2_i32 arg11
  let v399 : BitVec 32 := Scalar.subi v397 v398
  let c128_i32_165 : BitVec 32 := 128#32
  let v403 : BitVec 32 := Scalar.muli v399 c128_i32_165
  v403
def k0_mult3 (i : grid0.Coords) (k0_t1 : Fin (k0_t1_loop i).trips) : BitVec 32 :=
  let arg1 : BitVec 32 := BitVec.ofNat 32 (i 1).val
  let c2_i32_163 : BitVec 32 := 2#32
  let v400 : BitVec 32 := Scalar.subi arg1 c2_i32_163
  let c2_i32_164 : BitVec 32 := 2#32
  let c0_i32_151 : BitVec 32 := 0#32
  let c1_i32_153 : BitVec 32 := 1#32
  let arg11 : BitVec 32 := Scf.iv c0_i32_151 c1_i32_153 k0_t1
  let v401 : BitVec 32 := Scalar.muli c2_i32_164 arg11
  let v402 : BitVec 32 := Scalar.subi v400 v401
  let c128_i32_166 : BitVec 32 := 128#32
  let v405 : BitVec 32 := Scalar.muli v402 c128_i32_166
  v405
def k0_off5 (i : grid0.Coords) (k0_t1 : Fin (k0_t1_loop i).trips) (c1_i32_162 : BitVec 32) : Fin 2 → Nat :=
  let arg1 : BitVec 32 := BitVec.ofNat 32 (i 1).val
  let v397 : BitVec 32 := Scalar.subi arg1 c1_i32_162
  let c2_i32 : BitVec 32 := 2#32
  let c0_i32_151 : BitVec 32 := 0#32
  let c1_i32_153 : BitVec 32 := 1#32
  let arg11 : BitVec 32 := Scf.iv c0_i32_151 c1_i32_153 k0_t1
  let v398 : BitVec 32 := Scalar.muli c2_i32 arg11
  let v399 : BitVec 32 := Scalar.subi v397 v398
  let c128_i32_165 : BitVec 32 := 128#32
  let v403 : BitVec 32 := Scalar.muli v399 c128_i32_165
  let v404 : BitVec 32 := v403
  let v407 : Index := Scalar.indexCast v404
  let c0_167 : Index := 0#32
  ![v407.toNat, 0]
def k0_off6 (i : grid0.Coords) (k0_t1 : Fin (k0_t1_loop i).trips) (c1_i32_162 : BitVec 32) : Fin 2 → Nat :=
  let arg1 : BitVec 32 := BitVec.ofNat 32 (i 1).val
  let v397 : BitVec 32 := Scalar.subi arg1 c1_i32_162
  let c2_i32 : BitVec 32 := 2#32
  let c0_i32_151 : BitVec 32 := 0#32
  let c1_i32_153 : BitVec 32 := 1#32
  let arg11 : BitVec 32 := Scf.iv c0_i32_151 c1_i32_153 k0_t1
  let v398 : BitVec 32 := Scalar.muli c2_i32 arg11
  let v399 : BitVec 32 := Scalar.subi v397 v398
  let c128_i32_165 : BitVec 32 := 128#32
  let v403 : BitVec 32 := Scalar.muli v399 c128_i32_165
  let v404 : BitVec 32 := v403
  let v429 : Index := Scalar.indexCast v404
  let c128_176 : Index := 128#32
  ![v429.toNat, 128]
def k0_off7 (i : grid0.Coords) (k0_t1 : Fin (k0_t1_loop i).trips) (c1_i32_162 : BitVec 32) : Fin 2 → Nat :=
  let arg1 : BitVec 32 := BitVec.ofNat 32 (i 1).val
  let v397 : BitVec 32 := Scalar.subi arg1 c1_i32_162
  let c2_i32 : BitVec 32 := 2#32
  let c0_i32_151 : BitVec 32 := 0#32
  let c1_i32_153 : BitVec 32 := 1#32
  let arg11 : BitVec 32 := Scf.iv c0_i32_151 c1_i32_153 k0_t1
  let v398 : BitVec 32 := Scalar.muli c2_i32 arg11
  let v399 : BitVec 32 := Scalar.subi v397 v398
  let c128_i32_165 : BitVec 32 := 128#32
  let v403 : BitVec 32 := Scalar.muli v399 c128_i32_165
  let v404 : BitVec 32 := v403
  let v451 : Index := Scalar.indexCast v404
  let c256_185 : Index := 256#32
  ![v451.toNat, 256]
def k0_off8 (i : grid0.Coords) (k0_t1 : Fin (k0_t1_loop i).trips) (c1_i32_162 : BitVec 32) : Fin 2 → Nat :=
  let arg1 : BitVec 32 := BitVec.ofNat 32 (i 1).val
  let v397 : BitVec 32 := Scalar.subi arg1 c1_i32_162
  let c2_i32 : BitVec 32 := 2#32
  let c0_i32_151 : BitVec 32 := 0#32
  let c1_i32_153 : BitVec 32 := 1#32
  let arg11 : BitVec 32 := Scf.iv c0_i32_151 c1_i32_153 k0_t1
  let v398 : BitVec 32 := Scalar.muli c2_i32 arg11
  let v399 : BitVec 32 := Scalar.subi v397 v398
  let c128_i32_165 : BitVec 32 := 128#32
  let v403 : BitVec 32 := Scalar.muli v399 c128_i32_165
  let v404 : BitVec 32 := v403
  let v473 : Index := Scalar.indexCast v404
  let c384_194 : Index := 384#32
  ![v473.toNat, 384]
@[reducible] def k0_t2_loop (i : grid0.Coords) : Scf.Loop 32 :=
  let c0_i32_151 : BitVec 32 := 0#32
  let arg1 : BitVec 32 := BitVec.ofNat 32 (i 1).val
  let c1_i32 : BitVec 32 := 1#32
  let v385 : BitVec 32 := Scalar.shrui arg1 c1_i32
  let v386 : BitVec 32 := Scalar.subi v385 c0_i32_151
  let c1_i32_152 : BitVec 32 := 1#32
  let v388 : BitVec 32 := Scalar.divsi v386 c1_i32_152
  let v389 : BitVec 32 := Scalar.muli v388 c1_i32_152
  let v390 : BitVec 32 := Scalar.addi c0_i32_151 v389
  let v387 : BitVec 32 := Scalar.addi c0_i32_151 v386
  let c1_i32_154 : BitVec 32 := 1#32
  ⟨v390, v387, c1_i32_154⟩
def k0_mult4 (i : grid0.Coords) (k0_t2 : Fin (k0_t2_loop i).trips) : BitVec 32 :=
  let arg1 : BitVec 32 := BitVec.ofNat 32 (i 1).val
  let c1_i32_162 : BitVec 32 := 1#32
  let v397 : BitVec 32 := Scalar.subi arg1 c1_i32_162
  let c2_i32 : BitVec 32 := 2#32
  let c0_i32_151 : BitVec 32 := 0#32
  let c1_i32 : BitVec 32 := 1#32
  let v385 : BitVec 32 := Scalar.shrui arg1 c1_i32
  let v386 : BitVec 32 := Scalar.subi v385 c0_i32_151
  let c1_i32_152 : BitVec 32 := 1#32
  let v388 : BitVec 32 := Scalar.divsi v386 c1_i32_152
  let v389 : BitVec 32 := Scalar.muli v388 c1_i32_152
  let v390 : BitVec 32 := Scalar.addi c0_i32_151 v389
  let c1_i32_154 : BitVec 32 := 1#32
  let arg11 : BitVec 32 := Scf.iv v390 c1_i32_154 k0_t2
  let v398 : BitVec 32 := Scalar.muli c2_i32 arg11
  let v399 : BitVec 32 := Scalar.subi v397 v398
  let c128_i32_165 : BitVec 32 := 128#32
  let v403 : BitVec 32 := Scalar.muli v399 c128_i32_165
  v403
def k0_mult5 (i : grid0.Coords) (k0_t2 : Fin (k0_t2_loop i).trips) : BitVec 32 :=
  let arg1 : BitVec 32 := BitVec.ofNat 32 (i 1).val
  let c2_i32_163 : BitVec 32 := 2#32
  let v400 : BitVec 32 := Scalar.subi arg1 c2_i32_163
  let c2_i32_164 : BitVec 32 := 2#32
  let c0_i32_151 : BitVec 32 := 0#32
  let c1_i32 : BitVec 32 := 1#32
  let v385 : BitVec 32 := Scalar.shrui arg1 c1_i32
  let v386 : BitVec 32 := Scalar.subi v385 c0_i32_151
  let c1_i32_152 : BitVec 32 := 1#32
  let v388 : BitVec 32 := Scalar.divsi v386 c1_i32_152
  let v389 : BitVec 32 := Scalar.muli v388 c1_i32_152
  let v390 : BitVec 32 := Scalar.addi c0_i32_151 v389
  let c1_i32_154 : BitVec 32 := 1#32
  let arg11 : BitVec 32 := Scf.iv v390 c1_i32_154 k0_t2
  let v401 : BitVec 32 := Scalar.muli c2_i32_164 arg11
  let v402 : BitVec 32 := Scalar.subi v400 v401
  let c128_i32_166 : BitVec 32 := 128#32
  let v405 : BitVec 32 := Scalar.muli v402 c128_i32_166
  v405
def k0_off9 (i : grid0.Coords) (k0_t2 : Fin (k0_t2_loop i).trips) (c1_i32_162 : BitVec 32) : Fin 2 → Nat :=
  let arg1 : BitVec 32 := BitVec.ofNat 32 (i 1).val
  let v397 : BitVec 32 := Scalar.subi arg1 c1_i32_162
  let c2_i32 : BitVec 32 := 2#32
  let c0_i32_151 : BitVec 32 := 0#32
  let c1_i32 : BitVec 32 := 1#32
  let v385 : BitVec 32 := Scalar.shrui arg1 c1_i32
  let v386 : BitVec 32 := Scalar.subi v385 c0_i32_151
  let c1_i32_152 : BitVec 32 := 1#32
  let v388 : BitVec 32 := Scalar.divsi v386 c1_i32_152
  let v389 : BitVec 32 := Scalar.muli v388 c1_i32_152
  let v390 : BitVec 32 := Scalar.addi c0_i32_151 v389
  let c1_i32_154 : BitVec 32 := 1#32
  let arg11 : BitVec 32 := Scf.iv v390 c1_i32_154 k0_t2
  let v398 : BitVec 32 := Scalar.muli c2_i32 arg11
  let v399 : BitVec 32 := Scalar.subi v397 v398
  let c128_i32_165 : BitVec 32 := 128#32
  let v403 : BitVec 32 := Scalar.muli v399 c128_i32_165
  let v404 : BitVec 32 := v403
  let v407 : Index := Scalar.indexCast v404
  let c0_167 : Index := 0#32
  ![v407.toNat, 0]
def k0_off10 (i : grid0.Coords) (k0_t2 : Fin (k0_t2_loop i).trips) (c1_i32_162 : BitVec 32) : Fin 2 → Nat :=
  let arg1 : BitVec 32 := BitVec.ofNat 32 (i 1).val
  let v397 : BitVec 32 := Scalar.subi arg1 c1_i32_162
  let c2_i32 : BitVec 32 := 2#32
  let c0_i32_151 : BitVec 32 := 0#32
  let c1_i32 : BitVec 32 := 1#32
  let v385 : BitVec 32 := Scalar.shrui arg1 c1_i32
  let v386 : BitVec 32 := Scalar.subi v385 c0_i32_151
  let c1_i32_152 : BitVec 32 := 1#32
  let v388 : BitVec 32 := Scalar.divsi v386 c1_i32_152
  let v389 : BitVec 32 := Scalar.muli v388 c1_i32_152
  let v390 : BitVec 32 := Scalar.addi c0_i32_151 v389
  let c1_i32_154 : BitVec 32 := 1#32
  let arg11 : BitVec 32 := Scf.iv v390 c1_i32_154 k0_t2
  let v398 : BitVec 32 := Scalar.muli c2_i32 arg11
  let v399 : BitVec 32 := Scalar.subi v397 v398
  let c128_i32_165 : BitVec 32 := 128#32
  let v403 : BitVec 32 := Scalar.muli v399 c128_i32_165
  let v404 : BitVec 32 := v403
  let v429 : Index := Scalar.indexCast v404
  let c128_176 : Index := 128#32
  ![v429.toNat, 128]
def k0_off11 (i : grid0.Coords) (k0_t2 : Fin (k0_t2_loop i).trips) (c1_i32_162 : BitVec 32) : Fin 2 → Nat :=
  let arg1 : BitVec 32 := BitVec.ofNat 32 (i 1).val
  let v397 : BitVec 32 := Scalar.subi arg1 c1_i32_162
  let c2_i32 : BitVec 32 := 2#32
  let c0_i32_151 : BitVec 32 := 0#32
  let c1_i32 : BitVec 32 := 1#32
  let v385 : BitVec 32 := Scalar.shrui arg1 c1_i32
  let v386 : BitVec 32 := Scalar.subi v385 c0_i32_151
  let c1_i32_152 : BitVec 32 := 1#32
  let v388 : BitVec 32 := Scalar.divsi v386 c1_i32_152
  let v389 : BitVec 32 := Scalar.muli v388 c1_i32_152
  let v390 : BitVec 32 := Scalar.addi c0_i32_151 v389
  let c1_i32_154 : BitVec 32 := 1#32
  let arg11 : BitVec 32 := Scf.iv v390 c1_i32_154 k0_t2
  let v398 : BitVec 32 := Scalar.muli c2_i32 arg11
  let v399 : BitVec 32 := Scalar.subi v397 v398
  let c128_i32_165 : BitVec 32 := 128#32
  let v403 : BitVec 32 := Scalar.muli v399 c128_i32_165
  let v404 : BitVec 32 := v403
  let v451 : Index := Scalar.indexCast v404
  let c256_185 : Index := 256#32
  ![v451.toNat, 256]
def k0_off12 (i : grid0.Coords) (k0_t2 : Fin (k0_t2_loop i).trips) (c1_i32_162 : BitVec 32) : Fin 2 → Nat :=
  let arg1 : BitVec 32 := BitVec.ofNat 32 (i 1).val
  let v397 : BitVec 32 := Scalar.subi arg1 c1_i32_162
  let c2_i32 : BitVec 32 := 2#32
  let c0_i32_151 : BitVec 32 := 0#32
  let c1_i32 : BitVec 32 := 1#32
  let v385 : BitVec 32 := Scalar.shrui arg1 c1_i32
  let v386 : BitVec 32 := Scalar.subi v385 c0_i32_151
  let c1_i32_152 : BitVec 32 := 1#32
  let v388 : BitVec 32 := Scalar.divsi v386 c1_i32_152
  let v389 : BitVec 32 := Scalar.muli v388 c1_i32_152
  let v390 : BitVec 32 := Scalar.addi c0_i32_151 v389
  let c1_i32_154 : BitVec 32 := 1#32
  let arg11 : BitVec 32 := Scf.iv v390 c1_i32_154 k0_t2
  let v398 : BitVec 32 := Scalar.muli c2_i32 arg11
  let v399 : BitVec 32 := Scalar.subi v397 v398
  let c128_i32_165 : BitVec 32 := 128#32
  let v403 : BitVec 32 := Scalar.muli v399 c128_i32_165
  let v404 : BitVec 32 := v403
  let v473 : Index := Scalar.indexCast v404
  let c384_194 : Index := 384#32
  ![v473.toNat, 384]
def k0_cond1 (i : grid0.Coords) : BitVec 1 :=
  let arg1 : BitVec 32 := BitVec.ofNat 32 (i 1).val
  let c1_i32_155 : BitVec 32 := 1#32
  let v391 : BitVec 32 := Scalar.andi arg1 c1_i32_155
  let c1_i32_156 : BitVec 32 := 1#32
  let v392 : BitVec 1 := Scalar.cmpi .eq v391 c1_i32_156
  let v393 : BitVec 32 := Scalar.extui v392
  let c0_i32_157 : BitVec 32 := 0#32
  let v394 : BitVec 1 := Scalar.cmpi .ne v393 c0_i32_157
  v394

def k0_mult6 : BitVec 32 :=
  let c0_i32_162 : BitVec 32 := 0#32
  c0_i32_162
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== StickRefIdeal.lean ====
abbrev S32768x6656 : Shape := ⟨2, ![32768, 6656]⟩
abbrev S1x8 : Shape := ⟨2, ![1, 8]⟩
abbrev S32768x512 : Shape := ⟨2, ![32768, 512]⟩
abbrev S16x2048x8x64 : Shape := ⟨4, ![16, 2048, 8, 64]⟩
abbrev S2048 : Shape := ⟨1, ![2048]⟩
abbrev S16x8x2048x2048 : Shape := ⟨4, ![16, 8, 2048, 2048]⟩
abbrev S_ : Shape := ⟨0, ![]⟩
abbrev S8 : Shape := ⟨1, ![8]⟩
abbrev S1x8x1x1 : Shape := ⟨4, ![1, 8, 1, 1]⟩
abbrev S1x2048 : Shape := ⟨2, ![1, 2048]⟩
abbrev S2048x1 : Shape := ⟨2, ![2048, 1]⟩
abbrev S2048x2048 : Shape := ⟨2, ![2048, 2048]⟩
abbrev S16x8x64x2048 : Shape := ⟨4, ![16, 8, 64, 2048]⟩

abbrev nBuf : Space → Nat
  | .hbm => 74
  | .vmem => 0
  | .smem => 0
  | _ => 0

abbrev bufTy : (tb : Table) → Fin (tcTables nBuf tb) → BufTy
  | .hbm, ⟨0, _⟩ => ⟨S32768x6656, .f32⟩
  | .hbm, ⟨1, _⟩ => ⟨S1x8, .f32⟩
  | .hbm, ⟨2, _⟩ => ⟨S32768x512, .f32⟩
  | .hbm, ⟨3, _⟩ => ⟨S16x2048x8x64, .f32⟩
  | .hbm, ⟨4, _⟩ => ⟨S32768x512, .f32⟩
  | .hbm, ⟨5, _⟩ => ⟨S16x2048x8x64, .f32⟩
  | .hbm, ⟨6, _⟩ => ⟨S32768x512, .f32⟩
  | .hbm, ⟨7, _⟩ => ⟨S16x2048x8x64, .f32⟩
  | .hbm, ⟨8, _⟩ => ⟨S2048, .i32⟩
  | .hbm, ⟨9, _⟩ => ⟨S16x8x2048x2048, .f32⟩
  | .hbm, ⟨10, _⟩ => ⟨S_, .f32⟩
  | .hbm, ⟨11, _⟩ => ⟨S16x8x2048x2048, .f32⟩
  | .hbm, ⟨12, _⟩ => ⟨S16x8x2048x2048, .f32⟩
  | .hbm, ⟨13, _⟩ => ⟨S8, .f32⟩
  | .hbm, ⟨14, _⟩ => ⟨S1x8x1x1, .f32⟩
  | .hbm, ⟨15, _⟩ => ⟨S16x8x2048x2048, .f32⟩
  | .hbm, ⟨16, _⟩ => ⟨S16x8x2048x2048, .f32⟩
  | .hbm, ⟨17, _⟩ => ⟨S1x2048, .i32⟩
  | .hbm, ⟨18, _⟩ => ⟨S2048x1, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S16x8x2048x2048, .f32⟩
  | .hbm, ⟨23, _⟩ => ⟨S16x8x2048x2048, .f32⟩
  | .hbm, ⟨24, _⟩ => ⟨S_, .f32⟩
  | .hbm, ⟨25, _⟩ => ⟨S16x8x2048x2048, .f32⟩
  | .hbm, ⟨26, _⟩ => ⟨S16x8x2048x2048, .f32⟩
  | .hbm, ⟨27, _⟩ => ⟨S16x8x2048x2048, .f32⟩
  | .hbm, ⟨28, _⟩ => ⟨S16x8x2048x2048, .f32⟩
  | .hbm, ⟨29, _⟩ => ⟨S16x8x2048x2048, .i1⟩
  | .hbm, ⟨30, _⟩ => ⟨S16x8x2048x2048, .f32⟩
  | .hbm, ⟨31, _⟩ => ⟨S16x8x2048x2048, .f32⟩
  | .hbm, ⟨32, _⟩ => ⟨S16x8x2048x2048, .f32⟩
  | .hbm, ⟨33, _⟩ => ⟨S16x8x2048x2048, .f32⟩
  | .hbm, ⟨34, _⟩ => ⟨S16x8x2048x2048, .f32⟩
  | .hbm, ⟨35, _⟩ => ⟨S16x8x2048x2048, .f32⟩
  | .hbm, ⟨36, _⟩ => ⟨S16x8x2048x2048, .f32⟩
  | .hbm, ⟨37, _⟩ => ⟨S16x8x2048x2048, .f32⟩
  | .hbm, ⟨38, _⟩ => ⟨S16x8x2048x2048, .f32⟩
  | .hbm, ⟨39, _⟩ => ⟨S_, .f32⟩
  | .hbm, ⟨40, _⟩ => ⟨S_, .f32⟩
  | .hbm, ⟨41, _⟩ => ⟨S16x8x2048x2048, .i1⟩
  | .hbm, ⟨42, _⟩ => ⟨S16x8x2048x2048, .f32⟩
  | .hbm, ⟨43, _⟩ => ⟨S16x8x2048x2048, .f32⟩
  | .hbm, ⟨44, _⟩ => ⟨S_, .f32⟩
  | .hbm, ⟨45, _⟩ => ⟨S_, .f32⟩
  | .hbm, ⟨46, _⟩ => ⟨S16x8x2048x2048, .f32⟩
  | .hbm, ⟨47, _⟩ => ⟨S16x8x2048x2048, .f32⟩
  | .hbm, ⟨48, _⟩ => ⟨S16x8x2048x2048, .f32⟩
  | .hbm, ⟨49, _⟩ => ⟨S_, .f32⟩
  | .hbm, ⟨50, _⟩ => ⟨S16x8x2048x2048, .f32⟩
  | .hbm, ⟨51, _⟩ => ⟨S16x8x2048x2048, .f32⟩
  | .hbm, ⟨52, _⟩ => ⟨S16x8x2048x2048, .f32⟩
  | .hbm, ⟨53, _⟩ => ⟨S16x8x2048x2048, .f32⟩
  | .hbm, ⟨54, _⟩ => ⟨S16x8x2048x2048, .i1⟩
  | .hbm, ⟨55, _⟩ => ⟨S16x8x2048x2048, .f32⟩
  | .hbm, ⟨56, _⟩ => ⟨S16x8x2048x2048, .f32⟩
  | .hbm, ⟨57, _⟩ => ⟨S16x8x2048x2048, .f32⟩
  | .hbm, ⟨58, _⟩ => ⟨S16x8x2048x2048, .f32⟩
  | .hbm, ⟨59, _⟩ => ⟨S16x8x2048x2048, .f32⟩
  | .hbm, ⟨60, _⟩ => ⟨S16x8x2048x2048, .f32⟩
  | .hbm, ⟨61, _⟩ => ⟨S16x8x2048x2048, .f32⟩
  | .hbm, ⟨62, _⟩ => ⟨S16x8x2048x2048, .f32⟩
  | .hbm, ⟨63, _⟩ => ⟨S16x8x2048x2048, .f32⟩
  | .hbm, ⟨64, _⟩ => ⟨S16x8x2048x2048, .f32⟩
  | .hbm, ⟨65, _⟩ => ⟨S16x8x2048x2048, .f32⟩
  | .hbm, ⟨66, _⟩ => ⟨S_, .f32⟩
  | .hbm, ⟨67, _⟩ => ⟨S_, .f32⟩
  | .hbm, ⟨68, _⟩ => ⟨S16x8x2048x2048, .i1⟩
  | .hbm, ⟨69, _⟩ => ⟨S16x8x2048x2048, .f32⟩
  | .hbm, ⟨70, _⟩ => ⟨S16x8x2048x2048, .f32⟩
  | .hbm, ⟨71, _⟩ => ⟨S16x8x64x2048, .f32⟩
  | .hbm, ⟨72, _⟩ => ⟨S16x2048x8x64, .f32⟩
  | .hbm, ⟨73, _⟩ => ⟨S32768x512, .f32⟩
  | _, _ => ⟨S32768x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v20 : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v21 : Ref sig .tc := ⟨.hbm, 43, rfl⟩
abbrev main_call2_cst : Ref sig .tc := ⟨.hbm, 44, rfl⟩
abbrev main_call2_v0 : Ref sig .tc := ⟨.hbm, 45, rfl⟩
abbrev main_v22 : Ref sig .tc := ⟨.hbm, 46, rfl⟩
abbrev main_v23 : Ref sig .tc := ⟨.hbm, 47, rfl⟩
abbrev main_call3_v0 : Ref sig .tc := ⟨.hbm, 48, rfl⟩
abbrev main_call3_call0_cst : Ref sig .tc := ⟨.hbm, 49, rfl⟩
abbrev main_call3_call0_v0 : Ref sig .tc := ⟨.hbm, 50, rfl⟩
abbrev main_call3_call0_v1 : Ref sig .tc := ⟨.hbm, 51, rfl⟩
abbrev main_call3_call0_v2 : Ref sig .tc := ⟨.hbm, 52, rfl⟩
abbrev main_call3_call0_v3 : Ref sig .tc := ⟨.hbm, 53, rfl⟩
abbrev main_call3_call0_v4 : Ref sig .tc := ⟨.hbm, 54, rfl⟩
abbrev main_call3_call0_v5 : Ref sig .tc := ⟨.hbm, 55, rfl⟩
abbrev main_call3_call0_v6 : Ref sig .tc := ⟨.hbm, 56, rfl⟩
abbrev main_call3_call0_v7 : Ref sig .tc := ⟨.hbm, 57, rfl⟩
abbrev main_call3_call0_v8 : Ref sig .tc := ⟨.hbm, 58, rfl⟩
abbrev main_call3_call0_v9 : Ref sig .tc := ⟨.hbm, 59, rfl⟩
abbrev main_call3_call0_v10 : Ref sig .tc := ⟨.hbm, 60, rfl⟩
abbrev main_call3_call0_v11 : Ref sig .tc := ⟨.hbm, 61, rfl⟩
abbrev main_call3_v1 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_cst_1 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩

abbrev nD : Nat := 1
abbrev τ : Topo := Topo.v7x

variable {F : FTy → Type} [FloatOps F]
-- ==== Proof.RetRef.lean ====
/- What one trip of the reference's scan over the chunks computes, entry by entry: the trip's queries, keys and values as
   columns of the projection, the state that it hands on and the output of its chunk; and the sequence of the states. -/
module

public import proofs.«01_k».proof.Proof.Gen.ReferenceIdeal.Step
public import Idealize.ShloMosaic.Lib.Pipeline.ValueKit
public import Idealize.ShloMosaic.Lib.DynamicIndex

@[expose] public section

set_option maxRecDepth 16384

noncomputable section

namespace Cert.RetProof

open Idealize.ShloMosaic Idealize.ShloMosaic.TcCoe
open Cert.ReferenceIdeal Cert.ReferenceIdeal.Step

/-- The projection, the array of the reference's first argument. -/
abbrev Proj := (⟨S32768x6656, .f32⟩ : BufTy).Contents (Elt Ideal)

/-- The states of the scan: `init`, then `step` trip by trip. -/
def states (x : Proj) : ℕ → State Ideal
  | 0 => init x
  | n + 1 => step n (states x n)

theorem states_q (x : Proj) : ∀ n, (states x n).main_v14_0 = A_main_v8 x
  | 0 => rfl
  | n + 1 => states_q x n
theorem states_k (x : Proj) : ∀ n, (states x n).main_v14_1 = A_main_v10 x
  | 0 => rfl
  | n + 1 => states_k x n
theorem states_v (x : Proj) : ∀ n, (states x n).main_v14_2 = A_main_v12 x
  | 0 => rfl
  | n + 1 => states_v x n

/-- The start of trip `j`'s chunk, read signed and clamped, is `j`. -/
theorem start_eq : ∀ j : Fin 16, (min (max (BitVec.ofNat 32 j.val).toInt 0) ((16 - 1 : Nat) : Int)).toNat = j.val := by
  decide

/-- The row of the projection that holds token `i` of chunk `j` of batch entry `b`. -/
abbrev tok (b j : Fin 16) (i : Fin 128) : Fin 32768 := ⟨2048 * b.val + 128 * j.val + i.val, by omega⟩

theorem fits_qk (j : Fin 16) : S16x16x128x4x128.Slices ![j.val, 0, 0, 0, 0] S1x16x128x4x128 := by
  have := j.isLt
  refine ⟨rfl, fun a => ?_⟩
  match a with
  | ⟨0, _⟩ => show j.val + 1 ≤ 16; omega
  | ⟨1, _⟩ => show 0 + 16 ≤ 16; decide
  | ⟨2, _⟩ => show 0 + 128 ≤ 128; decide
  | ⟨3, _⟩ => show 0 + 4 ≤ 4; decide
  | ⟨4, _⟩ => show 0 + 128 ≤ 128; decide
theorem fits_v (j : Fin 16) : S16x16x128x4x256.Slices ![j.val, 0, 0, 0, 0] S1x16x128x4x256 := by
  have := j.isLt
  refine ⟨rfl, fun a => ?_⟩
  match a with
  | ⟨0, _⟩ => show j.val + 1 ≤ 16; omega
  | ⟨1, _⟩ => show 0 + 16 ≤ 16; decide
  | ⟨2, _⟩ => show 0 + 128 ≤ 128; decide
  | ⟨3, _⟩ => show 0 + 4 ≤ 4; decide
  | ⟨4, _⟩ => show 0 + 256 ≤ 256; decide

/-- Trip `j` reads chunk `j` of the queries, the keys and the values, and writes chunk `j` of the outputs. -/
theorem slice_q (j : Fin 16) (s : State Ideal) :
    b4 j.val s = extractStridedSlice S1x16x128x4x128 ![j.val, 0, 0, 0, 0] s.main_v14_0 (fits_qk j) :=
  Host.dynamicSlice_eq_extractStridedSlice_of_clamp _ _ _ _ _ (fun a => by
    match a with
    | ⟨0, _⟩ => exact start_eq j
    | ⟨1, _⟩ | ⟨2, _⟩ | ⟨3, _⟩ | ⟨4, _⟩ => rfl) _
theorem slice_k (j : Fin 16) (s : State Ideal) :
    b10 j.val s = extractStridedSlice S1x16x128x4x128 ![j.val, 0, 0, 0, 0] s.main_v14_1 (fits_qk j) :=
  Host.dynamicSlice_eq_extractStridedSlice_of_clamp _ _ _ _ _ (fun a => by
    match a with
    | ⟨0, _⟩ => exact start_eq j
    | ⟨1, _⟩ | ⟨2, _⟩ | ⟨3, _⟩ | ⟨4, _⟩ => rfl) _
theorem slice_v (j : Fin 16) (s : State Ideal) :
    b16 j.val s = extractStridedSlice S1x16x128x4x256 ![j.val, 0, 0, 0, 0] s.main_v14_2 (fits_v j) :=
  Host.dynamicSlice_eq_extractStridedSlice_of_clamp _ _ _ _ _ (fun a => by
    match a with
    | ⟨0, _⟩ => exact start_eq j
    | ⟨1, _⟩ | ⟨2, _⟩ | ⟨3, _⟩ | ⟨4, _⟩ => rfl) _
theorem slice_out (j : Fin 16) (s : State Ideal) :
    b100 j.val s = updateSlice s.main_v14_5 (b95 j.val s) ![j.val, 0, 0, 0, 0] (fits_v j) :=
  Host.dynamicUpdateSlice_eq_updateSlice _ _ _ _ _ (fun a => by
    match a with
    | ⟨0, _⟩ => exact start_eq j
    | ⟨1, _⟩ | ⟨2, _⟩ | ⟨3, _⟩ | ⟨4, _⟩ => rfl) _

theorem chunk_q (x : Proj) (j b : Fin 16) (i : Fin 128) (h : Fin 4) (d : Fin 128) :
    b5 j.val (states x j.val) (ix4 b i h d) = x (ix2 (tok b j i) (⟨1536 + 128 * h.val + d.val, by omega⟩ : Fin 6656)) := by
  pointwise [b5, slice_q, states_q, A_main_v8, A_main_v7, A_main_v1, A_main_v0]
  blk_ext
theorem chunk_k (x : Proj) (j b : Fin 16) (i : Fin 128) (h : Fin 4) (d : Fin 128) :
    b11 j.val (states x j.val) (ix4 b i h d) = x (ix2 (tok b j i) (⟨2048 + 128 * h.val + d.val, by omega⟩ : Fin 6656)) := by
  pointwise [b11, slice_k, states_k, A_main_v10, A_main_v9, A_main_v3, A_main_v2]
  blk_ext
theorem chunk_v (x : Proj) (j b : Fin 16) (i : Fin 128) (h : Fin 4) (e : Fin 256) :
    b17 j.val (states x j.val) (ix4 b i h e) = x (ix2 (tok b j i) (⟨2560 + 256 * h.val + e.val, by omega⟩ : Fin 6656)) := by
  pointwise [b17, slice_v, states_v, A_main_v12, A_main_v11, A_main_v5, A_main_v4]
  blk_ext

/-- The state that trip `j` hands on: the decayed state and the chunk's decayed keys against its values. -/
theorem next_at (x : Proj) (j b : Fin 16) (h : Fin 4) (d : Fin 128) (e : Fin 256) :
    (states x (j.val + 1)).main_v14_4 (ix4 b h d e)
      = b85 j.val (states x j.val) (ix1 h) * (states x j.val).main_v14_4 (ix4 b h d e)
        + ∑ i : Fin 128, x (ix2 (tok b j i) (⟨2048 + 128 * h.val + d.val, by omega⟩ : Fin 6656))
            * b81 j.val (states x j.val) (ix2 i h)
            * x (ix2 (tok b j i) (⟨2560 + 256 * h.val + e.val, by omega⟩ : Fin 6656)) := by
  show b93 j.val (states x j.val) (ix4 b h d e) = _
  pointwise [b93, b88, b87, b86, b92, b91, b90, b89, chunk_k, chunk_v]

/-- The chunk's output: its tokens' decayed scores against its values, and its queries against the decayed state. -/
def chunkOut (x : Proj) (j b : Fin 16) (h : Fin 4) (i : Fin 128) (e : Fin 256) : Elt Ideal .f32 :=
  ∑ k : Fin 128, x (ix2 (tok b j k) (⟨2560 + 256 * h.val + e.val, by omega⟩ : Fin 6656))
      * ((∑ d : Fin 128, x (ix2 (tok b j i) (⟨1536 + 128 * h.val + d.val, by omega⟩ : Fin 6656))
          * x (ix2 (tok b j k) (⟨2048 + 128 * h.val + d.val, by omega⟩ : Fin 6656)))
        * b52 j.val (states x j.val) (ix3 h i k))
    + (∑ d : Fin 128, (states x j.val).main_v14_4 (ix4 b h d e)
        * x (ix2 (tok b j i) (⟨1536 + 128 * h.val + d.val, by omega⟩ : Fin 6656))) * b67 j.val (states x j.val) (ix2 i h)

theorem out_at (x : Proj) (j b : Fin 16) (h : Fin 4) (i : Fin 128) (e : Fin 256) :
    b94 j.val (states x j.val) (ix4 b i h e) = chunkOut x j b h i e := by
  unfold chunkOut
  pointwise [b94, b58, b57, b56, b55, b54, b53, b72, b71, b70, b69, b68, chunk_q, chunk_k, chunk_v]

/-- Trip `j` writes its chunk of the outputs and leaves the others. -/
theorem outs_step (x : Proj) (j k b : Fin 16) (h : Fin 4) (i : Fin 128) (e : Fin 256) :
    (states x (j.val + 1)).main_v14_5 (ix5 k b i h e)
      = if k = j then chunkOut x j b h i e else (states x j.val).main_v14_5 (ix5 k b i h e) := by
  show b100 j.val (states x j.val) (ix5 k b i h e) = _
  rw [slice_out, ← out_at]
  pointwise [b95]
  have e : (j.val ≤ k.val ∧ k.val < j.val + 1) ↔ k = j := by
    constructor
    · intro h; exact Fin.ext (by omega)
    · intro h; subst h; omega
  simp only [e, dite_eq_ite]

/-- After the scan chunk `k` of the outputs is what trip `k` wrote. -/
theorem outs_at (x : Proj) (k b : Fin 16) (h : Fin 4) (i : Fin 128) (e : Fin 256) : ∀ n ≤ 16, k.val < n →
    (states x n).main_v14_5 (ix5 k b i h e) = chunkOut x k b h i e
  | 0, _, h => absurd h (Nat.not_lt_zero _)
  | n + 1, hn, hk => by
    rw [outs_step x ⟨n, hn⟩]
    split
    next hj => rw [hj]
    next hj => exact outs_at x k b h i e n (by omega) (by
      have : k.val ≠ n := fun hh => hj (Fin.ext hh)
      omega)

/-- A gate's logistic weight. -/
def gate (z : Elt Ideal .f32) : Elt Ideal .f32 := z * Ideal.div 1 (1 + Ideal.exp (-z))

/-- The first result at token `i` of chunk `j`, of the stacked outputs: the output normalized over its head and gated. -/
theorem res_of (s : State Ideal) (x : Proj) (g : (⟨S1x4x256, .f32⟩ : BufTy).Contents (Elt Ideal)) (b j : Fin 16)
    (i : Fin 128) (h : Fin 4) (e : Fin 256) :
    R_main_v35 s x g (ix2 (tok b j i) (⟨256 * h.val + e.val, by omega⟩ : Fin 1024))
      = s.main_v14_5 (ix5 j b i h e) * Ideal.rsqrt (Ideal.div (∑ k : Fin 256, s.main_v14_5 (ix5 j b i h k)
          * s.main_v14_5 (ix5 j b i h k)) (Ideal.ofBits FTy.f32 1132462080#32) + Ideal.ofBits FTy.f32 897988541#32)
        * g (ix3 0 h e) * gate (x (ix2 (tok b j i) (⟨3584 + 256 * h.val + e.val, by omega⟩ : Fin 6656))) := by
  unfold R_main_v35 gate
  have e1 : (2048 * b.val + 128 * j.val + i.val) / 2048 = b.val := by omega
  have e2 : b.val * 2048 + (2048 * b.val + 128 * j.val + i.val) % 2048 = 2048 * b.val + 128 * j.val + i.val := by omega
  have e3 : 3584 + (h.val * 256 + e.val) = 3584 + 256 * h.val + e.val := by omega
  pointwise [e1, e2, e3]

/-- The reference's first result: a chunk's output, normalized over its head and gated. -/
def resAt (x : Proj) (g : (⟨S1x4x256, .f32⟩ : BufTy).Contents (Elt Ideal)) (b j : Fin 16) (i : Fin 128) (h : Fin 4)
    (e : Fin 256) : Elt Ideal .f32 :=
  chunkOut x j b h i e * Ideal.rsqrt (Ideal.div (∑ k : Fin 256, chunkOut x j b h i k * chunkOut x j b h i k)
      (Ideal.ofBits FTy.f32 1132462080#32) + Ideal.ofBits FTy.f32 897988541#32) * g (ix3 0 h e)
    * gate (x (ix2 (tok b j i) (⟨3584 + 256 * h.val + e.val, by omega⟩ : Fin 6656)))

theorem res_at (x : Proj) (g : (⟨S1x4x256, .f32⟩ : BufTy).Contents (Elt Ideal)) (b j : Fin 16) (i : Fin 128) (h : Fin 4)
    (e : Fin 256) (s : State Ideal) (hs : s = states x 16) :
    R_main_v35 s x g (ix2 (tok b j i) (⟨256 * h.val + e.val, by omega⟩ : Fin 1024)) = resAt x g b j i h e := by
  have o : ∀ k, s.main_v14_5 (ix5 j b i h k) = chunkOut x j b h i k := fun k => by
    rw [hs]; exact outs_at x j b h i k 16 (le_refl _) j.isLt
  rw [res_of]
  simp only [o]
  rfl

end Cert.RetProof

end
-- ==== Proof.RetRun.lean ====
/- The reference's loop, run: before each trip the loop's buffers hold the state that the trips so far have made, so that the
   results are those of the sixteenth state. -/
module

public import proofs.«01_k».proof.Proof.Gen.ReferenceIdeal.Run
public import proofs.«01_k».proof.Proof.RetRef

@[expose] public section

set_option maxRecDepth 16384

noncomputable section

namespace Cert.RetProof

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

/-- The buffers hold state `s` and the number `j` of the trip to come. -/
structure Carries (X : Valuation τ sig (Elt Ideal)) (s : State Ideal) (j : ℕ) : Prop where
  num : X (Proc.devRef .tc main_v14_3) = constantI S_ 32 (BitVec.ofNat 32 j)
  sta : X (Proc.devRef .tc main_v14_4) = s.main_v14_4
  out : X (Proc.devRef .tc main_v14_5) = s.main_v14_5
  qs : X (Proc.devRef .tc main_v14_0) = s.main_v14_0
  ks : X (Proc.devRef .tc main_v14_1) = s.main_v14_1
  vs : X (Proc.devRef .tc main_v14_2) = s.main_v14_2

/-- A trip leaves the next state's retention state in its buffer. -/
theorem carries_sta {X : Valuation τ sig (Elt Ideal)} {s : State Ideal} {j : ℕ} (h : Carries X s j) :
    step_main_v14_4 X = (step j s).main_v14_4 := by
  obtain ⟨n, a, b, c, d, e⟩ := h
  cases s
  dsimp only at a b c d e
  subst a b c d e
  unfold step_main_v14_4 step
  dsimp only
  unfold Cert.ReferenceIdeal.Step.b93
  simp only [res_main_while0b_v36, res_main_while0b_v37, res_main_while0b_v38, n]
  rfl

/-- A trip leaves the next state's outputs in their buffer. -/
theorem carries_out {X : Valuation τ sig (Elt Ideal)} {s : State Ideal} {j : ℕ} (h : Carries X s j) :
    step_main_v14_5 X = (step j s).main_v14_5 := by
  obtain ⟨n, a, b, c, d, e⟩ := h
  cases s
  dsimp only at a b c d e
  subst a b c d e
  unfold step_main_v14_5 step
  dsimp only
  unfold Cert.ReferenceIdeal.Step.b100
  simp only [res_main_while0b_v36, res_main_while0b_v37, res_main_while0b_v38, n]
  rfl

/-- A trip turns the buffers that carry a state into buffers that carry the next. -/
theorem carries_next {X : Valuation τ sig (Elt Ideal)} {s : State Ideal} {j : ℕ} (h : Carries X s j) :
    Carries (STEP X) (step j s) (j + 1) where
  num := by
    rw [STEP_main_v14_3]
    unfold step_main_v14_3
    rw [h.num]
    funext i
    show BitVec.ofNat 32 j + 1#32 = BitVec.ofNat 32 (j + 1)
    rw [BitVec.ofNat_add]
  sta := (STEP_main_v14_4 X).trans (carries_sta h)
  out := (STEP_main_v14_5 X).trans (carries_out h)
  qs := (STEP_main_v14_0 X).trans h.qs
  ks := (STEP_main_v14_1 X).trans h.ks
  vs := (STEP_main_v14_2 X).trans h.vs

variable (m : (ℓ : Loc nD τ sig) → Buf (Elt Ideal) ℓ)

/-- What stands in the buffers when the loop is reached: the first state. -/
theorem carries_first (c : Dev nD) :
    Carries (entryContents preI m c) (states (m ((c.tc : Thread nD τ).loc main_arg0)) 0) 0 := by
  constructor <;> (simp only [entryContents, afterL_cons, afterL_nil]; after_reads_simp) <;> rfl

/-- After `k` trips the buffers carry state `k`. -/
theorem carries (c : Dev nD) (k : ℕ) :
    Carries (STEP^[k] (entryContents preI m c)) (states (m ((c.tc : Thread nD τ).loc main_arg0)) k) k := by
  induction k with
  | zero => exact carries_first m c
  | succ k ih => rw [Function.iterate_succ_apply']; exact carries_next ih

/-- The reference ends with its outputs read off state 16, that state's retention state, and its arguments as they were. -/
theorem ref_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v35) = Cert.ReferenceIdeal.Step.R_main_v35
          (states (m ((c.tc : Thread nD τ).loc main_arg0)) 16) (m ((c.tc : Thread nD τ).loc main_arg0))
          (m ((c.tc : Thread nD τ).loc main_arg1))
      ∧ r.2.mem ((c.tc : Thread nD τ).loc main_v14_4) = (states (m ((c.tc : Thread nD τ).loc main_arg0)) 16).main_v14_4
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by
      unfold out_main_v35 Cert.ReferenceIdeal.Step.R_main_v35
      rw [(carries m c 16).out, iter_main_arg0, iter_main_arg1]
      rfl), (h c).2.1.trans (carries m c 16).sta, (h c).2.2⟩) (Cert.ReferenceIdeal.Value.run m ρ)

end Cert.RetProof

end
-- ==== Proof.ProjMath.lean ====
/- What the projection's proof needs of the extended reals: a row scaled by its root mean square is finite whatever the
   row holds, a finite sum of finite terms is finite, and the mean of the squares of one group of columns is their
   product with the matrix that averages within groups. -/
module

public import Idealize.ShloMosaic.PureOps.Ideal
public import Mathlib.Algebra.BigOperators.Fin

@[expose] public section

noncomputable section

namespace Cert.ProjProof

open Idealize.ShloMosaic

theorem sq_nonneg_ext (v : EReal) : 0 ≤ v * v := by
  induction v with
  | bot => simp
  | top => simp
  | coe r => rw [← EReal.coe_mul]; exact_mod_cast mul_self_nonneg r

theorem real_of_sq_le (v : EReal) (s : ℝ) (h : v * v ≤ (s : EReal)) : ∃ y : ℝ, v = (y : EReal) := by
  induction v with
  | bot => simp at h
  | top => simp at h
  | coe r => exact ⟨r, rfl⟩

/-- An entry of a row, scaled by one over the root of the row's mean square plus a positive constant, is a real number:
    of a row with an infinite entry the scale is zero. -/
theorem scaled_real {n : ℕ} (x : Fin n → EReal) (j : Fin n) (p q : ℝ) (hp : 0 < p) (hq : 0 < q) :
    ∃ r : ℝ, x j * Ideal.rsqrt ((∑ k, x k * x k) * (p : EReal) + (q : EReal)) = (r : EReal) := by
  have hb : (0 : EReal) ≤ ∑ k, x k * x k := Finset.sum_nonneg fun k _ => sq_nonneg_ext (x k)
  by_cases h : ∑ k, x k * x k = ⊤
  · rw [h, EReal.top_mul_coe_of_pos hp, EReal.top_add_coe, Ideal.rsqrt_top, mul_zero]
    exact ⟨0, rfl⟩
  · obtain ⟨s, hs⟩ : ∃ s : ℝ, ∑ k, x k * x k = (s : EReal) :=
      ⟨_, (EReal.coe_toReal h (ne_of_gt (EReal.bot_lt_zero.trans_le hb))).symm⟩
    have hx : x j * x j ≤ (s : EReal) :=
      hs ▸ Finset.single_le_sum (f := fun k => x k * x k) (fun k _ => sq_nonneg_ext (x k)) (Finset.mem_univ j)
    obtain ⟨y, hy⟩ := real_of_sq_le _ s hx
    have s0 : 0 ≤ s := by rw [hs] at hb; exact_mod_cast hb
    have pos : 0 < s * p + q := by positivity
    rw [hs, hy, ← EReal.coe_mul, ← EReal.coe_add, Ideal.rsqrt_coe, if_neg (not_lt.2 pos.le), if_neg pos.ne', ← EReal.coe_mul]
    exact ⟨_, rfl⟩

theorem sum_coe {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

theorem sum_real {n : ℕ} (f : Fin n → EReal) (h : ∀ k, ∃ r : ℝ, f k = (r : EReal)) : ∃ r : ℝ, ∑ k, f k = (r : EReal) := by
  choose g hg using h
  exact ⟨∑ k, g k, by rw [← sum_coe]; exact Finset.sum_congr rfl fun k _ => hg k⟩

theorem mul_real {a b : EReal} (ha : ∃ r : ℝ, a = (r : EReal)) (hb : ∃ r : ℝ, b = (r : EReal)) : ∃ r : ℝ, a * b = (r : EReal) := by
  obtain ⟨x, rfl⟩ := ha
  obtain ⟨y, rfl⟩ := hb
  exact ⟨x * y, (EReal.coe_mul x y).symm⟩

/-- Column `d` of the group of 64 that column `j` lies in. -/
abbrev mate (j : Fin 512) (d : Fin 64) : Fin 512 := ⟨j.val / 64 * 64 + d.val, by omega⟩

theorem group_sum (r : Fin 512 → ℝ) (j : Fin 512) :
    ∑ k : Fin 512, r k * (if k.val / 64 = j.val / 64 then (1 / 64 : ℝ) else 0) = (∑ d : Fin 64, r (mate j d)) * (1 / 64) := by
  rw [← Fintype.sum_equiv (finProdFinEquiv : Fin 8 × Fin 64 ≃ Fin 512)
    (fun p => r (finProdFinEquiv p : Fin 512) * (if (finProdFinEquiv p : Fin 512).val / 64 = j.val / 64 then (1 / 64 : ℝ) else 0)) _
    (fun _ => rfl), Fintype.sum_prod_type, Finset.sum_eq_single (⟨j.val / 64, by omega⟩ : Fin 8)]
  · rw [Finset.sum_mul]
    refine Finset.sum_congr rfl fun d _ => ?_
    have e : (finProdFinEquiv ((⟨j.val / 64, by omega⟩ : Fin 8), d) : Fin 512) = mate j d :=
      Fin.ext (show d.val + 64 * (j.val / 64) = j.val / 64 * 64 + d.val by omega)
    rw [e, if_pos (show (j.val / 64 * 64 + d.val) / 64 = j.val / 64 by omega)]
  · intro i _ hi
    refine Finset.sum_eq_zero fun d _ => ?_
    rw [if_neg, mul_zero]
    intro h
    have h' : (d.val + 64 * i.val) / 64 = j.val / 64 := h
    exact hi (Fin.ext (show i.val = j.val / 64 by omega))
  · exact fun h => absurd (Finset.mem_univ _) h

/-- The product of the squares, cut into a rounded part and a rest, with the averaging matrix is the mean over the
    column's group: of finite squares the rest is zero, nothing being rounded here. -/
theorem group_mean (a M : Fin 512 → EReal) (j : Fin 512) (ha : ∀ k, ∃ r : ℝ, a k = (r : EReal))
    (hM : ∀ k, M k = if k.val / 64 = j.val / 64 then ((1 / 64 : ℝ) : EReal) else 0) :
    (∑ k, a k * a k * M k) + (∑ k, (a k * a k - a k * a k) * M k)
      = (∑ d : Fin 64, a (mate j d) * a (mate j d)) * ((1 / 64 : ℝ) : EReal) := by
  choose r hr using ha
  have z : ∑ k, (a k * a k - a k * a k) * M k = 0 := Finset.sum_eq_zero fun k _ => by
    rw [hr k, ← EReal.coe_mul, ← EReal.coe_sub, sub_self, EReal.coe_zero, zero_mul]
  have f : ∀ k, a k * a k * M k = ((r k * r k * (if k.val / 64 = j.val / 64 then (1 / 64 : ℝ) else 0) : ℝ) : EReal) := fun k => by
    rw [hr k, hM k]
    split <;> simp [EReal.coe_mul]
  have g : ∀ d, a (mate j d) * a (mate j d) = ((r (mate j d) * r (mate j d) : ℝ) : EReal) := fun d => by rw [hr, EReal.coe_mul]
  rw [z, add_zero, Finset.sum_congr rfl fun k _ => f k, Finset.sum_congr rfl fun d _ => g d, sum_coe, sum_coe,
    group_sum (fun k => r k * r k) j, EReal.coe_mul]

/-- A rotation written half by half: the first half of the head against the second, and the second against the first. -/
theorem halves (x : Fin 128 → EReal) (C S : Fin 64 → EReal) (e : Fin 128) :
    (if h : e.val < 64 then x ⟨e.val, by omega⟩ * C ⟨e.val, h⟩ - x ⟨64 + e.val, by omega⟩ * S ⟨e.val, h⟩
      else x ⟨e.val - 64, by omega⟩ * S ⟨e.val - 64, by omega⟩ + x ⟨64 + (e.val - 64), by omega⟩ * C ⟨e.val - 64, by omega⟩)
    = x e * C ⟨e.val % 64, by omega⟩ + x ⟨(e.val + 64) % 128, by omega⟩ *
        if e.val < 64 then - S ⟨e.val % 64, by omega⟩ else S ⟨e.val % 64, by omega⟩ := by
  by_cases h : e.val < 64
  · rw [dif_pos h, if_pos h, mul_neg, ← sub_eq_add_neg]
    simp only [Nat.mod_eq_of_lt h, Nat.mod_eq_of_lt (show e.val + 64 < 128 by omega), Nat.add_comm 64]
  · rw [dif_neg h, if_neg h, add_comm]
    simp only [show e.val % 64 = e.val - 64 by omega, show (e.val + 64) % 128 = e.val - 64 by omega,
      show 64 + (e.val - 64) = e.val by omega]

end Cert.ProjProof

end
-- ==== Proof.ProjRead.lean ====
/- The projection's reference, read entry by entry: the joined array band by band, the norm of a group of 64 columns and
   the rotation of a head of 128 in terms of the product of the normalized rows with the weights. -/
module

public import proofs.«01_k».proof.Proof.Gen.ProjRefIdeal.Read
public import proofs.«01_k».proof.Proof.ProjMath
public import Idealize.ShloMosaic.Lib.Pipeline.ValueKit

@[expose] public section

set_option maxRecDepth 16384

noncomputable section

namespace Cert.ProjProof

open Idealize.ShloMosaic Idealize.ShloMosaic.TcCoe Idealize.SL.Sem
open Cert.ProjRefIdeal Cert.ProjRefIdeal.Gen Cert.ProjRefIdeal.Read

variable (X : (⟨S16x2048x1024, .f32⟩ : BufTy).Contents (Elt Ideal)) (G : (⟨S1x1024, .f32⟩ : BufTy).Contents (Elt Ideal))
  (W : (⟨S1x1024x6656, .f32⟩ : BufTy).Contents (Elt Ideal)) (Q K : (⟨S1x64, .f32⟩ : BufTy).Contents (Elt Ideal))

/-- The product of the normalized rows with column `j` of the weights. -/
theorem prod_apply (b : Fin 16) (p : Fin 2048) (j : Fin 6656) :
    val_main_v15 (F := Ideal) X G W (ix3 b p j) = ∑ k : Fin 1024, val_main_v13 (F := Ideal) X G (ix3 b p k) * W (ix3 0 k j) := by
  unfold val_main_v15
  generalize val_main_v13 (F := Ideal) X G = H
  pointwise [val_main_v14]

theorem ofBits_1024 : Ideal.ofBits .f32 0x44800000#32 = ((1024 : ℝ) : EReal) := by
  simp [Ideal.ofBits, Ideal.ieee]; norm_num; rw [← EReal.coe_mul]; norm_num
theorem ofBits_64 : Ideal.ofBits .f32 0x42800000#32 = ((64 : ℝ) : EReal) := by
  simp [Ideal.ofBits, Ideal.ieee]; norm_num; rw [← EReal.coe_mul]; norm_num
theorem ofBits_eps : Ideal.ofBits .f32 0x358637BD#32 = ((8796093 / 2 ^ 43 : ℝ) : EReal) := by
  simp [Ideal.ofBits, Ideal.ieee]; norm_num; rw [← EReal.coe_mul]; norm_num

/-- A normalized row is finite where the gain is. -/
theorem row_real (hG : ∀ k : Fin 1024, ∃ r : ℝ, G (ix2 0 k) = (r : EReal)) (b : Fin 16) (p : Fin 2048) (k : Fin 1024) :
    ∃ r : ℝ, val_main_v13 (F := Ideal) X G (ix3 b p k) = (r : EReal) := by
  have h := scaled_real (fun k : Fin 1024 => X (ix3 b p k)) k (1 / 1024) (8796093 / 2 ^ 43) (by norm_num) (by norm_num)
  pointwise [val_main_v0, val_main_v1, val_main_cst, val_main_v2, val_main_v3, val_main_cst_0, val_main_v4, val_main_v5, val_main_cst_1,
    val_main_v6, val_main_v7, val_main_v8, val_main_v9, val_main_v10, val_main_v11, val_main_v12, val_main_v13]
  rw [ofBits_1024, Ideal.div_coe (by norm_num), ofBits_eps]
  exact mul_real h (hG k)

/-- So is their product with finite weights. -/
theorem prod_real (hG : ∀ k : Fin 1024, ∃ r : ℝ, G (ix2 0 k) = (r : EReal)) (b : Fin 16) (p : Fin 2048) (j : Fin 6656)
    (hW : ∀ k : Fin 1024, ∃ r : ℝ, W (ix3 0 k j) = (r : EReal)) :
    ∃ r : ℝ, val_main_v15 (F := Ideal) X G W (ix3 b p j) = (r : EReal) := by
  rw [prod_apply]
  exact sum_real _ fun k => mul_real (row_real X G hG b p k) (hW k)

/-- One over the root of a group's mean square. -/
abbrev scale (a : Fin 64 → EReal) : EReal :=
  Ideal.rsqrt ((∑ d : Fin 64, a d * a d) * ((1 / 64 : ℝ) : EReal) + Ideal.ofBits .f32 0x358637BD#32)

/-- A head of 128 columns rotated by the position's angles: the first half against the second. -/
def turn (x : Fin 128 → EReal) (p : Fin 2048) (e : Fin 128) : EReal :=
  x e * val_main_v64 (F := Ideal) (ix2 p (⟨e.val % 64, by omega⟩ : Fin 64))
    + x (⟨(e.val + 64) % 128, by omega⟩ : Fin 128)
      * if e.val < 64 then - val_main_v66 (F := Ideal) (ix2 p (⟨e.val % 64, by omega⟩ : Fin 64))
        else val_main_v66 (F := Ideal) (ix2 p (⟨e.val % 64, by omega⟩ : Fin 64))

theorem queries_apply (b : Fin 16) (p : Fin 2048) (j : Fin 512) :
    val_main_v115 (F := Ideal) X G W Q (ix3 b p j)
      = val_main_v15 (F := Ideal) X G W (ix3 b p (⟨j.val, by omega⟩ : Fin 6656))
        * scale (fun d => val_main_v15 (F := Ideal) X G W (ix3 b p (⟨(mate j d).val, by omega⟩ : Fin 6656)))
        * Q (ix2 0 (⟨j.val % 64, by omega⟩ : Fin 64)) := by
  unfold val_main_v115 val_main_v32 val_main_v29 val_main_v28 val_main_v27 val_main_v26 val_main_v24 val_main_v22 val_main_v21
    val_main_v20 val_main_v18 val_main_v17
  generalize val_main_v15 (F := Ideal) X G W = A
  pointwise [val_main_v19, val_main_cst_2, val_main_cst_3, val_main_v23, val_main_cst_4, val_main_v25, val_main_v30, val_main_v31]
  rw [ofBits_64, Ideal.div_coe (by norm_num)]

theorem keys_apply (b : Fin 16) (p : Fin 2048) (j : Fin 512) :
    val_main_v114 (F := Ideal) X G W K (ix3 b p j)
      = val_main_v15 (F := Ideal) X G W (ix3 b p (⟨512 + j.val, by omega⟩ : Fin 6656))
        * scale (fun d => val_main_v15 (F := Ideal) X G W (ix3 b p (⟨512 + (mate j d).val, by omega⟩ : Fin 6656)))
        * K (ix2 0 (⟨j.val % 64, by omega⟩ : Fin 64)) := by
  unfold val_main_v114 val_main_v48 val_main_v45 val_main_v44 val_main_v43 val_main_v42 val_main_v40 val_main_v38 val_main_v37
    val_main_v36 val_main_v34 val_main_v33
  generalize val_main_v15 (F := Ideal) X G W = A
  pointwise [val_main_v35, val_main_cst_5, val_main_cst_6, val_main_v39, val_main_cst_7, val_main_v41, val_main_v46, val_main_v47]
  rw [ofBits_64, Ideal.div_coe (by norm_num)]

theorem turned_queries (b : Fin 16) (p : Fin 2048) (h : Fin 4) (e : Fin 128) :
    val_main_v80 (F := Ideal) X G W (ix4 b p h e)
      = turn (fun e => val_main_v15 (F := Ideal) X G W (ix3 b p (⟨1536 + (h.val * 128 + e.val), by omega⟩ : Fin 6656))) p e := by
  unfold val_main_v80 val_main_v79 val_main_v78 val_main_v77 val_main_v76 val_main_v75 val_main_v74 val_main_v73 val_main_v72 val_main_v71
    val_main_v70 val_main_v69 val_main_v68 val_main_v67 val_main_v65 val_main_v51 val_main_v50 turn
  generalize val_main_v15 (F := Ideal) X G W = A
  generalize val_main_v64 (F := Ideal) = C
  generalize val_main_v66 (F := Ideal) = S
  pointwise
  exact halves (fun e => A (ix3 b p (⟨1536 + (h.val * 128 + e.val), by omega⟩ : Fin 6656))) (fun d => C (ix2 p d)) (fun d => S (ix2 p d)) e

theorem turned_keys (b : Fin 16) (p : Fin 2048) (h : Fin 4) (e : Fin 128) :
    val_main_v111 (F := Ideal) X G W (ix4 b p h e)
      = turn (fun e => val_main_v15 (F := Ideal) X G W (ix3 b p (⟨2048 + (h.val * 128 + e.val), by omega⟩ : Fin 6656))) p e := by
  have hc : val_main_v95 (F := Ideal) = val_main_v64 (F := Ideal) := rfl
  have hs : val_main_v97 (F := Ideal) = val_main_v66 (F := Ideal) := rfl
  unfold val_main_v111 val_main_v110 val_main_v109 val_main_v108 val_main_v107 val_main_v106 val_main_v105 val_main_v104 val_main_v103
    val_main_v102 val_main_v101 val_main_v100 val_main_v99 val_main_v98 val_main_v96 val_main_v82 val_main_v81 turn
  rw [hc, hs]
  generalize val_main_v15 (F := Ideal) X G W = A
  generalize val_main_v64 (F := Ideal) = C
  generalize val_main_v66 (F := Ideal) = S
  pointwise
  exact halves (fun e => A (ix3 b p (⟨2048 + (h.val * 128 + e.val), by omega⟩ : Fin 6656))) (fun d => C (ix2 p d)) (fun d => S (ix2 p d)) e

/-! The joined array, band by band. -/

/-- Entries at the same place. -/
theorem at3 {w : ℕ} (A : (⟨⟨3, ![16, 2048, w]⟩, .f32⟩ : BufTy).Contents (Elt Ideal)) {u u' : Fin 16} {v v' : Fin 2048} {j j' : Fin w}
    (hu : u.val = u'.val) (hv : v.val = v'.val) (hj : j.val = j'.val) : A (ix3 u v j) = A (ix3 u' v' j') := by
  rw [Fin.ext hu, Fin.ext hv, Fin.ext hj]
theorem at4 (A : (⟨S16x2048x4x128, .f32⟩ : BufTy).Contents (Elt Ideal)) {u u' : Fin 16} {v v' : Fin 2048} {h h' : Fin 4}
    {e e' : Fin 128} (hu : u.val = u'.val) (hv : v.val = v'.val) (hh : h.val = h'.val) (he : e.val = e'.val) :
    A (ix4 u v h e) = A (ix4 u' v' h' e') := by
  rw [Fin.ext hu, Fin.ext hv, Fin.ext hh, Fin.ext he]

section bands

variable (n : Fin 32768) (b : Fin 16) (p : Fin 2048) (hn : n.val = b.val * 2048 + p.val)
include hn

theorem join_queries (j : Fin 512) :
    val_main_v120 (F := Ideal) X G W Q K (ix2 n (⟨0 + j.val, by omega⟩ : Fin 6656)) = val_main_v115 (F := Ideal) X G W Q (ix3 b p j) := by
  unfold val_main_v120 val_main_v119
  generalize val_main_v115 (F := Ideal) X G W Q = A
  pointwise
  exact at3 A (by dsimp only; omega) (by dsimp only; omega) rfl

theorem join_keys (j : Fin 512) :
    val_main_v120 (F := Ideal) X G W Q K (ix2 n (⟨512 + j.val, by omega⟩ : Fin 6656)) = val_main_v114 (F := Ideal) X G W K (ix3 b p j) := by
  unfold val_main_v120 val_main_v119
  generalize val_main_v114 (F := Ideal) X G W K = A
  pointwise
  exact at3 A (by dsimp only; omega) (by dsimp only; omega) rfl

theorem join_values (j : Fin 512) :
    val_main_v120 (F := Ideal) X G W Q K (ix2 n (⟨1024 + j.val, by omega⟩ : Fin 6656))
      = val_main_v15 (F := Ideal) X G W (ix3 b p (⟨1024 + j.val, by omega⟩ : Fin 6656)) := by
  unfold val_main_v120 val_main_v119 val_main_v49
  generalize val_main_v15 (F := Ideal) X G W = A
  pointwise
  rw [dif_neg (by omega), dif_neg (by omega), dif_pos (by omega)]
  exact at3 A (by dsimp only; omega) (by dsimp only; omega) (by dsimp only; omega)

theorem join_rest (j : Fin 4096) :
    val_main_v120 (F := Ideal) X G W Q K (ix2 n (⟨2560 + j.val, by omega⟩ : Fin 6656))
      = val_main_v15 (F := Ideal) X G W (ix3 b p (⟨2560 + j.val, by omega⟩ : Fin 6656)) := by
  unfold val_main_v120 val_main_v119 val_main_v118
  generalize val_main_v15 (F := Ideal) X G W = A
  pointwise
  rw [dif_neg (by omega), dif_neg (by omega), dif_neg (by omega), dif_neg (by omega), dif_neg (by omega)]
  exact at3 A (by dsimp only; omega) (by dsimp only; omega) (by dsimp only; omega)

theorem join_turned_queries (h : Fin 4) (e : Fin 128) :
    val_main_v120 (F := Ideal) X G W Q K (ix2 n (⟨1536 + (h.val * 128 + e.val), by omega⟩ : Fin 6656))
      = val_main_v80 (F := Ideal) X G W (ix4 b p h e) := by
  unfold val_main_v120 val_main_v119 val_main_v116
  generalize val_main_v80 (F := Ideal) X G W = A
  pointwise
  rw [dif_neg (by omega), dif_neg (by omega), dif_neg (by omega), dif_pos (by omega)]
  exact at4 A (by dsimp only; omega) (by dsimp only; omega) (by dsimp only; omega) (by dsimp only; omega)

theorem join_turned_keys (h : Fin 4) (e : Fin 128) :
    val_main_v120 (F := Ideal) X G W Q K (ix2 n (⟨2048 + (h.val * 128 + e.val), by omega⟩ : Fin 6656))
      = val_main_v111 (F := Ideal) X G W (ix4 b p h e) * Ideal.ofBits .f32 0x3DB504F3#32 := by
  unfold val_main_v120 val_main_v119 val_main_v117 val_main_v113
  generalize val_main_v111 (F := Ideal) X G W = A
  pointwise [val_main_v112, val_main_cst_12]
  rw [dif_neg (by omega), dif_neg (by omega), dif_neg (by omega), dif_neg (by omega), dif_pos (by omega)]
  refine congrArg (· * _) ?_
  exact at4 A (by dsimp only; omega) (by dsimp only; omega) (by dsimp only; omega) (by dsimp only; omega)

end bands

end Cert.ProjProof

end
-- ==== Proof.ProjTables.lean ====
/- What the projection's kernel finds in its blocks: the rows, the gains and the weights as the arguments hold them, and
   the tables that the host computes for it (cosines, signed sines, the matrix that averages within groups of 64
   columns). -/
module

public import proofs.«01_k».proof.Proof.Gen.ProjIdeal.Value
public import proofs.«01_k».proof.Proof.Gen.ProjRefIdeal.Read
public import Idealize.ShloMosaic.Lib.Pipeline.ValueKit
public import Idealize.ShloMosaic.Lib.StableHlo.ReadAt

@[expose] public section

set_option maxRecDepth 16384

noncomputable section

namespace Cert.ProjProof

open Idealize.ShloMosaic Idealize.ShloMosaic.TcCoe Idealize.SL.Sem
open Cert.ProjRefIdeal.Read (val_main_v16 val_main_v52 val_main_v53 val_main_cst_8 val_main_v54 val_main_v55 val_main_cst_9 val_main_v56
  val_main_v57 val_main_v58 val_main_v59 val_main_v60 val_main_v61 val_main_v62 val_main_v63 val_main_v64 val_main_v66)
open Cert.ProjIdeal Cert.ProjIdeal.Gen

variable (m : (ℓ : Loc nD τ sig) → Buf (Elt Ideal) ℓ)

/-- Where each window's block sits: the row tiles follow the point, the tables of the position follow it within a
    sequence, the gains and weights do not move. -/
theorem idx : ∀ t : Fin cfg0.N, win0_0.index t = ![t.val, 0] ∧ win0_1.index t = ![0, 0] ∧ win0_2.index t = ![0, 0]
    ∧ win0_3.index t = ![t.val % 8, 0] ∧ win0_4.index t = ![t.val % 8, 0] ∧ win0_5.index t = ![0, 0]
    ∧ win0_6.index t = ![0, 0] ∧ win0_7.index t = ![0, 0] ∧ win0_8.index t = ![t.val, 0]
    ∧ win0_9.index t = ![t.val / 8, 0, t.val % 8] ∧ win0_10.index t = ![t.val / 8, 0, t.val % 8] :=
  (by decide +kernel : ∀ t : Fin grid0.N, _)

/-- The sequence that point `t` works on, and row `r` of its tile as a row of all sequences and as a position of its own. -/
abbrev bat (t : Fin cfg0.N) : Fin 16 := ⟨t.val / 8, by have := t.isLt; have : cfg0.N = 128 := rfl; omega⟩
abbrev row (t : Fin cfg0.N) (r : Fin 256) : Fin 32768 := ⟨t.val * 256 + r.val, by have := t.isLt; have : cfg0.N = 128 := rfl; omega⟩
abbrev pos (t : Fin cfg0.N) (r : Fin 256) : Fin 2048 := ⟨t.val % 8 * 256 + r.val, by omega⟩

theorem in_x (c : Dev nD) (t : Fin cfg0.N) (r : Fin 256) (k : Fin 1024) :
    iblk m c 0 t (ix2 r k) = m ((c : Thread nD τ).loc main_arg0) (ix3 (bat t) (pos t r) k) := by
  refine (show _ = V m c main_v0 (ix2 (row t r) k) by blk_ext [iblk, idx t]).trans ?_
  unfold V
  simp only [hostOps0, hostOps0_1, hostOps0_2, List.flatten_cons, List.flatten_nil, List.append_nil,
    List.cons_append, List.nil_append]
  after_reads_simp
  pointwise
  exact congrArg₂ (fun u v => m ((c : Thread nD τ).loc main_arg0) (ix3 u v k))
    (Fin.ext (show (t.val * 256 + r.val) / 2048 = t.val / 8 by omega))
    (Fin.ext (show (t.val * 256 + r.val) % 2048 = t.val % 8 * 256 + r.val by omega))

theorem V_g (c : Dev nD) (k : Fin 1024) :
    V m c main_v31 (ix2 0 k) = m ((c : Thread nD τ).loc main_arg1) (ix2 0 k) := by
  unfold V
  simp only [hostOps0, hostOps0_1, hostOps0_2, List.flatten_cons, List.flatten_nil, List.append_nil,
    List.cons_append, List.nil_append]
  after_reads_simp
  pointwise
theorem in_g (c : Dev nD) (t : Fin cfg0.N) (k : Fin 1024) :
    iblk m c 1 t (ix2 0 k) = m ((c : Thread nD τ).loc main_arg1) (ix2 0 k) :=
  (show _ = V m c main_v31 (ix2 0 k) by blk_ext [iblk, idx t]).trans (V_g m c k)

theorem V_w (c : Dev nD) (k : Fin 1024) (j : Fin 6656) :
    V m c main_v29 (ix2 k j) = m ((c : Thread nD τ).loc main_arg2) (ix3 0 k j) := by
  unfold V
  simp only [hostOps0, hostOps0_1, hostOps0_2, List.flatten_cons, List.flatten_nil, List.append_nil,
    List.cons_append, List.nil_append]
  after_reads_simp
  pointwise
theorem in_w (c : Dev nD) (t : Fin cfg0.N) (k : Fin 1024) (j : Fin 6656) :
    iblk m c 2 t (ix2 k j) = m ((c : Thread nD τ).loc main_arg2) (ix3 0 k j) :=
  (show _ = V m c main_v29 (ix2 k j) by blk_ext [iblk, idx t]).trans (V_w m c k j)

theorem V_qg (c : Dev nD) (j : Fin 512) :
    V m c main_v36 (ix2 0 j) = m ((c : Thread nD τ).loc main_arg3) (ix2 0 (⟨j.val % 64, by omega⟩ : Fin 64)) := by
  unfold V
  simp only [hostOps0, hostOps0_1, hostOps0_2, List.flatten_cons, List.flatten_nil, List.append_nil,
    List.cons_append, List.nil_append]
  after_reads_simp
  pointwise
theorem in_qg (c : Dev nD) (t : Fin cfg0.N) (j : Fin 512) :
    iblk m c 5 t (ix2 0 j) = m ((c : Thread nD τ).loc main_arg3) (ix2 0 (⟨j.val % 64, by omega⟩ : Fin 64)) :=
  (show _ = V m c main_v36 (ix2 0 j) by blk_ext [iblk, idx t]).trans (V_qg m c j)

theorem V_kg (c : Dev nD) (j : Fin 512) :
    V m c main_v41 (ix2 0 j) = m ((c : Thread nD τ).loc main_arg4) (ix2 0 (⟨j.val % 64, by omega⟩ : Fin 64)) := by
  unfold V
  simp only [hostOps0, hostOps0_1, hostOps0_2, List.flatten_cons, List.flatten_nil, List.append_nil,
    List.cons_append, List.nil_append]
  after_reads_simp
  pointwise
theorem in_kg (c : Dev nD) (t : Fin cfg0.N) (j : Fin 512) :
    iblk m c 6 t (ix2 0 j) = m ((c : Thread nD τ).loc main_arg4) (ix2 0 (⟨j.val % 64, by omega⟩ : Fin 64)) :=
  (show _ = V m c main_v41 (ix2 0 j) by blk_ext [iblk, idx t]).trans (V_kg m c j)

/-- The cosines, the same in both halves of a head. -/
theorem V_cs (c : Dev nD) (p : Fin 2048) (e : Fin 128) :
    V m c main_v16 (ix2 p e) = val_main_v64 (F := Ideal) (ix2 p (⟨e.val % 64, by omega⟩ : Fin 64)) := by
  unfold V
  simp only [hostOps0, hostOps0_1, hostOps0_2, List.flatten_cons, List.flatten_nil, List.append_nil,
    List.cons_append, List.nil_append]
  after_reads_simp
  pointwise [val_main_v16, val_main_v52, val_main_v53, val_main_cst_8, val_main_v54, val_main_v55, val_main_cst_9, val_main_v56,
    val_main_v57, val_main_v58, val_main_v59, val_main_v60, val_main_v61, val_main_v62, val_main_v63, val_main_v64]
  split
  · rw [show e.val % 64 = e.val by omega]
  · rw [show e.val % 64 = e.val - 64 by omega]
theorem in_cs (c : Dev nD) (t : Fin cfg0.N) (r : Fin 256) (e : Fin 128) :
    iblk m c 3 t (ix2 r e) = val_main_v64 (F := Ideal) (ix2 (pos t r) (⟨e.val % 64, by omega⟩ : Fin 64)) :=
  (show _ = V m c main_v16 (ix2 (pos t r) e) by blk_ext [iblk, idx t]).trans (V_cs m c _ e)

/-- The sines, negated in the first half. -/
theorem V_sn (c : Dev nD) (p : Fin 2048) (e : Fin 128) :
    V m c main_v18 (ix2 p e) = if e.val < 64 then - val_main_v66 (F := Ideal) (ix2 p (⟨e.val % 64, by omega⟩ : Fin 64))
      else val_main_v66 (F := Ideal) (ix2 p (⟨e.val % 64, by omega⟩ : Fin 64)) := by
  unfold V
  simp only [hostOps0, hostOps0_1, hostOps0_2, List.flatten_cons, List.flatten_nil, List.append_nil,
    List.cons_append, List.nil_append]
  after_reads_simp
  pointwise [val_main_v16, val_main_v52, val_main_v53, val_main_cst_8, val_main_v54, val_main_v55, val_main_cst_9, val_main_v56,
    val_main_v57, val_main_v58, val_main_v59, val_main_v60, val_main_v61, val_main_v62, val_main_v63, val_main_v66]
  split
  · rw [show e.val % 64 = e.val by omega]
  · rw [show e.val % 64 = e.val - 64 by omega]
theorem in_sn (c : Dev nD) (t : Fin cfg0.N) (r : Fin 256) (e : Fin 128) :
    iblk m c 4 t (ix2 r e) = if e.val < 64 then - val_main_v66 (F := Ideal) (ix2 (pos t r) (⟨e.val % 64, by omega⟩ : Fin 64))
      else val_main_v66 (F := Ideal) (ix2 (pos t r) (⟨e.val % 64, by omega⟩ : Fin 64)) :=
  (show _ = V m c main_v18 (ix2 (pos t r) e) by blk_ext [iblk, idx t]).trans (V_sn m c _ e)

/-- The matrix that averages within groups of 64 columns. -/
theorem V_gm (c : Dev nD) (k j : Fin 512) :
    V m c main_v27 (ix2 k j) = if k.val / 64 = j.val / 64 then ((1 / 64 : ℝ) : EReal) else 0 := by
  unfold V
  simp only [hostOps0, hostOps0_1, hostOps0_2, List.flatten_cons, List.flatten_nil, List.append_nil,
    List.cons_append, List.nil_append]
  after_reads_at
  pointwise
  have o : Ideal.ofBits .f32 1015021568#32 = ((1 / 64 : ℝ) : EReal) := by
    simp [Ideal.ofBits, Ideal.ieee]; norm_num; rw [← EReal.coe_mul]; norm_num
  rw [o, show IntOp.addi (BitVec.ofNat 32 (k.val / 64)) 0#32 = BitVec.ofNat 32 (k.val / 64) from BitVec.add_zero _,
    WordCmp.cmpi_eq_ofNat (by omega) (by omega)]
  show (((BitVec.ofBool (decide (k.val / 64 = j.val / 64))).toNat : ℝ) : EReal) * _ = _
  by_cases h : k.val / 64 = j.val / 64 <;> simp [h]
theorem in_gm (c : Dev nD) (t : Fin cfg0.N) (k j : Fin 512) :
    iblk m c 7 t (ix2 k j) = if k.val / 64 = j.val / 64 then ((1 / 64 : ℝ) : EReal) else 0 :=
  (show _ = V m c main_v27 (ix2 k j) by blk_ext [iblk, idx t]).trans (V_gm m c k j)

end Cert.ProjProof

end
-- ==== Proof.ProjValue.lean ====
/- The value of the projection: the three arrays that the kernel writes tile by tile (the joined queries, keys, values and
   gates of all rows; the attention's keys and values with the position last) are, entry by entry, what the reference
   computes on the whole arrays, where the gain of the norm and the weights of the normed columns are finite. -/
module

public import proofs.«01_k».proof.Proof.ProjRead
public import proofs.«01_k».proof.Proof.ProjTables

@[expose] public section

set_option maxRecDepth 16384

noncomputable section

namespace Cert.ProjProof

open Idealize.ShloMosaic Idealize.ShloMosaic.TcCoe Idealize.SL.Sem
open Cert.ProjRefIdeal.Read (val_main_v0 val_main_v1 val_main_cst val_main_v2 val_main_v3 val_main_cst_0 val_main_v4 val_main_v5
  val_main_cst_1 val_main_v6 val_main_v7 val_main_v8 val_main_v9 val_main_v10 val_main_v11 val_main_v12 val_main_v13 val_main_v15
  val_main_v49 val_main_v64 val_main_v66 val_main_v80 val_main_v111 val_main_v114 val_main_v115 val_main_v120 val_main_v121 val_main_v122)
open Cert.ProjIdeal Cert.ProjIdeal.Gen
open Idealize.ShloMosaic.Pipeline (Dat)

/-! The body's operations, for any operands. -/

theorem product (T : FVec Ideal S256x1024 .bf16) (Wc : Vec Ideal S1024x512 .bf16) (r : Fin 256) (j : Fin 512) :
    k0_pay8 T Wc (ix2 r j) = ∑ k : Fin 1024, T (ix2 r k) * Wc (ix2 k j) := by
  unfold k0_pay8
  pointwise

theorem normed (T : FVec Ideal S256x1024 .bf16) (Wc : Vec Ideal S1024x512 .bf16) (M : FVec Ideal S512x512 .bf16)
    (g : Vec Ideal S1x512 .f32) (r : Fin 256) (j : Fin 512) (hA : ∀ k, ∃ x : ℝ, k0_pay8 T Wc (ix2 r k) = (x : EReal))
    (hM : ∀ k : Fin 512, M (ix2 k j) = if k.val / 64 = j.val / 64 then ((1 / 64 : ℝ) : EReal) else 0) :
    k0_pay6 T M Wc g (ix2 r j)
      = k0_pay8 T Wc (ix2 r j) * scale (fun d => k0_pay8 T Wc (ix2 r (mate j d))) * g (ix2 0 j) := by
  have e : k0_pay6 T M Wc g (ix2 r j) = k0_pay8 T Wc (ix2 r j)
      * Ideal.rsqrt (((∑ k, k0_pay8 T Wc (ix2 r k) * k0_pay8 T Wc (ix2 r k) * M (ix2 k j))
        + ∑ k, (k0_pay8 T Wc (ix2 r k) * k0_pay8 T Wc (ix2 r k) - k0_pay8 T Wc (ix2 r k) * k0_pay8 T Wc (ix2 r k)) * M (ix2 k j))
        + Ideal.ofBits .f32 0x358637BD#32) * g (ix2 0 j) := by
    unfold k0_pay6 k0_pay8
    generalize matmul dot_S256x1024_S1024x512_S256x512_1_0_0_1_n_n none T (shapeCast S1024x512 Wc shapeCasts_S1024x512_S1024x512)
      (constant S256x512 .f32 0x00000000#32) = A
    pointwise
  rw [e, group_mean (fun k => k0_pay8 T Wc (ix2 r k)) (fun k => M (ix2 k j)) j hA hM]

/-- A head's columns of a product against the same columns moved by half a head. -/
theorem turned0 (A : FVec Ideal S256x512 .f32) (o : ℕ) (ho : o + 128 ≤ 512) (hs : S256x512.Slices ![0, o] S256x128) (cs sn : Vec Ideal S256x128 .f32)
    (r : Fin 256) (e : Fin 128) :
    addf (mulf (extractStridedSlice S256x128 ![0, o] A hs) (k0_pay11 cs))
        (mulf (dynamicRotate 1 64#32 none (extractStridedSlice S256x128 ![0, o] A hs) rotates_S256x128_d1) (k0_pay12 sn)) (ix2 r e)
      = A (ix2 r (⟨o + e.val, by omega⟩ : Fin 512)) * cs (ix2 r e)
        + A (ix2 r (⟨o + (e.val + 64) % 128, by omega⟩ : Fin 512)) * sn (ix2 r e) := by
  unfold k0_pay11 k0_pay12
  pointwise
  simp only [show e.val + 128 - 64 = e.val + 64 by omega]

variable (m : (ℓ : Loc nD τ sig) → Buf (Elt Ideal) ℓ)

/-! The reference's three results at the kernel's argument arrays. -/

def joined (c : Dev nD) : Buf (Elt Ideal) ((c : Thread nD τ).loc main_v42_0) :=
  val_main_v120 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
def keysT (c : Dev nD) : Buf (Elt Ideal) ((c : Thread nD τ).loc main_v42_1) :=
  val_main_v121 (F := Ideal) (m ((c : Thread nD τ).loc main_arg0)) (m ((c : Thread nD τ).loc main_arg1))
    (m ((c : Thread nD τ).loc main_arg2)) (m ((c : Thread nD τ).loc main_arg4))
def valuesT (c : Dev nD) : Buf (Elt Ideal) ((c : Thread nD τ).loc main_v42_2) :=
  val_main_v122 (F := Ideal) (m ((c : Thread nD τ).loc main_arg0)) (m ((c : Thread nD τ).loc main_arg1))
    (m ((c : Thread nD τ).loc main_arg2))

/-- Finite are the norm's gain and the weights of the columns that are normed after the product. -/
def Finite (c : Dev nD) : Prop :=
  (∀ k : Fin 1024, ∃ x : ℝ, m ((c : Thread nD τ).loc main_arg1) (ix2 0 k) = (x : EReal))
    ∧ ∀ (k : Fin 1024) (j : Fin 1024), ∃ x : ℝ, m ((c : Thread nD τ).loc main_arg2) (ix3 0 k (⟨j.val, by omega⟩ : Fin 6656)) = (x : EReal)

/-- The product of the normalized rows with the weights. -/
abbrev prod (c : Dev nD) := val_main_v15 (F := Ideal) (m ((c : Thread nD τ).loc main_arg0)) (m ((c : Thread nD τ).loc main_arg1))
    (m ((c : Thread nD τ).loc main_arg2))

/-- The tile of normalized rows at point `t`. -/
abbrev rows (c : Dev nD) (t : Fin cfg0.N) : FVec Ideal S256x1024 .bf16 := k0_pay3 (iblk m c 0 t) (iblk m c 1 t)

/-- The weights of the 512 columns from `o` on, as the body loads them. -/
abbrev cols (c : Dev nD) (t : Fin cfg0.N) (o : ℕ) (inb : ∀ a, (![0, o] : Fin 2 → ℕ) a + S1024x512.size a ≤ S1024x6656.size a) : Vec Ideal S1024x512 .bf16 :=
  View.ld (iblk m c 2 t) (Rect.unit (s := S1024x6656) ![0, o] S1024x512.size inb)

theorem rows_point (c : Dev nD) (t : Fin cfg0.N) (r : Fin 256) (k : Fin 1024) :
    rows m c t (ix2 r k) = val_main_v13 (F := Ideal) (m ((c : Thread nD τ).loc main_arg0)) (m ((c : Thread nD τ).loc main_arg1))
      (ix3 (bat t) (pos t r) k) := by
  have hx := in_x m c t
  have hg := in_g m c t
  unfold rows k0_pay3
  generalize iblk m c 0 t = A at hx ⊢
  generalize iblk m c 1 t = B at hg ⊢
  pointwise [val_main_v0, val_main_v1, val_main_cst, val_main_v2, val_main_v3, val_main_cst_0, val_main_v4, val_main_v5, val_main_cst_1,
    val_main_v6, val_main_v7, val_main_v8, val_main_v9, val_main_v10, val_main_v11, val_main_v12, val_main_v13, hx, hg]

theorem band (c : Dev nD) (t : Fin cfg0.N) (o : ℕ) (inb : ∀ a, (![0, o] : Fin 2 → ℕ) a + S1024x512.size a ≤ S1024x6656.size a) (ho : o + 512 ≤ 6656) (r : Fin 256) (j : Fin 512) :
    k0_pay8 (rows m c t) (cols m c t o inb) (ix2 r j) = prod m c (ix3 (bat t) (pos t r) (⟨o + j.val, by omega⟩ : Fin 6656)) := by
  rw [product]
  refine Eq.trans ?_ (prod_apply ..).symm
  refine Finset.sum_congr rfl fun k _ => ?_
  rw [rows_point, ← in_w m c t]
  refine congrArg _ ?_
  unfold cols
  pointwise

theorem prod_finite (c : Dev nD) (hF : Finite m c) (b : Fin 16) (p : Fin 2048) (j : Fin 6656) (hj : j.val < 1024) :
    ∃ x : ℝ, prod m c (ix3 b p j) = (x : EReal) :=
  prod_real _ _ _ hF.1 b p j fun k => hF.2 k (⟨j.val, hj⟩ : Fin 1024)

/-- A tile of 512 columns normed in groups of 64. -/
theorem normed_tile (c : Dev nD) (hF : Finite m c) (t : Fin cfg0.N) (o : ℕ)
    (inb : ∀ a, (![0, o] : Fin 2 → ℕ) a + S1024x512.size a ≤ S1024x6656.size a) (ho : o + 512 ≤ 1024)
    (g : Vec Ideal S1x512 .f32) (r : Fin 256) (j : Fin 512) :
    k0_pay6 (rows m c t) (k0_pay4 (iblk m c 7 t)) (cols m c t o inb) g (ix2 r j)
      = prod m c (ix3 (bat t) (pos t r) (⟨o + j.val, by omega⟩ : Fin 6656))
        * scale (fun d => prod m c (ix3 (bat t) (pos t r) (⟨o + (mate j d).val, by omega⟩ : Fin 6656))) * g (ix2 0 j) := by
  rw [normed]
  · simp only [band m c t o inb (by omega)]
  · intro k
    rw [band m c t o inb (by omega)]
    exact prod_finite m c hF _ _ _ (show o + k.val < 1024 by omega)
  · intro k
    have e := in_gm m c t k j
    generalize iblk m c 7 t = M at e ⊢
    unfold k0_pay4
    pointwise
    exact e

theorem queries_tile (c : Dev nD) (hF : Finite m c) (t : Fin cfg0.N)
    (inb : ∀ a, (![0, 0] : Fin 2 → ℕ) a + S1024x512.size a ≤ S1024x6656.size a) (r : Fin 256) (j : Fin 512) :
    k0_pay6 (rows m c t) (k0_pay4 (iblk m c 7 t)) (cols m c t 0 inb) (iblk m c 5 t) (ix2 r j)
      = val_main_v115 (F := Ideal) (m ((c : Thread nD τ).loc main_arg0)) (m ((c : Thread nD τ).loc main_arg1))
          (m ((c : Thread nD τ).loc main_arg2)) (m ((c : Thread nD τ).loc main_arg3)) (ix3 (bat t) (pos t r) j) := by
  rw [normed_tile m c hF t 0 inb (by omega), queries_apply, in_qg]
  simp only [Nat.zero_add]

theorem keys_tile (c : Dev nD) (hF : Finite m c) (t : Fin cfg0.N)
    (inb : ∀ a, (![0, 512] : Fin 2 → ℕ) a + S1024x512.size a ≤ S1024x6656.size a) (r : Fin 256) (j : Fin 512) :
    k0_pay6 (rows m c t) (k0_pay4 (iblk m c 7 t)) (cols m c t 512 inb) (iblk m c 6 t) (ix2 r j)
      = val_main_v114 (F := Ideal) (m ((c : Thread nD τ).loc main_arg0)) (m ((c : Thread nD τ).loc main_arg1))
          (m ((c : Thread nD τ).loc main_arg2)) (m ((c : Thread nD τ).loc main_arg4)) (ix3 (bat t) (pos t r) j) := by
  rw [normed_tile m c hF t 512 inb (by omega), keys_apply, in_kg]

/-- A head of 128 columns from `o + h * 128` on, rotated. -/
theorem turned_tile (c : Dev nD) (t : Fin cfg0.N) (o : ℕ) (ho : o + 512 ≤ 6656)
    (inb : ∀ a, (![0, o] : Fin 2 → ℕ) a + S1024x512.size a ≤ S1024x6656.size a) (h : Fin 4) (s : ℕ) (es : s = h.val * 128)
    (hs : S256x512.Slices ![0, s] S256x128) (r : Fin 256) (e : Fin 128) :
    addf (mulf (extractStridedSlice S256x128 ![0, s] (k0_pay8 (rows m c t) (cols m c t o inb)) hs) (k0_pay11 (iblk m c 3 t)))
        (mulf (dynamicRotate 1 64#32 none (extractStridedSlice S256x128 ![0, s] (k0_pay8 (rows m c t) (cols m c t o inb)) hs)
          rotates_S256x128_d1) (k0_pay12 (iblk m c 4 t))) (ix2 r e)
      = turn (fun e => prod m c (ix3 (bat t) (pos t r) (⟨o + (h.val * 128 + e.val), by omega⟩ : Fin 6656))) (pos t r) e := by
  subst es
  rw [turned0 _ _ (by omega), band m c t o inb ho, band m c t o inb ho, in_cs, in_sn]
  rfl

/-- The flat row of a tile's row, by batch entry and position. -/
theorem row_split (t : Fin cfg0.N) (r : Fin 256) : (row t r).val = (bat t).val * 2048 + (pos t r).val := by
  show t.val * 256 + r.val = t.val / 8 * 2048 + (t.val % 8 * 256 + r.val)
  omega

theorem queries_head (c : Dev nD) (t : Fin cfg0.N) (inb : ∀ a, (![0, 1536] : Fin 2 → ℕ) a + S1024x512.size a ≤ S1024x6656.size a)
    (h : Fin 4) (s : ℕ) (es : s = h.val * 128) (hs : S256x512.Slices ![0, s] S256x128) (r : Fin 256) (e : Fin 128) (y : Fin 6656)
    (hy : y.val = 1536 + (s + e.val)) :
    addf (mulf (extractStridedSlice S256x128 ![0, s] (k0_pay8 (rows m c t) (cols m c t 1536 inb)) hs) (k0_pay11 (iblk m c 3 t)))
        (mulf (dynamicRotate 1 64#32 none (extractStridedSlice S256x128 ![0, s] (k0_pay8 (rows m c t) (cols m c t 1536 inb)) hs)
          rotates_S256x128_d1) (k0_pay12 (iblk m c 4 t))) (ix2 r e)
      = joined m c (ix2 (row t r) y) := by
  rw [show y = (⟨1536 + (h.val * 128 + e.val), by omega⟩ : Fin 6656) from Fin.ext (by dsimp only; omega)]
  unfold joined
  rw [turned_tile m c t 1536 (by omega) inb h s es, join_turned_queries _ _ _ _ _ _ (bat t) (pos t r) (row_split t r), turned_queries]

theorem keys_head (c : Dev nD) (t : Fin cfg0.N) (inb : ∀ a, (![0, 2048] : Fin 2 → ℕ) a + S1024x512.size a ≤ S1024x6656.size a)
    (h : Fin 4) (s : ℕ) (es : s = h.val * 128) (hs : S256x512.Slices ![0, s] S256x128) (r : Fin 256) (e : Fin 128) (y : Fin 6656)
    (hy : y.val = 2048 + (s + e.val)) :
    mulf (addf (mulf (extractStridedSlice S256x128 ![0, s] (k0_pay8 (rows m c t) (cols m c t 2048 inb)) hs) (k0_pay11 (iblk m c 3 t)))
        (mulf (dynamicRotate 1 64#32 none (extractStridedSlice S256x128 ![0, s] (k0_pay8 (rows m c t) (cols m c t 2048 inb)) hs)
          rotates_S256x128_d1) (k0_pay12 (iblk m c 4 t))))
        (broadcast S256x128 (Scalar.ofBits .f32 0x3DB504F3#32 : Ideal .f32)) (ix2 r e)
      = joined m c (ix2 (row t r) y) := by
  rw [show y = (⟨2048 + (h.val * 128 + e.val), by omega⟩ : Fin 6656) from Fin.ext (by dsimp only; omega)]
  unfold joined
  rw [join_turned_keys _ _ _ _ _ _ (bat t) (pos t r) (row_split t r), turned_keys]
  exact congrArg (· * Ideal.ofBits .f32 0x3DB504F3#32) (turned_tile m c t 2048 (by omega) inb h s es hs r e)

theorem values_band (c : Dev nD) (t : Fin cfg0.N) (inb : ∀ a, (![0, 1024] : Fin 2 → ℕ) a + S1024x512.size a ≤ S1024x6656.size a)
    (r : Fin 256) (j : Fin 512) (y : Fin 6656) (hy : y.val = 1024 + j.val) :
    k0_pay8 (rows m c t) (cols m c t 1024 inb) (ix2 r j) = joined m c (ix2 (row t r) y) := by
  rw [show y = (⟨1024 + j.val, by omega⟩ : Fin 6656) from Fin.ext hy]
  unfold joined
  rw [band m c t 1024 inb (by omega), join_values _ _ _ _ _ _ (bat t) (pos t r) (row_split t r)]

theorem rest_band (c : Dev nD) (t : Fin cfg0.N) (o : ℕ) (ho : 2560 ≤ o ∧ o + 512 ≤ 6656)
    (inb : ∀ a, (![0, o] : Fin 2 → ℕ) a + S1024x512.size a ≤ S1024x6656.size a)
    (r : Fin 256) (j : Fin 512) (y : Fin 6656) (hy : y.val = o + j.val) :
    k0_pay8 (rows m c t) (cols m c t o inb) (ix2 r j) = joined m c (ix2 (row t r) y) := by
  rw [show y = (⟨2560 + (⟨o - 2560 + j.val, by omega⟩ : Fin 4096).val, by dsimp only; omega⟩ : Fin 6656) from
    Fin.ext (by dsimp only; omega)]
  unfold joined
  rw [band m c t o inb (by omega), join_rest _ _ _ _ _ _ (bat t) (pos t r) (row_split t r)]
  exact at3 _ rfl rfl (by dsimp only; omega)

theorem emb8 (t : Fin cfg0.N) (r : Fin 256) (l : Fin 6656) :
    ((cfg0.win 8).blk t).view.emb (ix2 r l) = ix2 (row t r) l := by
  blk_ext [idx t]
theorem emb9 (t : Fin cfg0.N) (j : Fin 512) (r : Fin 256) :
    ((cfg0.win 9).blk t).view.emb (ix3 0 j r) = ix3 (bat t) j (pos t r) := by
  blk_ext [idx t]
theorem emb10 (t : Fin cfg0.N) (j : Fin 512) (r : Fin 256) :
    ((cfg0.win 10).blk t).view.emb (ix3 0 j r) = ix3 (bat t) j (pos t r) := by
  blk_ext [idx t]

/-- A tile laid down with the position last. -/
theorem laid (A : FVec Ideal S256x512 .f32) (j : Fin 512) (r : Fin 256) :
    shapeCast S1x512x256 (transpose S512x256 [1, 0] A transposes_S256x512_p1_0_S512x256) shapeCasts_S512x256_S1x512x256 (ix3 0 j r)
      = A (ix2 r j) := by
  pointwise

theorem arr10 (c : Dev nD) : (dats m 0 c).arrAt 10 cfg0.N = valuesT m c := by
  refine (dats m 0 c).arrAt_eq_of_covers 10 _ (by decide +kernel) fun t hf y => ?_
  blk_simp
  rw [after0_10]
  frame_out
  idx_vars y
  obtain rfl : y0 = 0 := Subsingleton.elim _ _
  rw [emb10]
  refine (laid _ y1 y2).trans ((band m c t 1024 inb_S1024x6656_S1024x512_0_1024 (by omega) y2 y1).trans ?_)
  unfold valuesT prod
  pointwise [val_main_v122, val_main_v49]

theorem arr9 (c : Dev nD) (hF : Finite m c) : (dats m 0 c).arrAt 9 cfg0.N = keysT m c := by
  refine (dats m 0 c).arrAt_eq_of_covers 9 _ (by decide +kernel) fun t hf y => ?_
  blk_simp
  rw [after0_9]
  frame_out
  idx_vars y
  obtain rfl : y0 = 0 := Subsingleton.elim _ _
  rw [emb9]
  refine (laid _ y1 y2).trans ((keys_tile m c hF t inb_S1024x6656_S1024x512_0_512 y2 y1).trans ?_)
  unfold keysT
  pointwise [val_main_v121]

theorem arr8 (c : Dev nD) (hF : Finite m c) : (dats m 0 c).arrAt 8 cfg0.N = joined m c := by
  refine (dats m 0 c).arrAt_eq_of_covers 8 _ (by decide +kernel) fun t hf y => ?_
  blk_simp
  rw [after0_8]
  idx_vars y
  rw [emb8]
  unfold outsAt0
  dsimp only
  unfold out0_A_8
  rw [View.read_writes_junk_eq_canon]
  unfold kernelRun0_A
  dsimp only
  frame_out
  canon_tiles x hx using View.cover_of_tiledBy _ ![256, 128] (by sl_kernel_rfl) _
  all_goals
    idx_vars x
    obtain rfl : y0 = x0 := Fin.ext hx0
  case piece0 => exact rest_band m c t 6144 (by omega) _ _ _ _ hx1
  case piece1 => exact rest_band m c t 5632 (by omega) _ _ _ _ hx1
  case piece2 => exact rest_band m c t 5120 (by omega) _ _ _ _ hx1
  case piece3 => exact rest_band m c t 4608 (by omega) _ _ _ _ hx1
  case piece4 => exact rest_band m c t 4096 (by omega) _ _ _ _ hx1
  case piece5 => exact rest_band m c t 3584 (by omega) _ _ _ _ hx1
  case piece6 => exact rest_band m c t 3072 (by omega) _ _ _ _ hx1
  case piece7 => exact rest_band m c t 2560 (by omega) _ _ _ _ hx1
  case piece8 => exact keys_head m c t _ 3 384 rfl slices_S256x512_o0_384_S256x128 _ _ _ (by omega)
  case piece9 => exact keys_head m c t _ 2 256 rfl slices_S256x512_o0_256_S256x128 _ _ _ (by omega)
  case piece10 => exact keys_head m c t _ 1 128 rfl slices_S256x512_o0_128_S256x128 _ _ _ (by omega)
  case piece11 => exact keys_head m c t _ 0 0 rfl slices_S256x512_o0_0_S256x128 _ _ _ (by omega)
  case piece12 => exact queries_head m c t _ 3 384 rfl slices_S256x512_o0_384_S256x128 _ _ _ (by omega)
  case piece13 => exact queries_head m c t _ 2 256 rfl slices_S256x512_o0_256_S256x128 _ _ _ (by omega)
  case piece14 => exact queries_head m c t _ 1 128 rfl slices_S256x512_o0_128_S256x128 _ _ _ (by omega)
  case piece15 => exact queries_head m c t _ 0 0 rfl slices_S256x512_o0_0_S256x128 _ _ _ (by omega)
  case piece16 => exact values_band m c t _ _ _ _ hx1
  case piece17 =>
    rw [show y1 = (⟨512 + x1.val, by omega⟩ : Fin 6656) from Fin.ext hx1]
    exact (keys_tile m c hF t _ _ _).trans (join_keys _ _ _ _ _ _ (bat t) (pos t y0) (row_split t y0) x1).symm
  case piece18 =>
    rw [show y1 = (⟨0 + x1.val, by omega⟩ : Fin 6656) from Fin.ext (hx1.trans (Nat.zero_add _).symm)]
    exact (queries_tile m c hF t _ _ _).trans (join_queries _ _ _ _ _ _ (bat t) (pos t y0) (row_split t y0) x1).symm

end Cert.ProjProof

end
-- ==== Proof.ProjPre.lean ====
/- What the precondition of the projection's claim says: an absolute value below infinity is a real number's. -/
module

public import proofs.«01_k».proof.Defs
public import proofs.«01_k».proof.Proof.ProjValue

@[expose] public section

noncomputable section

namespace Cert.ProjProof

open Idealize.ShloMosaic Idealize.ShloMosaic.TcCoe Idealize.SL.Sem

/-- The predicate's side conditions. -/
theorem preFacts : Cert.Pre_finite_normed.Facts := ⟨by decide, by decide, by decide⟩

theorem ofBits_inf : Ideal.ofBits .f32 0x7F800000#32 = (⊤ : EReal) := by
  simp [Ideal.ofBits, Ideal.ieee]

/-- The predicate's test of one entry. -/
theorem real_of_test (x : EReal) (h : Ideal.cmp .olt (max x (-x)) (Ideal.ofBits .f32 0x7F800000#32) = 1#1) : ∃ r : ℝ, x = (r : EReal) := by
  rw [ofBits_inf] at h
  induction x with
  | bot => simp [Ideal.cmp] at h
  | top => simp [Ideal.cmp] at h
  | coe r => exact ⟨r, rfl⟩

theorem finite_of_pre (m : (ℓ : Loc Cert.ProjIdeal.nD Cert.ProjIdeal.τ Cert.ProjIdeal.sig) → Buf (Elt Ideal) ℓ)
    (h : Cert.Pre_ProjIdeal_finite_normed (hPre_finite_normed := preFacts) m) (c : Dev Cert.ProjIdeal.nD) : Finite m c := by
  obtain ⟨h1, h2⟩ := h c
  constructor
  · intro k
    have e := congrFun h1 (ix2 0 k)
    exact real_of_test _ e
  · intro k j
    have e := congrFun h2 (ix3 0 k j)
    refine real_of_test _ (Eq.trans ?_ e)
    unfold Cert.Pre_finite_normed.fn
    pointwise
    rfl

end Cert.ProjProof

end
-- ==== Proof.RetValue.lean ====
/-
  The retention call: each point's blocks, the state that the points of one batch entry carry on, and the two results' arrays.
-/
module

public import proofs.«01_k».proof.Proof.Gen.KernelIdeal.Value
public import proofs.«01_k».proof.Proof.RetRef
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.RetProof

open Idealize.ShloMosaic Idealize.ShloMosaic.TcCoe Idealize.SL.Sem
open Cert.KernelIdeal Cert.KernelIdeal.Gen
open Idealize.ShloMosaic.Pipeline (Dat)
open Cert.ReferenceIdeal.Step

variable (m : (ℓ : Loc nD τ sig) → Buf (Elt Ideal) ℓ)

/-- Where each window's block sits: six column bands of the rows of the point's chunk, the tables whole. -/
theorem idx : ∀ t : Fin cfg0.N, win0_0.index t = ![t.val, 3] ∧ win0_1.index t = ![t.val, 4] ∧ win0_2.index t = ![t.val, 5]
    ∧ win0_3.index t = ![t.val, 6] ∧ win0_4.index t = ![t.val, 7] ∧ win0_5.index t = ![t.val, 8]
    ∧ win0_6.index t = ![0, 0, 0, 0] ∧ win0_7.index t = ![0, 0, 0] ∧ win0_8.index t = ![0, 0, 0] ∧ win0_9.index t = ![0, 0, 0]
    ∧ win0_10.index t = ![0, 0, 0] ∧ win0_11.index t = ![0, 0, 0] ∧ win0_12.index t = ![t.val, 0]
    ∧ win0_13.index t = ![t.val / 16, 0, 0, 0] :=
  (by decide +kernel : ∀ t : Fin grid0.N, _)

/-- Point `t`'s batch entry and chunk. -/
abbrev tb (t : Fin cfg0.N) : Fin 16 := ⟨t.val / 16, by have := t.isLt; have : cfg0.N = 256 := rfl; omega⟩
abbrev tj (t : Fin cfg0.N) : Fin 16 := ⟨t.val % 16, by omega⟩

theorem in_q (c : Dev nD) (t : Fin cfg0.N) (i : Fin 128) (k : Fin 512) :
    iblk m c 0 t (ix2 i k) = m ((c : Thread nD τ).loc main_arg0) (ix2 (tok (tb t) (tj t) i) (⟨1536 + k.val, by omega⟩ : Fin 6656)) := by
  blk_ext [iblk, V, idx t]
theorem in_k (c : Dev nD) (t : Fin cfg0.N) (i : Fin 128) (k : Fin 512) :
    iblk m c 1 t (ix2 i k) = m ((c : Thread nD τ).loc main_arg0) (ix2 (tok (tb t) (tj t) i) (⟨2048 + k.val, by omega⟩ : Fin 6656)) := by
  blk_ext [iblk, V, idx t]
theorem in_v (c : Dev nD) (t : Fin cfg0.N) (i : Fin 128) (k : Fin 1024) :
    k0_pay4 (iblk m c 2 t) (iblk m c 3 t) (ix2 i k)
      = m ((c : Thread nD τ).loc main_arg0) (ix2 (tok (tb t) (tj t) i) (⟨2560 + k.val, by omega⟩ : Fin 6656)) := by
  pointwise [k0_pay4]
  split <;> blk_ext [iblk, V, idx t]
theorem in_g (c : Dev nD) (t : Fin cfg0.N) (i : Fin 128) (k : Fin 1024) :
    k0_pay5 (iblk m c 4 t) (iblk m c 5 t) (ix2 i k)
      = m ((c : Thread nD τ).loc main_arg0) (ix2 (tok (tb t) (tj t) i) (⟨3584 + k.val, by omega⟩ : Fin 6656)) := by
  pointwise [k0_pay5]
  split <;> blk_ext [iblk, V, idx t]

theorem in_dec (c : Dev nD) (t : Fin cfg0.N) (j : ℕ) (s : State Ideal) (h : Fin 4) (i k : Fin 128) :
    iblk m c 7 t (ix3 h i k) = b52 j s (ix3 h i k) := by
  blk_point [iblk, V, idx t]
/-! The tables the host computes: the four decays as the reference has them, and the group norm's gains. -/

/-- A row's number, as an f32, lies below the number of rows. -/
theorem below (i : Fin 128) :
    (FloatOps.sitofp (F := Ideal) .f32 (BitVec.ofNat 32 i.val)) < Ideal.ofBits .f32 1124073472#32 := by
  have e : Ideal.ofBits .f32 1124073472#32 = ((128 : ℝ) : EReal) := by
    simp [Ideal.ofBits, Ideal.ieee]; norm_num; rw [← EReal.coe_mul]; norm_num
  have f : (BitVec.ofNat 32 i.val).toInt = i.val := by
    have := i.isLt
    rw [BitVec.toInt_eq_toNat_cond]; simp; omega
  rw [e]
  show ((((BitVec.ofNat 32 i.val).toInt : ℝ)) : EReal) < _
  rw [f]
  exact_mod_cast i.isLt
theorem V_rg (c : Dev nD) (h : Fin 4) (e : Fin 256) :
    V m c main_v52 (ix3 h 0 e) = m ((c : Thread nD τ).loc main_arg1) (ix3 0 h e) := by
  unfold V
  simp only [hostOps0, hostOps0_1, hostOps0_2, hostOps0_3, hostOps0_4, hostOps0_5, hostOps0_6, List.flatten_cons, List.flatten_nil, List.append_nil,
    List.cons_append, List.nil_append]
  after_reads_simp
  pointwise
theorem V_sd (c : Dev nD) (j : ℕ) (s : State Ideal) (h : Fin 4) :
    V m c main_v50 (ix3 h 0 0) = b85 j s (ix1 h) := by
  unfold V
  simp only [hostOps0, hostOps0_1, hostOps0_2, hostOps0_3, hostOps0_4, hostOps0_5, hostOps0_6, List.flatten_cons, List.flatten_nil, List.append_nil,
    List.cons_append, List.nil_append]
  after_reads_simp
  pointwise [b18, b19, b20, b21, b22, b23, b24, b25, b26, b27, b28, b82, b83, b84, b85]
theorem V_qd (c : Dev nD) (j : ℕ) (s : State Ideal) (h : Fin 4) (i : Fin 128) :
    V m c main_v48 (ix3 h i 0) = b67 j s (ix2 i h) := by
  unfold V
  simp only [hostOps0, hostOps0_1, hostOps0_2, hostOps0_3, hostOps0_4, hostOps0_5, hostOps0_6, List.flatten_cons, List.flatten_nil, List.append_nil,
    List.cons_append, List.nil_append]
  after_reads_simp
  pointwise [b18, b19, b20, b21, b22, b23, b24, b25, b26, b27, b28, b59, b60, b61, b62, b63, b64, b65, b66, b67]
theorem V_kd (c : Dev nD) (j : ℕ) (s : State Ideal) (h : Fin 4) (i : Fin 128) :
    V m c main_v49 (ix3 h i 0) = b81 j s (ix2 i h) := by
  unfold V
  simp only [hostOps0, hostOps0_1, hostOps0_2, hostOps0_3, hostOps0_4, hostOps0_5, hostOps0_6, List.flatten_cons, List.flatten_nil, List.append_nil,
    List.cons_append, List.nil_append]
  after_reads_at
  pointwise [b18, b19, b20, b21, b22, b23, b24, b25, b26, b27, b28, b73, b74, b75, b76, b77, b78, b79, b80, b81]
  rw [if_pos (below i)]
theorem in_qd (c : Dev nD) (t : Fin cfg0.N) (j : ℕ) (s : State Ideal) (h : Fin 4) (i : Fin 128) :
    iblk m c 8 t (ix3 h i 0) = b67 j s (ix2 i h) :=
  (show iblk m c 8 t (ix3 h i 0) = V m c main_v48 (ix3 h i 0) by blk_ext [iblk, idx t]).trans (V_qd m c j s h i)
theorem in_kd (c : Dev nD) (t : Fin cfg0.N) (j : ℕ) (s : State Ideal) (h : Fin 4) (i : Fin 128) :
    iblk m c 9 t (ix3 h i 0) = b81 j s (ix2 i h) :=
  (show iblk m c 9 t (ix3 h i 0) = V m c main_v49 (ix3 h i 0) by blk_ext [iblk, idx t]).trans (V_kd m c j s h i)
theorem in_sd (c : Dev nD) (t : Fin cfg0.N) (j : ℕ) (s : State Ideal) (h : Fin 4) :
    iblk m c 10 t (ix3 h 0 0) = b85 j s (ix1 h) :=
  (show iblk m c 10 t (ix3 h 0 0) = V m c main_v50 (ix3 h 0 0) by blk_ext [iblk, idx t]).trans (V_sd m c j s h)
theorem in_rg (c : Dev nD) (t : Fin cfg0.N) (h : Fin 4) (e : Fin 256) :
    iblk m c 11 t (ix3 h 0 e) = m ((c : Thread nD τ).loc main_arg1) (ix3 0 h e) :=
  (show iblk m c 11 t (ix3 h 0 e) = V m c main_v52 (ix3 h 0 e) by blk_ext [iblk, idx t]).trans (V_rg m c h e)

/-- What a point leaves in the carried state, of its blocks and the state before. -/
def nextOf (K : Vec Ideal S128x512 .f32) (Vv : FVec Ideal S128x1024 .f32) (kd : Vec Ideal S4x128x1 .f32) (sd : Vec Ideal S4x1x1 .f32)
    (X : Vec Ideal S4x128x256 .f32) (h : Fin 4) (d : Fin 128) (e : Fin 256) : Elt Ideal .f32 :=
  sd (ix3 h 0 0) * X (ix3 h d e) + ∑ i : Fin 128, K (ix2 i (⟨128 * h.val + d.val, by omega⟩ : Fin 512)) * kd (ix3 h i 0)
    * Vv (ix2 i (⟨256 * h.val + e.val, by omega⟩ : Fin 1024))

/-- What a point's chunk attends to, of its blocks and the state before: its own rows under the decay, and the state. -/
def chunkOf (Q K : Vec Ideal S128x512 .f32) (Vv : FVec Ideal S128x1024 .f32) (dec : Vec Ideal S4x128x128 .f32) (qd : Vec Ideal S4x128x1 .f32)
    (X : Vec Ideal S4x128x256 .f32) (h : Fin 4) (i : Fin 128) (e : Fin 256) : Elt Ideal .f32 :=
  (∑ k : Fin 128, (∑ d : Fin 128, Q (ix2 i (⟨128 * h.val + d.val, by omega⟩ : Fin 512)) * K (ix2 k (⟨128 * h.val + d.val, by omega⟩ : Fin 512)))
      * dec (ix3 h i k) * Vv (ix2 k (⟨256 * h.val + e.val, by omega⟩ : Fin 1024)))
    + (∑ d : Fin 128, Q (ix2 i (⟨128 * h.val + d.val, by omega⟩ : Fin 512)) * X (ix3 h d e)) * qd (ix3 h i 0)

/-- What a point leaves in the result's block: the chunk normed over the head's columns, scaled by the gains and gated. -/
def outOf (Q K : Vec Ideal S128x512 .f32) (Vv G : FVec Ideal S128x1024 .f32) (dec : Vec Ideal S4x128x128 .f32) (qd : Vec Ideal S4x128x1 .f32)
    (rg : Vec Ideal S4x1x256 .f32) (X : Vec Ideal S4x128x256 .f32) (h : Fin 4) (i : Fin 128) (e : Fin 256) : Elt Ideal .f32 :=
  chunkOf Q K Vv dec qd X h i e
    * Ideal.rsqrt (Ideal.div (∑ e' : Fin 256, chunkOf Q K Vv dec qd X h i e' * chunkOf Q K Vv dec qd X h i e') (Ideal.ofBits .f32 1132462080#32)
      + Ideal.ofBits .f32 897988541#32)
    * rg (ix3 h 0 e) * gate (G (ix2 i (⟨256 * h.val + e.val, by omega⟩ : Fin 1024)))

theorem state_head0 (K V0 V1 : Vec Ideal S128x512 .f32) (kd : Vec Ideal S4x128x1 .f32) (sd : Vec Ideal S4x1x1 .f32)
    (X : Vec Ideal S4x128x256 .f32) (d : Fin 128) (e : Fin 256) :
    k0_pay35 (k0_pay14 (View.ld X (Rect.unit ![0, 0, 0] ![1, 128, 256] inb_S4x128x256_S1x128x256_0_0_0)))
      (k0_pay27 K (k0_pay10 V0 V1) (View.ld kd (Rect.unit ![0, 0, 0] ![1, 128, 1] inb_S4x128x1_S1x128x1_0_0_0)))
      (View.ld sd (Rect.unit ![0, 0, 0] ![1, 1, 1] inb_S4x1x1_S1x1x1_0_0_0)) (ix3 0 d e)
    = nextOf K (k0_pay4 V0 V1) kd sd X 0 d e := by
  unfold nextOf
  pointwise [k0_pay35, k0_pay14, k0_pay27, k0_pay10, k0_pay4]

theorem state_head1 (K V0 V1 : Vec Ideal S128x512 .f32) (kd : Vec Ideal S4x128x1 .f32) (sd : Vec Ideal S4x1x1 .f32)
    (X : Vec Ideal S4x128x256 .f32) (d : Fin 128) (e : Fin 256) :
    k0_pay37 (k0_pay15 (View.ld X (Rect.unit ![1, 0, 0] ![1, 128, 256] inb_S4x128x256_S1x128x256_1_0_0)))
      (k0_pay28 K (k0_pay11 V0 V1) (View.ld kd (Rect.unit ![1, 0, 0] ![1, 128, 1] inb_S4x128x1_S1x128x1_1_0_0)))
      (View.ld sd (Rect.unit ![1, 0, 0] ![1, 1, 1] inb_S4x1x1_S1x1x1_1_0_0)) (ix3 0 d e)
    = nextOf K (k0_pay4 V0 V1) kd sd X 1 d e := by
  unfold nextOf
  pointwise [k0_pay37, k0_pay15, k0_pay28, k0_pay11, k0_pay4]

theorem state_head2 (K V0 V1 : Vec Ideal S128x512 .f32) (kd : Vec Ideal S4x128x1 .f32) (sd : Vec Ideal S4x1x1 .f32)
    (X : Vec Ideal S4x128x256 .f32) (d : Fin 128) (e : Fin 256) :
    k0_pay40 (k0_pay39 (k0_pay16 (View.ld X (Rect.unit ![2, 0, 0] ![1, 128, 256] inb_S4x128x256_S1x128x256_2_0_0)))
      (k0_pay29 K (k0_pay12 V0 V1) (View.ld kd (Rect.unit ![2, 0, 0] ![1, 128, 1] inb_S4x128x1_S1x128x1_2_0_0)))
      (View.ld sd (Rect.unit ![2, 0, 0] ![1, 1, 1] inb_S4x1x1_S1x1x1_2_0_0))) (ix3 0 d e)
    = nextOf K (k0_pay4 V0 V1) kd sd X 2 d e := by
  unfold nextOf
  pointwise [k0_pay40, k0_pay39, k0_pay16, k0_pay29, k0_pay12, k0_pay4]

theorem state_head3 (K V0 V1 : Vec Ideal S128x512 .f32) (kd : Vec Ideal S4x128x1 .f32) (sd : Vec Ideal S4x1x1 .f32)
    (X : Vec Ideal S4x128x256 .f32) (d : Fin 128) (e : Fin 256) :
    k0_pay42 (k0_pay17 (View.ld X (Rect.unit ![3, 0, 0] ![1, 128, 256] inb_S4x128x256_S1x128x256_3_0_0)))
      (k0_pay31 (k0_pay13 V0 V1) (k0_pay30 K) (View.ld kd (Rect.unit ![3, 0, 0] ![1, 128, 1] inb_S4x128x1_S1x128x1_3_0_0)))
      (View.ld sd (Rect.unit ![3, 0, 0] ![1, 1, 1] inb_S4x1x1_S1x1x1_3_0_0)) (ix3 0 d e)
    = nextOf K (k0_pay4 V0 V1) kd sd X 3 d e := by
  unfold nextOf
  pointwise [k0_pay42, k0_pay17, k0_pay31, k0_pay30, k0_pay13, k0_pay4]

theorem out_head0 (Q K V0 V1 G0 G1 : Vec Ideal S128x512 .f32) (dec : Vec Ideal S4x128x128 .f32) (qd : Vec Ideal S4x128x1 .f32)
    (rg : Vec Ideal S4x1x256 .f32) (X : Vec Ideal S4x128x256 .f32) (i : Fin 128) (e : Fin 256) :
    k0_pay36 (k0_pay5 G0 G1) (k0_pay10 V0 V1)
      (k0_pay18 K (k0_pay6 Q) (View.ld dec (Rect.unit ![0, 0, 0] ![1, 128, 128] inb_S4x128x128_S1x128x128_0_0_0)))
      (k0_pay22 (k0_pay6 Q) (k0_pay14 (View.ld X (Rect.unit ![0, 0, 0] ![1, 128, 256] inb_S4x128x256_S1x128x256_0_0_0))) (View.ld qd (Rect.unit ![0, 0, 0] ![1, 128, 1] inb_S4x128x1_S1x128x1_0_0_0)))
      (View.ld rg (Rect.unit ![0, 0, 0] ![1, 1, 256] inb_S4x1x256_S1x1x256_0_0_0)) (ix2 i e)
    = outOf Q K (k0_pay4 V0 V1) (k0_pay5 G0 G1) dec qd rg X 0 i e := by
  unfold outOf chunkOf gate
  pointwise [k0_pay36, k0_pay18, k0_pay6, k0_pay22, k0_pay14, k0_pay10, k0_pay4, k0_pay5, Ideal.logistic]

theorem out_head1 (Q K V0 V1 G0 G1 : Vec Ideal S128x512 .f32) (dec : Vec Ideal S4x128x128 .f32) (qd : Vec Ideal S4x128x1 .f32)
    (rg : Vec Ideal S4x1x256 .f32) (X : Vec Ideal S4x128x256 .f32) (i : Fin 128) (e : Fin 256) :
    k0_pay38 (k0_pay5 G0 G1)
      (k0_pay24 (k0_pay23 (k0_pay7 Q) (k0_pay15 (View.ld X (Rect.unit ![1, 0, 0] ![1, 128, 256] inb_S4x128x256_S1x128x256_1_0_0)))) (View.ld qd (Rect.unit ![1, 0, 0] ![1, 128, 1] inb_S4x128x1_S1x128x1_1_0_0)))
      (k0_pay32 (k0_pay11 V0 V1) (k0_pay19 K (k0_pay7 Q) (View.ld dec (Rect.unit ![1, 0, 0] ![1, 128, 128] inb_S4x128x128_S1x128x128_1_0_0))))
      (View.ld rg (Rect.unit ![1, 0, 0] ![1, 1, 256] inb_S4x1x256_S1x1x256_1_0_0)) (ix2 i e)
    = outOf Q K (k0_pay4 V0 V1) (k0_pay5 G0 G1) dec qd rg X 1 i e := by
  unfold outOf chunkOf gate
  pointwise [k0_pay38, k0_pay24, k0_pay23, k0_pay7, k0_pay15, k0_pay32, k0_pay11, k0_pay19, k0_pay4, k0_pay5, Ideal.logistic]

theorem out_head2 (Q K V0 V1 G0 G1 : Vec Ideal S128x512 .f32) (dec : Vec Ideal S4x128x128 .f32) (qd : Vec Ideal S4x128x1 .f32)
    (rg : Vec Ideal S4x1x256 .f32) (X : Vec Ideal S4x128x256 .f32) (i : Fin 128) (e : Fin 256) :
    k0_pay41 (k0_pay5 G0 G1)
      (k0_pay25 (k0_pay8 Q) (k0_pay16 (View.ld X (Rect.unit ![2, 0, 0] ![1, 128, 256] inb_S4x128x256_S1x128x256_2_0_0))) (View.ld qd (Rect.unit ![2, 0, 0] ![1, 128, 1] inb_S4x128x1_S1x128x1_2_0_0)))
      (k0_pay33 (k0_pay12 V0 V1) (k0_pay20 K (k0_pay8 Q) (View.ld dec (Rect.unit ![2, 0, 0] ![1, 128, 128] inb_S4x128x128_S1x128x128_2_0_0))))
      (View.ld rg (Rect.unit ![2, 0, 0] ![1, 1, 256] inb_S4x1x256_S1x1x256_2_0_0)) (ix2 i e)
    = outOf Q K (k0_pay4 V0 V1) (k0_pay5 G0 G1) dec qd rg X 2 i e := by
  unfold outOf chunkOf gate
  pointwise [k0_pay41, k0_pay25, k0_pay8, k0_pay16, k0_pay33, k0_pay12, k0_pay20, k0_pay4, k0_pay5, Ideal.logistic]

theorem out_head3 (Q K V0 V1 G0 G1 : Vec Ideal S128x512 .f32) (dec : Vec Ideal S4x128x128 .f32) (qd : Vec Ideal S4x128x1 .f32)
    (rg : Vec Ideal S4x1x256 .f32) (X : Vec Ideal S4x128x256 .f32) (i : Fin 128) (e : Fin 256) :
    k0_pay1 (k0_pay43 (k0_pay26 (k0_pay9 Q) (k0_pay17 (View.ld X (Rect.unit ![3, 0, 0] ![1, 128, 256] inb_S4x128x256_S1x128x256_3_0_0))) (View.ld qd (Rect.unit ![3, 0, 0] ![1, 128, 1] inb_S4x128x1_S1x128x1_3_0_0)))
        (k0_pay34 (k0_pay13 V0 V1) (k0_pay21 K (k0_pay9 Q) (View.ld dec (Rect.unit ![3, 0, 0] ![1, 128, 128] inb_S4x128x128_S1x128x128_3_0_0))))) (k0_pay44 (k0_pay5 G0 G1))
      (k0_pay45 (k0_pay26 (k0_pay9 Q) (k0_pay17 (View.ld X (Rect.unit ![3, 0, 0] ![1, 128, 256] inb_S4x128x256_S1x128x256_3_0_0))) (View.ld qd (Rect.unit ![3, 0, 0] ![1, 128, 1] inb_S4x128x1_S1x128x1_3_0_0)))
        (k0_pay34 (k0_pay13 V0 V1) (k0_pay21 K (k0_pay9 Q) (View.ld dec (Rect.unit ![3, 0, 0] ![1, 128, 128] inb_S4x128x128_S1x128x128_3_0_0))))) (View.ld rg (Rect.unit ![3, 0, 0] ![1, 1, 256] inb_S4x1x256_S1x1x256_3_0_0)) (ix2 i e)
    = outOf Q K (k0_pay4 V0 V1) (k0_pay5 G0 G1) dec qd rg X 3 i e := by
  unfold outOf chunkOf gate
  pointwise [k0_pay1, k0_pay43, k0_pay44, k0_pay45, k0_pay26, k0_pay9, k0_pay17, k0_pay34, k0_pay13, k0_pay21, k0_pay4, k0_pay5, Ideal.logistic]

/-- The state's four stored heads read as one block. -/
theorem state_tile (K V0 V1 : Vec Ideal S128x512 .f32) (kd : Vec Ideal S4x128x1 .f32) (sd : Vec Ideal S4x1x1 .f32)
    (X : Vec Ideal S4x128x256 .f32) (h : Fin 4) (d : Fin 128) (e : Fin 256) :
    View.canon (Val := Elt Ideal) (e := .f32) (s := S4x128x256)
     [⟨Rect.unit ![3, 0, 0] ![1, 128, 256] inb_S4x128x256_S1x128x256_3_0_0, k0_pay42 (k0_pay17 (View.ld X (Rect.unit ![3, 0, 0] ![1, 128, 256] inb_S4x128x256_S1x128x256_3_0_0)))
      (k0_pay31 (k0_pay13 V0 V1) (k0_pay30 K) (View.ld kd (Rect.unit ![3, 0, 0] ![1, 128, 1] inb_S4x128x1_S1x128x1_3_0_0)))
      (View.ld sd (Rect.unit ![3, 0, 0] ![1, 1, 1] inb_S4x1x1_S1x1x1_3_0_0))⟩,
      ⟨Rect.unit ![2, 0, 0] ![1, 128, 256] inb_S4x128x256_S1x128x256_2_0_0, k0_pay40 (k0_pay39 (k0_pay16 (View.ld X (Rect.unit ![2, 0, 0] ![1, 128, 256] inb_S4x128x256_S1x128x256_2_0_0)))
      (k0_pay29 K (k0_pay12 V0 V1) (View.ld kd (Rect.unit ![2, 0, 0] ![1, 128, 1] inb_S4x128x1_S1x128x1_2_0_0)))
      (View.ld sd (Rect.unit ![2, 0, 0] ![1, 1, 1] inb_S4x1x1_S1x1x1_2_0_0)))⟩,
      ⟨Rect.unit ![1, 0, 0] ![1, 128, 256] inb_S4x128x256_S1x128x256_1_0_0, k0_pay37 (k0_pay15 (View.ld X (Rect.unit ![1, 0, 0] ![1, 128, 256] inb_S4x128x256_S1x128x256_1_0_0)))
      (k0_pay28 K (k0_pay11 V0 V1) (View.ld kd (Rect.unit ![1, 0, 0] ![1, 128, 1] inb_S4x128x1_S1x128x1_1_0_0)))
      (View.ld sd (Rect.unit ![1, 0, 0] ![1, 1, 1] inb_S4x1x1_S1x1x1_1_0_0))⟩,
      ⟨Rect.unit ![0, 0, 0] ![1, 128, 256] inb_S4x128x256_S1x128x256_0_0_0, k0_pay35 (k0_pay14 (View.ld X (Rect.unit ![0, 0, 0] ![1, 128, 256] inb_S4x128x256_S1x128x256_0_0_0)))
      (k0_pay27 K (k0_pay10 V0 V1) (View.ld kd (Rect.unit ![0, 0, 0] ![1, 128, 1] inb_S4x128x1_S1x128x1_0_0_0)))
      (View.ld sd (Rect.unit ![0, 0, 0] ![1, 1, 1] inb_S4x1x1_S1x1x1_0_0_0))⟩] (ix3 h d e)
    = nextOf K (k0_pay4 V0 V1) kd sd X h d e := by
  canon_tiles x hx
  all_goals
    idx_vars x
    obtain rfl : x0 = 0 := Subsingleton.elim _ _
    obtain rfl : d = x1 := Fin.ext hx1
    obtain rfl : e = x2 := Fin.ext hx2
  case piece0 =>
    obtain rfl : h = 3 := Fin.ext hx0
    exact state_head3 ..
  case piece1 =>
    obtain rfl : h = 2 := Fin.ext hx0
    exact state_head2 ..
  case piece2 =>
    obtain rfl : h = 1 := Fin.ext hx0
    exact state_head1 ..
  case piece3 =>
    obtain rfl : h = 0 := Fin.ext hx0
    exact state_head0 ..

/-- Of two lists of stores, the later where it covers the index. -/
theorem canon_append {s : Shape} (y : s.Idx) (L' : List (View.Piece (Elt Ideal) s .f32)) : ∀ L : List (View.Piece (Elt Ideal) s .f32),
    (∃ p ∈ L, y ∈ p.1.set) → View.canon (L ++ L') y = View.canon L y
  | [], h => by obtain ⟨p, hp, _⟩ := h; exact absurd hp List.not_mem_nil
  | ⟨r, w⟩ :: L, h => by
    by_cases hy : y ∈ r.set
    · obtain ⟨x, rfl⟩ : ∃ x, r.emb x = y := r.exists_idx_of_mem hy
      exact (View.canon_cons_emb r w (L ++ L') x).trans (View.canon_cons_emb r w L x).symm
    · refine (View.canon_cons_of_not_mem ⟨r, w⟩ (L ++ L') hy).trans ?_
      rw [View.canon_cons_of_not_mem ⟨r, w⟩ L hy]
      obtain ⟨p, hp, hm⟩ := h
      rcases List.mem_cons.1 hp with rfl | hp
      · exact absurd hm hy
      · exact canon_append y L' L ⟨p, hp, hm⟩

/-- The four heads cover the state. -/
theorem heads_cover (A B C D : S1x128x256.Idx → Elt Ideal .f32) (h : Fin 4) (d : Fin 128) (e : Fin 256) :
    ∃ p ∈ ([⟨Rect.unit ![3, 0, 0] ![1, 128, 256] inb_S4x128x256_S1x128x256_3_0_0, A⟩,
      ⟨Rect.unit ![2, 0, 0] ![1, 128, 256] inb_S4x128x256_S1x128x256_2_0_0, B⟩,
      ⟨Rect.unit ![1, 0, 0] ![1, 128, 256] inb_S4x128x256_S1x128x256_1_0_0, C⟩,
      ⟨Rect.unit ![0, 0, 0] ![1, 128, 256] inb_S4x128x256_S1x128x256_0_0_0, D⟩] : List (View.Piece (Elt Ideal) S4x128x256 .f32)),
      (ix3 h d e : S4x128x256.Idx) ∈ p.1.set := by
  have at_ : ∀ (q : ℕ) (inb), h.val = q → (ix3 h d e : S4x128x256.Idx) ∈ (Rect.unit (s := S4x128x256) ![q, 0, 0] ![1, 128, 256] inb).set := by
    intro q inb hq
    refine Rect.mem_set_unit.2 fun a => ?_
    fin_cases a
    · exact ⟨le_of_eq hq.symm, by show h.val < q + 1; omega⟩
    · exact ⟨Nat.zero_le _, by show d.val < 0 + 128; omega⟩
    · exact ⟨Nat.zero_le _, by show e.val < 0 + 256; omega⟩
  rcases (by omega : h.val = 3 ∨ h.val = 2 ∨ h.val = 1 ∨ h.val = 0) with q | q | q | q
  · exact ⟨_, .head _, at_ 3 inb_S4x128x256_S1x128x256_3_0_0 q⟩
  · exact ⟨_, .tail _ (.head _), at_ 2 inb_S4x128x256_S1x128x256_2_0_0 q⟩
  · exact ⟨_, .tail _ (.tail _ (.head _)), at_ 1 inb_S4x128x256_S1x128x256_1_0_0 q⟩
  · exact ⟨_, .tail _ (.tail _ (.tail _ (.head _))), at_ 0 inb_S4x128x256_S1x128x256_0_0_0 q⟩

/-- The result's four stored column bands read as one block. -/
theorem out_tile (Q K V0 V1 G0 G1 : Vec Ideal S128x512 .f32) (dec : Vec Ideal S4x128x128 .f32) (qd : Vec Ideal S4x128x1 .f32)
    (rg : Vec Ideal S4x1x256 .f32) (X : Vec Ideal S4x128x256 .f32) (h : Fin 4) (i : Fin 128) (e : Fin 256) :
    View.canon (Val := Elt Ideal) (e := .f32) (s := S128x1024)
     [⟨Rect.unit ![0, 768] ![128, 256] inb_S128x1024_S128x256_0_768, k0_pay1 (k0_pay43 (k0_pay26 (k0_pay9 Q) (k0_pay17 (View.ld X (Rect.unit ![3, 0, 0] ![1, 128, 256] inb_S4x128x256_S1x128x256_3_0_0))) (View.ld qd (Rect.unit ![3, 0, 0] ![1, 128, 1] inb_S4x128x1_S1x128x1_3_0_0)))
        (k0_pay34 (k0_pay13 V0 V1) (k0_pay21 K (k0_pay9 Q) (View.ld dec (Rect.unit ![3, 0, 0] ![1, 128, 128] inb_S4x128x128_S1x128x128_3_0_0))))) (k0_pay44 (k0_pay5 G0 G1))
      (k0_pay45 (k0_pay26 (k0_pay9 Q) (k0_pay17 (View.ld X (Rect.unit ![3, 0, 0] ![1, 128, 256] inb_S4x128x256_S1x128x256_3_0_0))) (View.ld qd (Rect.unit ![3, 0, 0] ![1, 128, 1] inb_S4x128x1_S1x128x1_3_0_0)))
        (k0_pay34 (k0_pay13 V0 V1) (k0_pay21 K (k0_pay9 Q) (View.ld dec (Rect.unit ![3, 0, 0] ![1, 128, 128] inb_S4x128x128_S1x128x128_3_0_0))))) (View.ld rg (Rect.unit ![3, 0, 0] ![1, 1, 256] inb_S4x1x256_S1x1x256_3_0_0))⟩,
      ⟨Rect.unit ![0, 512] ![128, 256] inb_S128x1024_S128x256_0_512, k0_pay41 (k0_pay5 G0 G1)
      (k0_pay25 (k0_pay8 Q) (k0_pay16 (View.ld X (Rect.unit ![2, 0, 0] ![1, 128, 256] inb_S4x128x256_S1x128x256_2_0_0))) (View.ld qd (Rect.unit ![2, 0, 0] ![1, 128, 1] inb_S4x128x1_S1x128x1_2_0_0)))
      (k0_pay33 (k0_pay12 V0 V1) (k0_pay20 K (k0_pay8 Q) (View.ld dec (Rect.unit ![2, 0, 0] ![1, 128, 128] inb_S4x128x128_S1x128x128_2_0_0))))
      (View.ld rg (Rect.unit ![2, 0, 0] ![1, 1, 256] inb_S4x1x256_S1x1x256_2_0_0))⟩,
      ⟨Rect.unit ![0, 256] ![128, 256] inb_S128x1024_S128x256_0_256, k0_pay38 (k0_pay5 G0 G1)
      (k0_pay24 (k0_pay23 (k0_pay7 Q) (k0_pay15 (View.ld X (Rect.unit ![1, 0, 0] ![1, 128, 256] inb_S4x128x256_S1x128x256_1_0_0)))) (View.ld qd (Rect.unit ![1, 0, 0] ![1, 128, 1] inb_S4x128x1_S1x128x1_1_0_0)))
      (k0_pay32 (k0_pay11 V0 V1) (k0_pay19 K (k0_pay7 Q) (View.ld dec (Rect.unit ![1, 0, 0] ![1, 128, 128] inb_S4x128x128_S1x128x128_1_0_0))))
      (View.ld rg (Rect.unit ![1, 0, 0] ![1, 1, 256] inb_S4x1x256_S1x1x256_1_0_0))⟩,
      ⟨Rect.unit ![0, 0] ![128, 256] inb_S128x1024_S128x256_0_0, k0_pay36 (k0_pay5 G0 G1) (k0_pay10 V0 V1)
      (k0_pay18 K (k0_pay6 Q) (View.ld dec (Rect.unit ![0, 0, 0] ![1, 128, 128] inb_S4x128x128_S1x128x128_0_0_0)))
      (k0_pay22 (k0_pay6 Q) (k0_pay14 (View.ld X (Rect.unit ![0, 0, 0] ![1, 128, 256] inb_S4x128x256_S1x128x256_0_0_0))) (View.ld qd (Rect.unit ![0, 0, 0] ![1, 128, 1] inb_S4x128x1_S1x128x1_0_0_0)))
      (View.ld rg (Rect.unit ![0, 0, 0] ![1, 1, 256] inb_S4x1x256_S1x1x256_0_0_0))⟩] (ix2 i (⟨256 * h.val + e.val, by omega⟩ : Fin 1024))
    = outOf Q K (k0_pay4 V0 V1) (k0_pay5 G0 G1) dec qd rg X h i e := by
  canon_tiles x hx
  all_goals
    idx_vars x
    obtain rfl : i = x0 := Fin.ext hx0
  case piece0 =>
    have hh : 256 * h.val + e.val = 768 + x1.val := hx1
    obtain rfl : h = 3 := Fin.ext (show h.val = 3 by omega)
    obtain rfl : e = x1 := Fin.ext (by have : 256 * 3 + e.val = 768 + x1.val := hh; omega)
    exact out_head3 ..
  case piece1 =>
    have hh : 256 * h.val + e.val = 512 + x1.val := hx1
    obtain rfl : h = 2 := Fin.ext (show h.val = 2 by omega)
    obtain rfl : e = x1 := Fin.ext (by have : 256 * 2 + e.val = 512 + x1.val := hh; omega)
    exact out_head2 ..
  case piece2 =>
    have hh : 256 * h.val + e.val = 256 + x1.val := hx1
    obtain rfl : h = 1 := Fin.ext (show h.val = 1 by omega)
    obtain rfl : e = x1 := Fin.ext (by have : 256 * 1 + e.val = 256 + x1.val := hh; omega)
    exact out_head1 ..
  case piece3 =>
    have hh : 256 * h.val + e.val = 0 + x1.val := hx1.trans (Nat.zero_add _).symm
    obtain rfl : h = 0 := Fin.ext (show h.val = 0 by omega)
    obtain rfl : e = x1 := Fin.ext (by have : 256 * 0 + e.val = 0 + x1.val := hh; omega)
    exact out_head0 ..

/-- One point's step of the state is the reference's trip. -/
theorem step_state (c : Dev nD) (t : Fin cfg0.N) (X : Vec Ideal S4x128x256 .f32)
    (hX : ∀ h d e, X (ix3 h d e) = (states (m ((c : Thread nD τ).loc main_arg0)) (tj t).val).main_v14_4 (ix4 (tb t) h d e))
    (h : Fin 4) (d : Fin 128) (e : Fin 256) :
    nextOf (iblk m c 1 t) (k0_pay4 (iblk m c 2 t) (iblk m c 3 t)) (iblk m c 9 t) (iblk m c 10 t) X h d e
      = (states (m ((c : Thread nD τ).loc main_arg0)) ((tj t).val + 1)).main_v14_4 (ix4 (tb t) h d e) := by
  unfold nextOf
  rw [next_at, hX, in_sd m c t (tj t).val (states (m ((c : Thread nD τ).loc main_arg0)) (tj t).val) h]
  refine congrArg _ (Finset.sum_congr rfl fun i _ => ?_)
  rw [in_k, in_v, in_kd m c t (tj t).val (states (m ((c : Thread nD τ).loc main_arg0)) (tj t).val) h i]
  simp only [← Nat.add_assoc]

/-- One point's block of the result is the reference's chunk, normed and gated. -/
theorem step_out (c : Dev nD) (t : Fin cfg0.N) (X : Vec Ideal S4x128x256 .f32)
    (hX : ∀ h d e, X (ix3 h d e) = (states (m ((c : Thread nD τ).loc main_arg0)) (tj t).val).main_v14_4 (ix4 (tb t) h d e))
    (h : Fin 4) (i : Fin 128) (e : Fin 256) :
    outOf (iblk m c 0 t) (iblk m c 1 t) (k0_pay4 (iblk m c 2 t) (iblk m c 3 t)) (k0_pay5 (iblk m c 4 t) (iblk m c 5 t))
        (iblk m c 7 t) (iblk m c 8 t) (iblk m c 11 t) X h i e
      = resAt (m ((c : Thread nD τ).loc main_arg0)) (m ((c : Thread nD τ).loc main_arg1)) (tb t) (tj t) i h e := by
  have k : ∀ e, chunkOf (iblk m c 0 t) (iblk m c 1 t) (k0_pay4 (iblk m c 2 t) (iblk m c 3 t)) (iblk m c 7 t) (iblk m c 8 t) X h i e
      = chunkOut (m ((c : Thread nD τ).loc main_arg0)) (tj t) (tb t) h i e := fun e => by
    unfold chunkOf chunkOut
    rw [in_qd m c t (tj t).val (states (m ((c : Thread nD τ).loc main_arg0)) (tj t).val) h i]
    refine congrArg₂ _ (Finset.sum_congr rfl fun k _ => ?_) (congrArg (· * _) (Finset.sum_congr rfl fun d _ => ?_))
    · rw [mul_comm, in_v, in_dec m c t (tj t).val (states (m ((c : Thread nD τ).loc main_arg0)) (tj t).val) h i k]
      simp only [in_q, in_k, ← Nat.add_assoc]
    · rw [mul_comm, hX, in_q]
      simp only [← Nat.add_assoc]
  unfold outOf resAt
  simp only [k]
  rw [in_rg, in_g]
  simp only [← Nat.add_assoc]

/-- The carried state after a point, of the state before it. -/
theorem scratch_step (c : Dev nD) (t : Fin cfg0.N) (h0 : ¬ t.val % 16 = 0) (h : Fin 4) (d : Fin 128) (e : Fin 256) :
    (outsAt0 m c t.val t.isLt).2.2 (ix3 h d e)
      = nextOf (iblk m c 1 t) (k0_pay4 (iblk m c 2 t) (iblk m c 3 t)) (iblk m c 9 t) (iblk m c 10 t)
          (outsAt0 m c (t.val - 1) (Nat.lt_of_le_of_lt (Nat.sub_le _ _) t.isLt)).2.2 h d e := by
  by_cases h1 : t.val % 16 = 15
  · rw [outsAt0_C m c t h0 h1]
    frame_out
    simp only [read_unread_whole]
    exact state_tile ..
  · rw [outsAt0_B m c t h0 h1]
    frame_out
    simp only [read_unread_whole]
    exact state_tile ..

theorem scratch_start (c : Dev nD) (t : Fin cfg0.N) (h0 : t.val % 16 = 0) (h : Fin 4) (d : Fin 128) (e : Fin 256) :
    (outsAt0 m c t.val t.isLt).2.2 (ix3 h d e)
      = nextOf (iblk m c 1 t) (k0_pay4 (iblk m c 2 t) (iblk m c 3 t)) (iblk m c 9 t) (iblk m c 10 t) (k0_pay3 (F := Ideal)) h d e := by
  rw [outsAt0_A m c t h0 (by omega)]
  frame_open
  simp (disch := decide) only [↓ View.readCov_skip, ↓ View.readCov_cons_toLoadRect, ↓ View.readCov_fill]
  frame_out
  exact (canon_append _ [_] [_, _, _, _] (heads_cover _ _ _ _ h d e)).trans (state_tile ..)

theorem out_step (c : Dev nD) (t : Fin cfg0.N) (h0 : ¬ t.val % 16 = 0) (h : Fin 4) (i : Fin 128) (e : Fin 256) :
    (outsAt0 m c t.val t.isLt).1 (ix2 i (⟨256 * h.val + e.val, by omega⟩ : Fin 1024))
      = outOf (iblk m c 0 t) (iblk m c 1 t) (k0_pay4 (iblk m c 2 t) (iblk m c 3 t)) (k0_pay5 (iblk m c 4 t) (iblk m c 5 t))
          (iblk m c 7 t) (iblk m c 8 t) (iblk m c 11 t)
          (outsAt0 m c (t.val - 1) (Nat.lt_of_le_of_lt (Nat.sub_le _ _) t.isLt)).2.2 h i e := by
  by_cases h1 : t.val % 16 = 15
  · rw [outsAt0_C m c t h0 h1]
    frame_out
    simp only [read_unread_whole]
    exact out_tile ..
  · rw [outsAt0_B m c t h0 h1]
    frame_out
    simp only [read_unread_whole]
    exact out_tile ..

theorem out_start (c : Dev nD) (t : Fin cfg0.N) (h0 : t.val % 16 = 0) (h : Fin 4) (i : Fin 128) (e : Fin 256) :
    (outsAt0 m c t.val t.isLt).1 (ix2 i (⟨256 * h.val + e.val, by omega⟩ : Fin 1024))
      = outOf (iblk m c 0 t) (iblk m c 1 t) (k0_pay4 (iblk m c 2 t) (iblk m c 3 t)) (k0_pay5 (iblk m c 4 t) (iblk m c 5 t))
          (iblk m c 7 t) (iblk m c 8 t) (iblk m c 11 t) (k0_pay3 (F := Ideal)) h i e := by
  rw [outsAt0_A m c t h0 (by omega)]
  frame_open
  simp (disch := decide) only [↓ View.readCov_skip, ↓ View.readCov_cons_toLoadRect, ↓ View.readCov_fill]
  frame_out
  exact out_tile ..

/-- The state that a point carries on is the reference's, after its chunk of its batch entry. -/
theorem carried (c : Dev nD) (b : Fin 16) : ∀ (n : ℕ) (hn : n < 16) (t : Fin cfg0.N), t.val = 16 * b.val + n →
    ∀ (h : Fin 4) (d : Fin 128) (e : Fin 256), (outsAt0 m c t.val t.isLt).2.2 (ix3 h d e)
      = (states (m ((c : Thread nD τ).loc main_arg0)) (n + 1)).main_v14_4 (ix4 b h d e)
  | 0, hn, t, ht, h, d, e => by
    have eb : tb t = b := Fin.ext (show t.val / 16 = b.val by omega)
    have ej : (tj t).val = 0 := show t.val % 16 = 0 by omega
    rw [scratch_start m c t (by omega), step_state m c t _ (fun h d e => ?_), eb, ej]
    rw [ej]
    show k0_pay3 (ix3 h d e) = K_main_v6 (ix4 (tb t) h d e)
    pointwise [k0_pay3, K_main_v6, K_main_cst]
  | n + 1, hn, t, ht, h, d, e => by
    have eb : tb t = b := Fin.ext (show t.val / 16 = b.val by omega)
    have ej : (tj t).val = n + 1 := show t.val % 16 = n + 1 by omega
    rw [scratch_step m c t (by omega), step_state m c t _ (fun h d e => ?_), eb, ej]
    rw [eb, ej]
    exact carried c b n (by omega) ⟨t.val - 1, Nat.lt_of_le_of_lt (Nat.sub_le _ _) t.isLt⟩ (show t.val - 1 = _ by omega) h d e

/-- The result's block at a point. -/
theorem out_at_point (c : Dev nD) (t : Fin cfg0.N) (h : Fin 4) (i : Fin 128) (e : Fin 256) :
    (outsAt0 m c t.val t.isLt).1 (ix2 i (⟨256 * h.val + e.val, by omega⟩ : Fin 1024))
      = resAt (m ((c : Thread nD τ).loc main_arg0)) (m ((c : Thread nD τ).loc main_arg1)) (tb t) (tj t) i h e := by
  by_cases h0 : t.val % 16 = 0
  · rw [out_start m c t h0]
    refine step_out m c t _ (fun h d e => ?_) h i e
    have ej : (tj t).val = 0 := h0
    rw [ej]
    show k0_pay3 (ix3 h d e) = K_main_v6 (ix4 (tb t) h d e)
    pointwise [k0_pay3, K_main_v6, K_main_cst]
  · rw [out_step m c t h0]
    refine step_out m c t _ (fun h d e => ?_) h i e
    have ej : (tj t).val = (t.val % 16 - 1) + 1 := show t.val % 16 = _ by omega
    rw [ej]
    exact carried m c (tb t) (t.val % 16 - 1) (by omega) ⟨t.val - 1, Nat.lt_of_le_of_lt (Nat.sub_le _ _) t.isLt⟩
      (show t.val - 1 = 16 * (t.val / 16) + (t.val % 16 - 1) by omega) h d e

/-- What the first result holds: the reference's chunks, normed and gated. -/
def gated (c : Dev nD) : (⟨S32768x1024, .f32⟩ : BufTy).Contents (Elt Ideal) :=
  R_main_v35 (states (m ((c : Thread nD τ).loc main_arg0)) 16) (m ((c : Thread nD τ).loc main_arg0)) (m ((c : Thread nD τ).loc main_arg1))
/-- What the second result holds: the state after the last chunk. -/
def last (c : Dev nD) : (⟨S16x4x128x256, .f32⟩ : BufTy).Contents (Elt Ideal) :=
  (states (m ((c : Thread nD τ).loc main_arg0)) 16).main_v14_4

theorem emb12 (t : Fin cfg0.N) (r : Fin 128) (l : Fin 1024) :
    ((cfg0.win 12).blk t).view.emb (ix2 r l) = ix2 (tok (tb t) (tj t) r) l := by
  blk_ext [idx t]
theorem emb13 (t : Fin cfg0.N) (h : Fin 4) (d : Fin 128) (e : Fin 256) :
    ((cfg0.win 13).blk t).view.emb (ix4 0 h d e) = ix4 (tb t) h d e := by
  blk_ext [idx t]

theorem arr12 (c : Dev nD) : (dats m 0 c).arrAt 12 cfg0.N = gated m c := by
  refine (dats m 0 c).arrAt_eq_of_covers 12 _ (by decide +kernel) fun t hf y => ?_
  blk_simp
  rw [after0_12]
  idx_vars y
  obtain ⟨h, e, hy⟩ : ∃ (h : Fin 4) (e : Fin 256), y1 = (⟨256 * h.val + e.val, by omega⟩ : Fin 1024) :=
    ⟨⟨y1.val / 256, by omega⟩, ⟨y1.val % 256, by omega⟩, Fin.ext (show y1.val = 256 * (y1.val / 256) + y1.val % 256 by omega)⟩
  subst hy
  rw [emb12 t, out_at_point]
  exact (res_at _ _ (tb t) (tj t) y0 h e _ rfl).symm

theorem state_out (c : Dev nD) (t : Fin cfg0.N) (h1 : t.val % 16 = 15) (h : Fin 4) (d : Fin 128) (e : Fin 256) :
    (outsAt0 m c t.val t.isLt).2.1 (ix4 0 h d e) = (outsAt0 m c t.val t.isLt).2.2 (ix3 h d e) := by
  rw [outsAt0_C m c t (by omega) h1]
  frame_out
  rw [View.readCov_eq_canon_ld _ _ _ fun j => by
    idx_vars j
    exact heads_cover _ _ _ _ j0 j1 j2]
  generalize View.canon (Val := Elt Ideal) (e := .f32) (s := S4x128x256) _ = T
  pointwise [k0_pay2]

theorem arr13 (c : Dev nD) : (dats m 0 c).arrAt 13 cfg0.N = last m c := by
  refine (dats m 0 c).arrAt_eq_of_covers 13 _ (by decide +kernel) fun t hf y => ?_
  have h1 : t.val % 16 = 15 := (by decide +kernel : ∀ t : Fin cfg0.N, (cfg0.win 13).flush t = true → t.val % 16 = 15) t hf
  blk_simp
  rw [after0_13]
  idx_vars y
  obtain rfl : y0 = 0 := Subsingleton.elim _ _
  rw [emb13 t, state_out m c t h1]
  exact carried m c (tb t) 15 (by omega) t (show t.val = 16 * (t.val / 16) + 15 by omega) y1 y2 y3

end Cert.RetProof

end
-- ==== Proof.MergeValue.lean ====
/- The value of the call that merges the two branches: the three arrays that the kernel writes tile by tile (the rows
   with the merged branches added, their norm, the queries of that norm) are, entry by entry, what the reference
   computes on the whole arrays. -/
module

public import proofs.«01_k».proof.Proof.Gen.MergeIdeal.Value
public import proofs.«01_k».proof.Proof.Gen.MergeRefIdeal.Read
public import Idealize.ShloMosaic.Lib.Pipeline.ValueKit

@[expose] public section

set_option maxRecDepth 16384

noncomputable section

namespace Cert.MergeProof

open Idealize.ShloMosaic Idealize.ShloMosaic.TcCoe Idealize.SL.Sem
open Cert.MergeRefIdeal.Read (val_main_v0 val_main_v1 val_main_v2 val_main_v3 val_main_v4 val_main_cst val_main_v5 val_main_v6
  val_main_cst_0 val_main_v7 val_main_v8 val_main_v9 val_main_v10 val_main_v11 val_main_v12 val_main_v13
  val_main_cst_1 val_main_v14 val_main_v15 val_main_cst_2 val_main_v16 val_main_v17 val_main_v18
  val_main_v19 val_main_v20 val_main_v21 val_main_v22 val_main_v23 val_main_v24 val_main_v25 val_main_v26
  val_main_cst_3 val_main_v27 val_main_v28 val_main_cst_4 val_main_v29 val_main_v30 val_main_cst_5
  val_main_v31 val_main_v32 val_main_v33 val_main_v34 val_main_v35 val_main_v36 val_main_v37 val_main_v38
  val_main_v39 val_main_v40)
open Cert.MergeIdeal Cert.MergeIdeal.Gen
open Idealize.ShloMosaic.Pipeline (Dat)

variable (m : (ℓ : Loc nD τ sig) → Buf (Elt Ideal) ℓ)

/-- The reference's first result, the rows with the merged branches added, at the kernel's argument arrays. -/
def rows (c : Dev nD) : Buf (Elt Ideal) ((c : Thread nD τ).loc main_v11_0) :=
  val_main_v24 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- Where each window's block sits: the row tiles follow the point (the four gate windows at their half's columns),
    the weights do not move. -/
theorem idx : ∀ t : Fin cfg0.N, win0_0.index t = ![t.val, 0] ∧ win0_1.index t = ![t.val, 0] ∧ win0_2.index t = ![t.val, 0]
    ∧ win0_3.index t = ![t.val, 9] ∧ win0_4.index t = ![t.val, 10] ∧ win0_5.index t = ![t.val, 11]
    ∧ win0_6.index t = ![t.val, 12] ∧ win0_7.index t = ![0, 0] ∧ win0_8.index t = ![0, 0] ∧ win0_9.index t = ![0, 0]
    ∧ win0_10.index t = ![0, 0] ∧ win0_11.index t = ![0, 0] ∧ win0_12.index t = ![t.val, 0]
    ∧ win0_13.index t = ![t.val, 0] ∧ win0_14.index t = ![t.val, 0] :=
  (by decide +kernel : ∀ t : Fin grid0.N, _)

/-- Row `r` of the tile of point `t`, as a row of the whole array. -/
abbrev row (t : Fin cfg0.N) (r : Fin 256) : Fin 32768 :=
  ⟨t.val * 256 + r.val, by have := t.isLt; have : cfg0.N = 128 := rfl; omega⟩

/-- The rows' tile at point `t`, as the body computes it from its blocks. -/
def tile (c : Dev nD) (t : Fin cfg0.N) : FVec Ideal S256x1024 .f32 :=
  k0_pay3 (iblk m c 1 t) (iblk m c 7 t) (iblk m c 2 t) (iblk m c 8 t) (iblk m c 3 t) (iblk m c 4 t) (iblk m c 5 t)
    (iblk m c 6 t) (iblk m c 0 t) (iblk m c 9 t)

/-- The first gate's two half-width blocks side by side are its columns of the projection. -/
theorem gate_a (c : Dev nD) (t : Fin cfg0.N) (r : Fin 256) (k : Fin 1024) :
    concatenate S256x1024 1 [⟨S256x512, iblk m c 3 t⟩, ⟨S256x512, iblk m c 4 t⟩]
        concatenates_S256x512_S256x512_S256x1024_d1 (ix2 r k)
      = m ((c : Thread nD τ).loc main_arg3) (ix2 (row t r) (⟨4608 + k.val, by omega⟩ : Fin 6656)) := by
  pointwise
  split <;> blk_ext [iblk, V, idx t]

/-- The second gate's likewise. -/
theorem gate_b (c : Dev nD) (t : Fin cfg0.N) (r : Fin 256) (k : Fin 1024) :
    concatenate S256x1024 1 [⟨S256x512, iblk m c 5 t⟩, ⟨S256x512, iblk m c 6 t⟩]
        concatenates_S256x512_S256x512_S256x1024_d1 (ix2 r k)
      = m ((c : Thread nD τ).loc main_arg3) (ix2 (row t r) (⟨5632 + k.val, by omega⟩ : Fin 6656)) := by
  pointwise
  split <;> blk_ext [iblk, V, idx t]

theorem tile_point (c : Dev nD) (t : Fin cfg0.N) (r : Fin 256) (l : Fin 1024) :
    tile m c t (ix2 r l) = rows m c (ix2 (row t r) l) := by
  have ga := gate_a m c t
  have gb := gate_b m c t
  unfold tile rows k0_pay3
  generalize concatenate S256x1024 1 [⟨S256x512, iblk m c 3 t⟩, ⟨S256x512, iblk m c 4 t⟩]
        concatenates_S256x512_S256x512_S256x1024_d1 = GA at ga ⊢
  generalize concatenate S256x1024 1 [⟨S256x512, iblk m c 5 t⟩, ⟨S256x512, iblk m c 6 t⟩]
        concatenates_S256x512_S256x512_S256x1024_d1 = GB at gb ⊢
  pointwise [val_main_v0, val_main_v1, val_main_v2, val_main_v3, val_main_v4, val_main_cst, val_main_v5, val_main_v6,
    val_main_cst_0, val_main_v7, val_main_v8, val_main_v9, val_main_v10, val_main_v11, val_main_v12,
    val_main_v13, val_main_cst_1, val_main_v14, val_main_v15, val_main_cst_2, val_main_v16, val_main_v17,
    val_main_v18, val_main_v19, val_main_v20, val_main_v21, val_main_v22, val_main_v23, val_main_v24, Ideal.logistic, ga, gb]
  blk_point [iblk, V, idx t]

/-- The reference's second result, the norm of those rows. -/
def normed (c : Dev nD) : Buf (Elt Ideal) ((c : Thread nD τ).loc main_v11_1) :=
  val_main_v38 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- The reference's third result, the queries of the channel mixer. -/
def queries (c : Dev nD) : Buf (Elt Ideal) ((c : Thread nD τ).loc main_v11_2) :=
  val_main_v40 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8))

/-- The norm's tile at point `t`, as the body computes it from its blocks. -/
def normTile (c : Dev nD) (t : Fin cfg0.N) : FVec Ideal S256x1024 .f32 :=
  k0_pay1 (tile m c t) (k0_pay4 (iblk m c 1 t) (iblk m c 7 t) (iblk m c 2 t) (iblk m c 8 t) (iblk m c 3 t)
    (iblk m c 4 t) (iblk m c 5 t) (iblk m c 6 t) (iblk m c 0 t) (iblk m c 9 t)) (iblk m c 10 t)

theorem norm_point (c : Dev nD) (t : Fin cfg0.N) (r : Fin 256) (l : Fin 1024) :
    normTile m c t (ix2 r l) = normed m c (ix2 (row t r) l) := by
  have h := tile_point m c t
  unfold tile rows at h
  unfold normTile normed tile k0_pay1 k0_pay4
  have e : ∀ k, iblk m c 10 t (ix2 0 k) = m ((c : Thread nD τ).loc main_arg7) (ix2 0 k) := fun k => by
    blk_point [iblk, V, idx t]
  generalize k0_pay3 (iblk m c 1 t) (iblk m c 7 t) (iblk m c 2 t) (iblk m c 8 t) (iblk m c 3 t) (iblk m c 4 t)
    (iblk m c 5 t) (iblk m c 6 t) (iblk m c 0 t) (iblk m c 9 t) = T at h ⊢
  pointwise [val_main_v25, val_main_v26, val_main_cst_3, val_main_v27, val_main_v28, val_main_cst_4, val_main_v29,
    val_main_v30, val_main_cst_5, val_main_v31, val_main_v32, val_main_v33, val_main_v34, val_main_v35, val_main_v36, val_main_v37,
    val_main_v38, h, e]

/-- The queries' tile at point `t`. -/
def queryTile (c : Dev nD) (t : Fin cfg0.N) : FVec Ideal S256x2048 .f32 :=
  k0_pay2 (tile m c t) (k0_pay4 (iblk m c 1 t) (iblk m c 7 t) (iblk m c 2 t) (iblk m c 8 t) (iblk m c 3 t)
    (iblk m c 4 t) (iblk m c 5 t) (iblk m c 6 t) (iblk m c 0 t) (iblk m c 9 t)) (iblk m c 10 t) (iblk m c 11 t)

theorem query_point (c : Dev nD) (t : Fin cfg0.N) (r : Fin 256) (l : Fin 2048) :
    queryTile m c t (ix2 r l)
      = queries m c (ix2 (row t r) l) := by
  have h := norm_point m c t
  have e : ∀ k, iblk m c 11 t (ix2 k l) = m ((c : Thread nD τ).loc main_arg8) (ix3 0 k l) := fun k => by
    blk_point [iblk, V, idx t]
  unfold normTile normed at h
  unfold queryTile queries k0_pay2
  generalize k0_pay1 (tile m c t) (k0_pay4 (iblk m c 1 t) (iblk m c 7 t) (iblk m c 2 t) (iblk m c 8 t) (iblk m c 3 t)
    (iblk m c 4 t) (iblk m c 5 t) (iblk m c 6 t) (iblk m c 0 t) (iblk m c 9 t)) (iblk m c 10 t) = T at h ⊢
  pointwise [val_main_v40, val_main_v39, h, e]

/-- Where an element of point `t`'s block lies in each result. -/
theorem emb12 (t : Fin cfg0.N) (r : Fin 256) (l : Fin 1024) :
    ((cfg0.win 12).blk t).view.emb (ix2 r l) = ix2 (row t r) l := by
  blk_ext [idx t]
theorem emb13 (t : Fin cfg0.N) (r : Fin 256) (l : Fin 1024) :
    ((cfg0.win 13).blk t).view.emb (ix2 r l) = ix2 (row t r) l := by
  blk_ext [idx t]
theorem emb14 (t : Fin cfg0.N) (r : Fin 256) (l : Fin 2048) :
    ((cfg0.win 14).blk t).view.emb (ix2 r l) = ix2 (row t r) l := by
  blk_ext [idx t]

theorem arr12 (c : Dev nD) : (dats m 0 c).arrAt 12 cfg0.N = rows m c := by
  refine (dats m 0 c).arrAt_eq_of_covers 12 _ (by decide +kernel) fun t hf y => ?_
  blk_simp
  rw [after0_12]
  frame_out
  idx_vars y
  rw [emb12 t y0 y1, ← tile_point m c t y0 y1]
  rfl

theorem arr13 (c : Dev nD) : (dats m 0 c).arrAt 13 cfg0.N = normed m c := by
  refine (dats m 0 c).arrAt_eq_of_covers 13 _ (by decide +kernel) fun t hf y => ?_
  blk_simp
  rw [after0_13]
  unfold_out out0_13
  frame_out
  idx_vars y
  rw [emb13 t y0 y1, ← norm_point m c t y0 y1]
  rfl

theorem arr14 (c : Dev nD) : (dats m 0 c).arrAt 14 cfg0.N = queries m c := by
  refine (dats m 0 c).arrAt_eq_of_covers 14 _ (by decide +kernel) fun t hf y => ?_
  blk_simp
  rw [after0_14]
  unfold_out out0_14
  frame_out
  idx_vars y
  rw [emb14 t y0 y1, ← query_point m c t y0 y1]
  rfl

end Cert.MergeProof

end
-- ==== Proof.PleValue.lean ====
/- The value of the per-layer-embedding call: the array that the kernel writes tile by tile is, entry by entry, what
   the reference computes on the whole arrays. -/
module

public import proofs.«01_k».proof.Proof.Gen.PleIdeal.Value
public import proofs.«01_k».proof.Proof.Gen.PleRefIdeal.Read
public import Idealize.ShloMosaic.Lib.Pipeline.ValueKit

@[expose] public section

set_option maxRecDepth 16384

noncomputable section

namespace Cert.PleProof

open Idealize.ShloMosaic Idealize.ShloMosaic.TcCoe Idealize.SL.Sem
open Cert.PleRefIdeal.Read (val_main_v0 val_main_v1 val_main_v2 val_main_v3 val_main_v4 val_main_v5 val_main_v6 val_main_v7 val_main_v8 val_main_v9 val_main_v10 val_main_v11 val_main_v12 val_main_v13 val_main_v14 val_main_v15 val_main_v16 val_main_v17 val_main_v18 val_main_v19 val_main_v20 val_main_v21 val_main_v22 val_main_v23 val_main_v24 val_main_v25 val_main_v26 val_main_v27
  val_main_cst val_main_cst_0 val_main_cst_1 val_main_cst_2 val_main_cst_3)
open Cert.PleIdeal Cert.PleIdeal.Gen
open Idealize.ShloMosaic.Pipeline (Dat)

variable (m : (ℓ : Loc nD τ sig) → Buf (Elt Ideal) ℓ)

/-- The reference's result at the kernel's argument arrays. -/
abbrev target (c : Dev nD) : Buf (Elt Ideal) ((c : Thread nD τ).loc main_v8) :=
  PleRefIdeal.Read.val_main_v27 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- Where each window's block sits: the row tiles follow the point, the weights do not move. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] :=
  (by decide +kernel : ∀ t : Fin grid0.N, _)

theorem point (c : Dev nD) (t : Fin cfg0.N) (y : S256x1024.Idx) :
    k0_pay1 (iblk m c 0 t) (iblk m c 2 t) (iblk m c 3 t) (iblk m c 1 t) (iblk m c 4 t) y
      = target m c (((cfg0.win 5).blk t).view.emb y) := by
  idx_vars y
  have h5 := idx t
  have e : ((cfg0.win 5).blk t).view.emb (ix2 y0 y1) = ix2 (⟨t.val * 256 + y0.val, by have := t.isLt; have : cfg0.N = 128 := rfl; omega⟩ : Fin 32768) y1 := by
    blk_ext [idx t]
  rw [e]
  unfold target
  pointwise [k0_pay1, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst,
    val_main_cst_0, val_main_cst_1, val_main_cst_2, val_main_cst_3, Ideal.logistic]
  blk_point [iblk, V, idx t]

theorem arr (c : Dev nD) : (dats m 0 c).arrAt 5 cfg0.N = target m c := by
  refine (dats m 0 c).arrAt_eq_of_covers 5 _ (by decide +kernel) fun t hf y => ?_
  blk_simp
  rw [after0_5]
  frame_out
  exact point m c t y

end Cert.PleProof

end
-- ==== Proof.StickUnit.lean ====
/-
  The stick-breaking kernel's block, as functions of vectors: the scores of one tile of queries against one tile of keys of
  two heads, their softplus, its sums over the later keys, the weights, and what they add to the two scratch buffers.
-/
module

public import proofs.«01_k».proof.Proof.Gen.StickIdeal.Value
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.StickProof

open Idealize.ShloMosaic Idealize.ShloMosaic.TcCoe Idealize.SL.Sem
open Cert.StickIdeal Cert.StickIdeal.Gen

/-- The two heads of a tile laid one under the other, each with the other's lanes at zero. -/
def heads (v2 v4 : IVec S1x128 1) (x : Vec Ideal S128x128 .f32) : FVec Ideal S256x128 .bf16 :=
  truncf .bf16 (concatenate S256x128 0
    [⟨S128x128, select (broadcastTo S128x128 (shapeCast S1x128 v2 shapeCasts_S1x128_S1x128) broadcasts_S1x128_S128x128) x
        (broadcast S128x128 (Scalar.ofBits (F := Ideal) .f32 0x00000000#32))⟩,
      ⟨S128x128, select (broadcastTo S128x128 (shapeCast S1x128 v4 shapeCasts_S1x128_S1x128) broadcasts_S1x128_S128x128) x
        (broadcast S128x128 (Scalar.ofBits (F := Ideal) .f32 0x00000000#32))⟩]
    concatenates_S128x128_S128x128_S256x128_d0) bitsLt_bf16_f32

/-- The scores. -/
def zT (v2 v4 : IVec S1x128 1) (v7 : IVec S1x256 1) (q : Vec Ideal S1x128x128 .bf16) (k : Vec Ideal S128x128 .f32)
    (b0 b1 : Elt Ideal .f32) : FVec Ideal S128x256 .f32 :=
  addf (matmul dot_S128x128_S256x128_S128x256_1_1_0_0_n_n none
      (shapeCast S128x128 q shapeCasts_S1x128x128_S128x128 : FVec Ideal S128x128 .bf16) (heads v2 v4 k) (constant S128x256 .f32 0x00000000#32))
    (broadcastTo S128x256 (select v7 (broadcast S1x256 b0) (broadcast S1x256 b1)) broadcasts_S1x256_S128x256)

/-- Their softplus. -/
def spT (z : FVec Ideal S128x256 .f32) : FVec Ideal S128x256 .f32 :=
  addf (maximumf z (broadcast S128x256 (Scalar.ofBits (F := Ideal) .f32 0x00000000#32)))
    (log (addf (broadcast S128x256 (Scalar.ofBits (F := Ideal) .f32 0x3F800000#32))
      (exp (subf (broadcast S128x256 (Scalar.ofBits (F := Ideal) .f32 0x00000000#32)) (absf z)))))

/-- The sums of a tile along its rows, as the table `tri` takes them. -/
def csT (tri : FVec Ideal S256x256 .bf16) (s : FVec Ideal S128x256 .f32) : FVec Ideal S128x256 .f32 :=
  addf (matmul dot_S128x256_S256x256_S128x256_1_0_0_1_n_n none (truncf .bf16 s bitsLt_bf16_f32) tri
      (constant S128x256 .f32 0x00000000#32))
    (matmul dot_S128x256_S256x256_S128x256_1_0_0_1_n_n none
      (truncf .bf16 (subf s (extf .f32 (truncf .bf16 s bitsLt_bf16_f32) bitsLt_bf16_f32)) bitsLt_bf16_f32) tri
      (constant S128x256 .f32 0x00000000#32))

/-- The weights. -/
def aT (z s cs car : FVec Ideal S128x256 .f32) : FVec Ideal S128x256 .f32 :=
  exp (subf (subf (subf z s) cs) car)

/-- Half a tile's row sums, at every lane. -/
def halfT (x : FVec Ideal S128x128 .f32) : FVec Ideal S128x128 .f32 :=
  broadcastTo S128x128 (shapeCast S128x1 (shapeCast S128x1
    (multiReduction .add [1] S128 x 0x00000000#32 reduces_S128x128_S128 (.inl rfl) rfl) shapeCasts_S128_S128x1)
    shapeCasts_S128x1_S128x1) broadcasts_S128x1_S128x128

/-- Each head's row sums, at the head's lanes. -/
def totT (s : FVec Ideal S128x256 .f32) : FVec Ideal S128x256 .f32 :=
  concatenate S128x256 1
    [⟨S128x128, halfT (extractStridedSlice S128x128 ![0, 0] s slices_S128x256_o0_0_S128x128)⟩,
      ⟨S128x128, halfT (extractStridedSlice S128x128 ![0, 128] s slices_S128x256_o0_128_S128x128)⟩]
    concatenates_S128x128_S128x128_S128x256_d1

/-- The weighted values. -/
def dT (v2 v4 : IVec S1x128 1) (a : FVec Ideal S128x256 .f32) (v : Vec Ideal S128x128 .f32) : FVec Ideal S128x128 .f32 :=
  matmul dot_S128x256_S256x128_S128x128_1_0_0_1_n_n none (truncf .bf16 a bitsLt_bf16_f32) (heads v2 v4 v)
    (constant S128x128 .f32 0x00000000#32)

abbrev carIn (c : Vec Ideal S1x128x256 .f32) : FVec Ideal S128x256 .f32 := shapeCast S128x256 c shapeCasts_S1x128x256_S128x256
abbrev carOut (c : FVec Ideal S128x256 .f32) : FVec Ideal S1x128x256 .f32 := shapeCast S1x128x256 c shapeCasts_S128x256_S1x128x256

/-- Two blocks, the later one first: the running sums after them. -/
def pairCar (z0 z1 : FVec Ideal S128x256 .f32) (car : Vec Ideal S1x128x256 .f32) : FVec Ideal S1x128x256 .f32 :=
  carOut (addf (addf (carIn car) (totT (spT z0))) (totT (spT z1)))

/-- Two blocks, the later one first: what they add to a tile of the output. -/
def pairAcc (v2 v4 : IVec S1x128 1) (tri : FVec Ideal S256x256 .bf16) (z0 z1 : FVec Ideal S128x256 .f32)
    (car : Vec Ideal S1x128x256 .f32) (w0 w1 acc : Vec Ideal S128x128 .f32) : FVec Ideal S128x128 .f32 :=
  shapeCast S128x128 (addf acc (addf (dT v2 v4 (aT z0 (spT z0) (csT tri (spT z0)) (carIn car)) w0)
    (dT v2 v4 (aT z1 (spT z1) (csT tri (spT z1)) (addf (carIn car) (totT (spT z0)))) w1))) shapeCasts_S128x128_S128x128

end Cert.StickProof

end
-- ==== Proof.StickTrip.lean ====
/-
  What a trip of the stick-breaking kernel's loop over pairs of key blocks stores, in the block functions' terms.
-/
module

public import proofs.«01_k».proof.Proof.StickUnit
public import Idealize.ShloMosaic.Lib.VecWindow
public import Idealize.ShloMosaic.Lib.WritesUnit

@[expose] public section

set_option maxRecDepth 16384

noncomputable section

namespace Cert.StickProof

open Idealize.ShloMosaic Idealize.ShloMosaic.TcCoe Idealize.SL.Sem
open Cert.StickIdeal Cert.StickIdeal.Gen

/-- The first lane of a tile of the output is in it. -/
theorem tile_inb (t : Fin 4) : ∀ a, (![0, 128 * t.val] : Fin 2 → ℕ) a + S128x128.size a ≤ S128x512.size a := by
  revert t; decide

theorem car_inb (t : Fin 4) : ∀ a, (![t.val, 0, 0] : Fin 3 → ℕ) a + S1x128x256.size a ≤ S4x128x256.size a := by
  revert t; decide

theorem q_inb (t : Fin 4) : ∀ a, (![t.val, 0, 0] : Fin 3 → ℕ) a + S1x128x128.size a ≤ S4x128x128.size a := by
  revert t; decide

theorem bias_inb (n : Fin 8) : ∀ a, (![n.val] : Fin 1 → ℕ) a + S1.size a ≤ S8.size a := by
  revert n; decide

/-- A head's bias. -/
def biasOf (x : Vec Ideal S8 .f32) (n : Fin 8) : Elt Ideal .f32 :=
  VecWindow.window x ![n.val] S1.size (bias_inb n) (Shape.Idx.first (show 0 < S1.numel by decide))

/-- A tile of a block of rows of the keys or of the values. -/
def blkOf (x : Vec Ideal S2048x512 .f32) (off : Fin 2 → ℕ) (inb : ∀ a, off a + S128x128.size a ≤ S2048x512.size a) :
    Vec Ideal S128x128 .f32 := VecWindow.window x off S128x128.size inb

def tileOf (x : Vec Ideal S128x512 .f32) (t : Fin 4) : Vec Ideal S128x128 .f32 :=
  VecWindow.window x ![0, 128 * t.val] S128x128.size (tile_inb t)

def carOf (x : Vec Ideal S4x128x256 .f32) (t : Fin 4) : Vec Ideal S1x128x256 .f32 :=
  VecWindow.window x ![t.val, 0, 0] S1x128x256.size (car_inb t)

/-- The scores of a tile of the block's queries against a tile of keys. -/
def zOf (v2 v4 : IVec S1x128 1) (v7 : IVec S1x256 1) (x2 : Vec Ideal S8 .f32) (x8 : Vec Ideal S4x128x128 .bf16) (t : Fin 4)
    (k : Vec Ideal S128x128 .f32) : FVec Ideal S128x256 .f32 :=
  zT v2 v4 v7 (VecWindow.window x8 ![t.val, 0, 0] S1x128x128.size (q_inb t)) k
    (biasOf x2 ⟨2 * t.val, by omega⟩) (biasOf x2 ⟨2 * t.val + 1, by omega⟩)

/-- Where a trip's blocks of keys start. -/
def offT (i : grid0.Coords) (k : Fin (k0_t1_loop i).trips) (n : BitVec 32) : Fin 4 → Fin 2 → ℕ :=
  ![k0_off5 i k n, k0_off6 i k n, k0_off7 i k n, k0_off8 i k n]

theorem offT_inb (i : grid0.Coords) (k : Fin (k0_t1_loop i).trips) (r : Fin 2) (t : Fin 4) :
    ∀ a, offT i k (BitVec.ofNat 32 (1 + r.val)) t a + S128x128.size a ≤ S2048x512.size a := by
  match t with
  | 0 => exact k0_off5_inb i k r
  | 1 => exact k0_off6_inb i k r
  | 2 => exact k0_off7_inb i k r
  | 3 => exact k0_off8_inb i k r

variable (c : Dev nD) (i : grid0.Coords) (arg2 : Memref sig .tc .smem S8 .f32) (harg2 : arg2.IsWhole) (arg3 : Memref sig .tc .vmem S128x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S256x256 .bf16) (harg6 : arg6.IsWhole) (arg7 : Memref sig .tc .vmem S128x512 .f32) (harg7 : arg7.IsWhole) (arg8 : Memref sig .tc .vmem S4x128x128 .bf16) (harg8 : arg8.IsWhole) (arg9 : Memref sig .tc .vmem S128x512 .f32) (harg9 : arg9.IsWhole) (arg10 : Memref sig .tc .vmem S4x128x256 .f32) (harg10 : arg10.IsWhole) (arg1 : BitVec 32) (v2 : IVec S1x128 1) (v4 : IVec S1x128 1) (v7 : IVec S1x256 1) (v37 : FVec Ideal S256x256 .bf16) (X2 : BufTy.Contents (Elt Ideal) arg2.view.ty) (X4 : BufTy.Contents (Elt Ideal) arg4.view.ty) (X5 : BufTy.Contents (Elt Ideal) arg5.view.ty) (X8 : BufTy.Contents (Elt Ideal) arg8.view.ty)

/-- The scores of a trip's block, and its values. -/
abbrev zAt (k : Fin (k0_t1_loop i).trips) (r : Fin 2) (t : Fin 4) : FVec Ideal S128x256 .f32 :=
  zOf v2 v4 v7 (arg2.view.read (Elt Ideal) X2) (arg8.view.read (Elt Ideal) X8) t
    (blkOf (arg4.view.read (Elt Ideal) X4) (offT i k (BitVec.ofNat 32 (1 + r.val)) t) (offT_inb i k r t))

abbrev wAt (k : Fin (k0_t1_loop i).trips) (r : Fin 2) (t : Fin 4) : Vec Ideal S128x128 .f32 :=
  blkOf (arg5.view.read (Elt Ideal) X5) (offT i k (BitVec.ofNat 32 (1 + r.val)) t) (offT_inb i k r t)

theorem trip_pieces (k : Fin (k0_t1_loop i).trips) (f9 : BufTy.Contents (Elt Ideal) arg9.view.ty) (f10 : BufTy.Contents (Elt Ideal) arg10.view.ty) :
    tripL_k0_t1 (F := Ideal) Variants.none c none i arg2 harg2 arg3 harg3 arg4 harg4 arg5 harg5 arg6 harg6 arg7 harg7 arg8 harg8 arg9 harg9 arg10 harg10 arg1 v2 v4 v7 v37 X2 X4 X5 X8 k f9 f10
      = ([(3 : Fin 4), 2, 1, 0].map fun t => (⟨Rect.unit (s := S128x512) ![0, 128 * t.val] S128x128.size (tile_inb t),
            pairAcc v2 v4 v37 (zAt i arg2 arg4 arg8 v2 v4 v7 X2 X4 X8 k 0 t) (zAt i arg2 arg4 arg8 v2 v4 v7 X2 X4 X8 k 1 t)
              (carOf (arg10.view.read (Elt Ideal) f10) t) (wAt i arg5 X5 k 0 t) (wAt i arg5 X5 k 1 t)
              (tileOf (arg9.view.read (Elt Ideal) f9) t)⟩ : View.Piece (Elt Ideal) S128x512 .f32),
         [(3 : Fin 4), 2, 1, 0].map fun t => (⟨Rect.unit (s := S4x128x256) ![t.val, 0, 0] S1x128x256.size (car_inb t),
            pairCar (zAt i arg2 arg4 arg8 v2 v4 v7 X2 X4 X8 k 0 t) (zAt i arg2 arg4 arg8 v2 v4 v7 X2 X4 X8 k 1 t)
              (carOf (arg10.view.read (Elt Ideal) f10) t)⟩ : View.Piece (Elt Ideal) S4x128x256 .f32)) := by
  unfold tripL_k0_t1 trip_k0_t1
  rfl

end Cert.StickProof

end
-- ==== Proof.StickRun.lean ====
/-
  What the stick-breaking kernel's body stores at a point, in the block functions' terms: the queries' tiles, the block that
  meets the diagonal, the pairs of blocks before it, and at an odd block of queries the first block.
-/
module

public import proofs.«01_k».proof.Proof.StickTrip
public import Idealize.ShloMosaic.Lib.LoopRemainder

@[expose] public section

set_option maxRecDepth 16384

noncomputable section

namespace Cert.StickProof

open Idealize.ShloMosaic Idealize.ShloMosaic.TcCoe Idealize.SL.Sem
open Cert.StickIdeal Cert.StickIdeal.Gen

/-- A vector with its masked lanes at zero. -/
def mskT (x : FVec Ideal S128x256 .f32) : FVec Ideal S128x256 .f32 :=
  select k0_pay184 x (broadcast S128x256 (Scalar.ofBits (F := Ideal) .f32 0x00000000#32))

/-- One block: the running sums after it. -/
def oneCar (s : FVec Ideal S128x256 .f32) (car : Vec Ideal S1x128x256 .f32) : FVec Ideal S1x128x256 .f32 :=
  carOut (addf (carIn car) (totT s))

/-- One block: what it adds to a tile of the output. -/
def oneAcc (v2 v4 : IVec S1x128 1) (a : FVec Ideal S128x256 .f32) (w acc : Vec Ideal S128x128 .f32) : FVec Ideal S128x128 .f32 :=
  shapeCast S128x128 (addf acc (dT v2 v4 a w)) shapeCasts_S128x128_S128x128

/-- The pieces of the tiles before `n` of the output, each made of the tile it covers. -/
def sweep9 (v : View sig .tc .vmem S128x512 .f32) (f : Fin 4 → Vec Ideal S128x128 .f32 → Vec Ideal S128x128 .f32)
    (L : List (View.Piece (Elt Ideal) S128x512 .f32)) : ℕ → List (View.Piece (Elt Ideal) S128x512 .f32)
  | 0 => L
  | n + 1 => ⟨Rect.unit (s := S128x512) ![0, 128 * (Fin.ofNat 4 n).val] S128x128.size (tile_inb _),
      f (Fin.ofNat 4 n) (tileOf (v.read (Elt Ideal) (v.writes (Elt Ideal) v.junk (sweep9 v f L n))) (Fin.ofNat 4 n))⟩ :: sweep9 v f L n

/-- The same of the running sums. -/
def sweep10 (v : View sig .tc .vmem S4x128x256 .f32) (f : Fin 4 → Vec Ideal S1x128x256 .f32 → Vec Ideal S1x128x256 .f32)
    (L : List (View.Piece (Elt Ideal) S4x128x256 .f32)) : ℕ → List (View.Piece (Elt Ideal) S4x128x256 .f32)
  | 0 => L
  | n + 1 => ⟨Rect.unit (s := S4x128x256) ![(Fin.ofNat 4 n).val, 0, 0] S1x128x256.size (car_inb _),
      f (Fin.ofNat 4 n) (carOf (v.read (Elt Ideal) (v.writes (Elt Ideal) v.junk (sweep10 v f L n))) (Fin.ofNat 4 n))⟩ :: sweep10 v f L n

/-- The queries' tiles, scaled. -/
def qPieces (x1 : Vec Ideal S128x512 .f32) : List (View.Piece (Elt Ideal) S4x128x128 .bf16) :=
  [(3 : Fin 4), 2, 1, 0].map fun t => ⟨Rect.unit (s := S4x128x128) ![t.val, 0, 0] S1x128x128.size (q_inb t), k0_pay176 (tileOf x1 t)⟩

/-- Where the block of keys that meets the diagonal starts. -/
def offD (i : grid0.Coords) : Fin 4 → Fin 2 → ℕ := ![k0_off1 i, k0_off2 i, k0_off3 i, k0_off4 i]

theorem offD_inb (i : grid0.Coords) (t : Fin 4) : ∀ a, offD i t a + S128x128.size a ≤ S2048x512.size a := by
  match t with
  | 0 => exact k0_off1_inb i
  | 1 => exact k0_off2_inb i
  | 2 => exact k0_off3_inb i
  | 3 => exact k0_off4_inb i

theorem off0_inb (t : Fin 4) : ∀ a, (![0, 128 * t.val] : Fin 2 → ℕ) a + S128x128.size a ≤ S2048x512.size a := by
  revert t; decide

/-- The scores of a tile against a tile of keys, at the kernel's own lane masks. -/
abbrev zK (x0 : Vec Ideal S8 .f32) (x8 : Vec Ideal S4x128x128 .bf16) (t : Fin 4) (k : Vec Ideal S128x128 .f32) : FVec Ideal S128x256 .f32 :=
  zOf k0_pay173 k0_pay174 k0_pay175 x0 x8 t k

variable (c : Dev nD) (i : grid0.Coords) (arg2 : Memref sig .tc .smem S8 .f32) (harg2 : arg2.IsWhole) (arg3 : Memref sig .tc .vmem S128x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S256x256 .bf16) (harg6 : arg6.IsWhole) (arg7 : Memref sig .tc .vmem S128x512 .f32) (harg7 : arg7.IsWhole) (arg8 : Memref sig .tc .vmem S4x128x128 .bf16) (harg8 : arg8.IsWhole) (arg9 : Memref sig .tc .vmem S128x512 .f32) (harg9 : arg9.IsWhole) (arg10 : Memref sig .tc .vmem S4x128x256 .f32) (harg10 : arg10.IsWhole)
  (x0 : Vec Ideal S8 .f32) (x1 : Vec Ideal S128x512 .f32) (x2 : Vec Ideal S2048x512 .f32) (x3 : Vec Ideal S2048x512 .f32) (x4 : Vec Ideal S256x256 .bf16)

/-- The contents the body leaves the queries' buffer with. -/
abbrev qBuf (x1 : Vec Ideal S128x512 .f32) : BufTy.Contents (Elt Ideal) arg8.view.ty := arg8.view.writes (Elt Ideal) arg8.view.junk (qPieces x1)

/-- The table of the kernel's sums along a block. -/
abbrev triK : FVec Ideal S256x256 .bf16 :=
  k0_pay181 (VecWindow.window (arg6.view.read (Elt Ideal) (harg6.unread x4)) ![0, 0] S256x256.size inb_S256x256_S256x256_0_0)

abbrev zDiag (t : Fin 4) : FVec Ideal S128x256 .f32 :=
  zK (arg2.view.read (Elt Ideal) (harg2.unread x0)) (arg8.view.read (Elt Ideal) (qBuf arg8 (arg3.view.read (Elt Ideal) (harg3.unread x1)))) t
    (blkOf (arg4.view.read (Elt Ideal) (harg4.unread x2)) (offD i t) (offD_inb i t))

/-- The running sums' pieces up to the block that meets the diagonal, for the tiles before `n`. -/
abbrev diag10 (n : ℕ) : List (View.Piece (Elt Ideal) S4x128x256 .f32) :=
  sweep10 arg10.view (fun t => oneCar (mskT (spT (zDiag i arg2 harg2 arg3 harg3 arg4 harg4 arg8 x0 x1 x2 t))))
    [⟨Rect.unit (s := S4x128x256) ![0, 0, 0] S4x128x256.size inb_S4x128x256_S4x128x256_0_0_0, k0_pay183 (F := Ideal)⟩] n

/-- The output's pieces up to that block. -/
abbrev diag9 : List (View.Piece (Elt Ideal) S128x512 .f32) :=
  sweep9 arg9.view (fun t => oneAcc k0_pay173 k0_pay174
      (mskT (aT (zDiag i arg2 harg2 arg3 harg3 arg4 harg4 arg8 x0 x1 x2 t) (spT (zDiag i arg2 harg2 arg3 harg3 arg4 harg4 arg8 x0 x1 x2 t))
        (csT (triK arg6 harg6 x4) (mskT (spT (zDiag i arg2 harg2 arg3 harg3 arg4 harg4 arg8 x0 x1 x2 t))))
        (carIn (carOf (arg10.view.read (Elt Ideal) (arg10.view.writes (Elt Ideal) arg10.view.junk
          (diag10 i arg2 harg2 arg3 harg3 arg4 harg4 arg8 arg10 x0 x1 x2 t.val))) t))))
      (blkOf (arg5.view.read (Elt Ideal) (harg5.unread x3)) (offD i t) (offD_inb i t)))
    [⟨Rect.unit (s := S128x512) ![0, 0] S128x512.size inb_S128x512_S128x512_0_0, k0_pay182 (F := Ideal)⟩] 4

/-- The pieces of the pairs of blocks before `n`, after the pieces `D9`, `D10` of the block before them. -/
abbrev pairs (D9 : List (View.Piece (Elt Ideal) S128x512 .f32)) (D10 : List (View.Piece (Elt Ideal) S4x128x256 .f32)) (q : List (View.Piece (Elt Ideal) S4x128x128 .bf16)) (tri : FVec Ideal S256x256 .bf16) (n : ℕ) : List (View.Piece (Elt Ideal) S128x512 .f32) × List (View.Piece (Elt Ideal) S4x128x256 .f32) :=
  pb_k0_t1 (F := Ideal) Variants.none c none i arg2 harg2 arg3 harg3 arg4 harg4 arg5 harg5 arg6 harg6 arg7 harg7 arg8 harg8 arg9 harg9 arg10 harg10 (BitVec.ofNat 32 (i 1).val) k0_pay173 k0_pay174 k0_pay175
    tri (harg2.unread x0) (harg4.unread x2) (harg5.unread x3) (arg8.view.writes (Elt Ideal) arg8.view.junk q)
    (arg9.view.writes (Elt Ideal) arg9.view.junk D9) (arg10.view.writes (Elt Ideal) arg10.view.junk D10) n

/-- The output's and the running sums' pieces after every pair of blocks. -/
abbrev all9 (D9 : List (View.Piece (Elt Ideal) S128x512 .f32)) (D10 : List (View.Piece (Elt Ideal) S4x128x256 .f32)) (q : List (View.Piece (Elt Ideal) S4x128x128 .bf16)) (tri : FVec Ideal S256x256 .bf16) : List (View.Piece (Elt Ideal) S128x512 .f32) := (pairs c i arg2 harg2 arg3 harg3 arg4 harg4 arg5 harg5 arg6 harg6 arg7 harg7 arg8 harg8 arg9 harg9 arg10 harg10 x0 x2 x3 D9 D10 q tri (k0_t1_loop i).trips).1 ++ D9

abbrev all10 (D9 : List (View.Piece (Elt Ideal) S128x512 .f32)) (D10 : List (View.Piece (Elt Ideal) S4x128x256 .f32)) (q : List (View.Piece (Elt Ideal) S4x128x128 .bf16)) (tri : FVec Ideal S256x256 .bf16) : List (View.Piece (Elt Ideal) S4x128x256 .f32) := (pairs c i arg2 harg2 arg3 harg3 arg4 harg4 arg5 harg5 arg6 harg6 arg7 harg7 arg8 harg8 arg9 harg9 arg10 harg10 x0 x2 x3 D9 D10 q tri (k0_t1_loop i).trips).2 ++ D10

/-- The pieces of the loop over what the pairs leave: none. -/
abbrev rest (D9 : List (View.Piece (Elt Ideal) S128x512 .f32)) (D10 : List (View.Piece (Elt Ideal) S4x128x256 .f32)) (q : List (View.Piece (Elt Ideal) S4x128x128 .bf16)) (tri : FVec Ideal S256x256 .bf16) : List (View.Piece (Elt Ideal) S128x512 .f32) × List (View.Piece (Elt Ideal) S4x128x256 .f32) :=
  pb_k0_t2 (F := Ideal) Variants.none c none i arg2 harg2 arg3 harg3 arg4 harg4 arg5 harg5 arg6 harg6 arg7 harg7 arg8 harg8 arg9 harg9 arg10 harg10 (BitVec.ofNat 32 (i 1).val) k0_pay173 k0_pay174 k0_pay175
    tri (k0_t2_loop i).lb (harg2.unread x0) (harg4.unread x2) (harg5.unread x3) (arg8.view.writes (Elt Ideal) arg8.view.junk q)
    (arg9.view.writes (Elt Ideal) arg9.view.junk (all9 c i arg2 harg2 arg3 harg3 arg4 harg4 arg5 harg5 arg6 harg6 arg7 harg7 arg8 harg8 arg9 harg9 arg10 harg10 x0 x2 x3 D9 D10 q tri)) (arg10.view.writes (Elt Ideal) arg10.view.junk (all10 c i arg2 harg2 arg3 harg3 arg4 harg4 arg5 harg5 arg6 harg6 arg7 harg7 arg8 harg8 arg9 harg9 arg10 harg10 x0 x2 x3 D9 D10 q tri)) (k0_t2_loop i).trips

theorem rest_eq (D9 : List (View.Piece (Elt Ideal) S128x512 .f32)) (D10 : List (View.Piece (Elt Ideal) S4x128x256 .f32)) (q : List (View.Piece (Elt Ideal) S4x128x128 .bf16)) (tri : FVec Ideal S256x256 .bf16) : rest c i arg2 harg2 arg3 harg3 arg4 harg4 arg5 harg5 arg6 harg6 arg7 harg7 arg8 harg8 arg9 harg9 arg10 harg10 x0 x2 x3 D9 D10 q tri = ([], []) := by
  have h : (k0_t2_loop i).trips = 0 := Scf.rem_trips _ _
  unfold rest
  rw [h]
  rfl

/-- What the first block finds: everything the blocks after it stored. -/
abbrev foundAt9 (D9 : List (View.Piece (Elt Ideal) S128x512 .f32)) (D10 : List (View.Piece (Elt Ideal) S4x128x256 .f32)) (q : List (View.Piece (Elt Ideal) S4x128x128 .bf16)) (tri : FVec Ideal S256x256 .bf16) : List (View.Piece (Elt Ideal) S128x512 .f32) := (rest c i arg2 harg2 arg3 harg3 arg4 harg4 arg5 harg5 arg6 harg6 arg7 harg7 arg8 harg8 arg9 harg9 arg10 harg10 x0 x2 x3 D9 D10 q tri).1 ++ all9 c i arg2 harg2 arg3 harg3 arg4 harg4 arg5 harg5 arg6 harg6 arg7 harg7 arg8 harg8 arg9 harg9 arg10 harg10 x0 x2 x3 D9 D10 q tri

abbrev foundAt10 (D9 : List (View.Piece (Elt Ideal) S128x512 .f32)) (D10 : List (View.Piece (Elt Ideal) S4x128x256 .f32)) (q : List (View.Piece (Elt Ideal) S4x128x128 .bf16)) (tri : FVec Ideal S256x256 .bf16) : List (View.Piece (Elt Ideal) S4x128x256 .f32) := (rest c i arg2 harg2 arg3 harg3 arg4 harg4 arg5 harg5 arg6 harg6 arg7 harg7 arg8 harg8 arg9 harg9 arg10 harg10 x0 x2 x3 D9 D10 q tri).2 ++ all10 c i arg2 harg2 arg3 harg3 arg4 harg4 arg5 harg5 arg6 harg6 arg7 harg7 arg8 harg8 arg9 harg9 arg10 harg10 x0 x2 x3 D9 D10 q tri

abbrev found9 : List (View.Piece (Elt Ideal) S128x512 .f32) := foundAt9 c i arg2 harg2 arg3 harg3 arg4 harg4 arg5 harg5 arg6 harg6 arg7 harg7 arg8 harg8 arg9 harg9 arg10 harg10 x0 x2 x3  (diag9 i arg2 harg2 arg3 harg3 arg4 harg4 arg5 harg5 arg6 harg6 arg8 arg9 arg10 x0 x1 x2 x3 x4) (diag10 i arg2 harg2 arg3 harg3 arg4 harg4 arg8 arg10 x0 x1 x2 4) (qPieces (arg3.view.read (Elt Ideal) (harg3.unread x1))) (triK arg6 harg6 x4)

abbrev found10 : List (View.Piece (Elt Ideal) S4x128x256 .f32) := foundAt10 c i arg2 harg2 arg3 harg3 arg4 harg4 arg5 harg5 arg6 harg6 arg7 harg7 arg8 harg8 arg9 harg9 arg10 harg10 x0 x2 x3  (diag9 i arg2 harg2 arg3 harg3 arg4 harg4 arg5 harg5 arg6 harg6 arg8 arg9 arg10 x0 x1 x2 x3 x4) (diag10 i arg2 harg2 arg3 harg3 arg4 harg4 arg8 arg10 x0 x1 x2 4) (qPieces (arg3.view.read (Elt Ideal) (harg3.unread x1))) (triK arg6 harg6 x4)

/-- The even blocks of queries: the body stores what the pairs of blocks leave. -/
theorem run_even (hc0 : ¬ cond0_0 i) :
    (kernelRun0_A c i arg2 harg2 arg3 harg3 arg4 harg4 arg5 harg5 arg6 harg6 arg7 harg7 arg8 harg8 arg9 harg9 arg10 harg10 hc0 x0 x1 x2 x3 x4).1
      = [⟨Rect.unit (s := S128x512) ![0, 0] S128x512.size inb_S128x512_S128x512_0_0,
          VecWindow.window (arg9.view.read (Elt Ideal) (arg9.view.writes (Elt Ideal) arg9.view.junk (found9 c i arg2 harg2 arg3 harg3 arg4 harg4 arg5 harg5 arg6 harg6 arg7 harg7 arg8 harg8 arg9 harg9 arg10 harg10 x0 x1 x2 x3 x4)))
            ![0, 0] S128x512.size inb_S128x512_S128x512_0_0⟩] := by
  unfold kernelRun0_A
  rfl

/-- At an odd block of queries the body names the same pieces otherwise. -/
theorem name10 : kernelRun0_B.sl.HS2_5 c i arg2 harg2 arg3 harg3 arg4 harg4 arg8 arg10 x0 x1 x2 = diag10 i arg2 harg2 arg3 harg3 arg4 harg4 arg8 arg10 x0 x1 x2 4 := rfl

theorem name9 : kernelRun0_B.sl.HS1_5 c i arg2 harg2 arg3 harg3 arg4 harg4 arg5 harg5 arg6 harg6 arg8 arg9 arg10 x0 x1 x2 x3 x4 = diag9 i arg2 harg2 arg3 harg3 arg4 harg4 arg5 harg5 arg6 harg6 arg8 arg9 arg10 x0 x1 x2 x3 x4 := rfl

theorem nameq : kernelRun0_B.sl.HS0_4 (F := Ideal) c arg3 harg3 x1 = qPieces (arg3.view.read (Elt Ideal) (harg3.unread x1)) := rfl

theorem namet : kernelRun0_B.sl.r_3 (F := Ideal) c arg6 harg6 x4 = triK arg6 harg6 x4 := rfl

theorem named10 : foundAt10 c i arg2 harg2 arg3 harg3 arg4 harg4 arg5 harg5 arg6 harg6 arg7 harg7 arg8 harg8 arg9 harg9 arg10 harg10 x0 x2 x3  (kernelRun0_B.sl.HS1_5 c i arg2 harg2 arg3 harg3 arg4 harg4 arg5 harg5 arg6 harg6 arg8 arg9 arg10 x0 x1 x2 x3 x4) (kernelRun0_B.sl.HS2_5 c i arg2 harg2 arg3 harg3 arg4 harg4 arg8 arg10 x0 x1 x2) (kernelRun0_B.sl.HS0_4 c arg3 harg3 x1) (kernelRun0_B.sl.r_3 c arg6 harg6 x4) = found10 c i arg2 harg2 arg3 harg3 arg4 harg4 arg5 harg5 arg6 harg6 arg7 harg7 arg8 harg8 arg9 harg9 arg10 harg10 x0 x1 x2 x3 x4 := by
  rw [name10, name9, nameq, namet]

theorem named9 : foundAt9 c i arg2 harg2 arg3 harg3 arg4 harg4 arg5 harg5 arg6 harg6 arg7 harg7 arg8 harg8 arg9 harg9 arg10 harg10 x0 x2 x3  (kernelRun0_B.sl.HS1_5 c i arg2 harg2 arg3 harg3 arg4 harg4 arg5 harg5 arg6 harg6 arg8 arg9 arg10 x0 x1 x2 x3 x4) (kernelRun0_B.sl.HS2_5 c i arg2 harg2 arg3 harg3 arg4 harg4 arg8 arg10 x0 x1 x2) (kernelRun0_B.sl.HS0_4 c arg3 harg3 x1) (kernelRun0_B.sl.r_3 c arg6 harg6 x4) = found9 c i arg2 harg2 arg3 harg3 arg4 harg4 arg5 harg5 arg6 harg6 arg7 harg7 arg8 harg8 arg9 harg9 arg10 harg10 x0 x1 x2 x3 x4 := by
  rw [name10, name9, nameq, namet]

/-- The scores against the first block of keys. -/
abbrev zFirst (t : Fin 4) : FVec Ideal S128x256 .f32 :=
  zK (arg2.view.read (Elt Ideal) (harg2.unread x0)) (arg8.view.read (Elt Ideal) (qBuf arg8 (arg3.view.read (Elt Ideal) (harg3.unread x1)))) t
    (blkOf (arg4.view.read (Elt Ideal) (harg4.unread x2)) ![0, 128 * t.val] (off0_inb t))

/-- The running sums' pieces with the first block's, for the tiles before `n`. -/
abbrev first10 (n : ℕ) : List (View.Piece (Elt Ideal) S4x128x256 .f32) :=
  sweep10 arg10.view (fun t => oneCar (spT (zFirst arg2 harg2 arg3 harg3 arg4 harg4 arg8 x0 x1 x2 t))) (found10 c i arg2 harg2 arg3 harg3 arg4 harg4 arg5 harg5 arg6 harg6 arg7 harg7 arg8 harg8 arg9 harg9 arg10 harg10 x0 x1 x2 x3 x4) n

/-- The output's pieces with the first block's, for the tiles before `n`. -/
abbrev first9 (n : ℕ) : List (View.Piece (Elt Ideal) S128x512 .f32) :=
  sweep9 arg9.view (fun t => oneAcc k0_pay173 k0_pay174
      (aT (zFirst arg2 harg2 arg3 harg3 arg4 harg4 arg8 x0 x1 x2 t) (spT (zFirst arg2 harg2 arg3 harg3 arg4 harg4 arg8 x0 x1 x2 t))
        (csT (triK arg6 harg6 x4) (spT (zFirst arg2 harg2 arg3 harg3 arg4 harg4 arg8 x0 x1 x2 t)))
        (carIn (carOf (arg10.view.read (Elt Ideal) (arg10.view.writes (Elt Ideal) arg10.view.junk (first10 c i arg2 harg2 arg3 harg3 arg4 harg4 arg5 harg5 arg6 harg6 arg7 harg7 arg8 harg8 arg9 harg9 arg10 harg10 x0 x1 x2 x3 x4 t.val))) t)))
      (blkOf (arg5.view.read (Elt Ideal) (harg5.unread x3)) ![0, 128 * t.val] (off0_inb t)))
    (found9 c i arg2 harg2 arg3 harg3 arg4 harg4 arg5 harg5 arg6 harg6 arg7 harg7 arg8 harg8 arg9 harg9 arg10 harg10 x0 x1 x2 x3 x4) n

/-- A load of a tile reads what the pieces before it leave there. -/
theorem cov10 (v : View sig .tc .vmem S4x128x256 .f32) (t : Fin 4) {L L' : List (View.Piece (Elt Ideal) S4x128x256 .f32)} (h : L = L') :
    v.readCov L (Rect.unit (s := S4x128x256) ![t.val, 0, 0] S1x128x256.size (car_inb t)).toLoadRect
      = carOf (v.read (Elt Ideal) (v.writes (Elt Ideal) v.junk L')) t := by subst h; rfl

theorem cov9 (v : View sig .tc .vmem S128x512 .f32) (t : Fin 4) {L L' : List (View.Piece (Elt Ideal) S128x512 .f32)} (h : L = L') :
    v.readCov L (Rect.unit (s := S128x512) ![0, 128 * t.val] S128x128.size (tile_inb t)).toLoadRect
      = tileOf (v.read (Elt Ideal) (v.writes (Elt Ideal) v.junk L')) t := by subst h; rfl

theorem read10_0 : kernelRun0_B.sl.v554 c i arg2 harg2 arg3 harg3 arg4 harg4 arg5 harg5 arg6 harg6 arg7 harg7 arg8 harg8 arg9 harg9 arg10 harg10 x0 x1 x2 x3 x4 = carOf (arg10.view.read (Elt Ideal) (arg10.view.writes (Elt Ideal) arg10.view.junk (first10 c i arg2 harg2 arg3 harg3 arg4 harg4 arg5 harg5 arg6 harg6 arg7 harg7 arg8 harg8 arg9 harg9 arg10 harg10 x0 x1 x2 x3 x4 0))) 0 :=
  cov10 arg10.view 0 (named10 c i arg2 harg2 arg3 harg3 arg4 harg4 arg5 harg5 arg6 harg6 arg7 harg7 arg8 harg8 arg9 harg9 arg10 harg10 x0 x1 x2 x3 x4)

theorem first10_1 : kernelRun0_B.sl.HS2_1_1 c i arg2 harg2 arg3 harg3 arg4 harg4 arg5 harg5 arg6 harg6 arg7 harg7 arg8 harg8 arg9 harg9 arg10 harg10 x0 x1 x2 x3 x4 = first10 c i arg2 harg2 arg3 harg3 arg4 harg4 arg5 harg5 arg6 harg6 arg7 harg7 arg8 harg8 arg9 harg9 arg10 harg10 x0 x1 x2 x3 x4 1 := by
  have h := read10_0 c i arg2 harg2 arg3 harg3 arg4 harg4 arg5 harg5 arg6 harg6 arg7 harg7 arg8 harg8 arg9 harg9 arg10 harg10 x0 x1 x2 x3 x4
  unfold kernelRun0_B.sl.HS2_1_1 kernelRun0_B.sl.r_67
  refine congrArg₂ List.cons (congrArg (Sigma.mk _) ?_) (named10 c i arg2 harg2 arg3 harg3 arg4 harg4 arg5 harg5 arg6 harg6 arg7 harg7 arg8 harg8 arg9 harg9 arg10 harg10 x0 x1 x2 x3 x4)
  rw [h]
  generalize carOf _ _ = y
  rfl

theorem read10_1 : kernelRun0_B.sl.v575 c i arg2 harg2 arg3 harg3 arg4 harg4 arg5 harg5 arg6 harg6 arg7 harg7 arg8 harg8 arg9 harg9 arg10 harg10 x0 x1 x2 x3 x4 = carOf (arg10.view.read (Elt Ideal) (arg10.view.writes (Elt Ideal) arg10.view.junk (first10 c i arg2 harg2 arg3 harg3 arg4 harg4 arg5 harg5 arg6 harg6 arg7 harg7 arg8 harg8 arg9 harg9 arg10 harg10 x0 x1 x2 x3 x4 1))) 1 :=
  cov10 arg10.view 1 (first10_1 c i arg2 harg2 arg3 harg3 arg4 harg4 arg5 harg5 arg6 harg6 arg7 harg7 arg8 harg8 arg9 harg9 arg10 harg10 x0 x1 x2 x3 x4)

theorem first10_2 : kernelRun0_B.sl.HS2_2_1 c i arg2 harg2 arg3 harg3 arg4 harg4 arg5 harg5 arg6 harg6 arg7 harg7 arg8 harg8 arg9 harg9 arg10 harg10 x0 x1 x2 x3 x4 = first10 c i arg2 harg2 arg3 harg3 arg4 harg4 arg5 harg5 arg6 harg6 arg7 harg7 arg8 harg8 arg9 harg9 arg10 harg10 x0 x1 x2 x3 x4 2 :=
  congrArg₂ List.cons (congrArg (Sigma.mk _) (congrArg (oneCar _) (read10_1 c i arg2 harg2 arg3 harg3 arg4 harg4 arg5 harg5 arg6 harg6 arg7 harg7 arg8 harg8 arg9 harg9 arg10 harg10 x0 x1 x2 x3 x4))) (first10_1 c i arg2 harg2 arg3 harg3 arg4 harg4 arg5 harg5 arg6 harg6 arg7 harg7 arg8 harg8 arg9 harg9 arg10 harg10 x0 x1 x2 x3 x4)

theorem read10_2 : kernelRun0_B.sl.v596 c i arg2 harg2 arg3 harg3 arg4 harg4 arg5 harg5 arg6 harg6 arg7 harg7 arg8 harg8 arg9 harg9 arg10 harg10 x0 x1 x2 x3 x4 = carOf (arg10.view.read (Elt Ideal) (arg10.view.writes (Elt Ideal) arg10.view.junk (first10 c i arg2 harg2 arg3 harg3 arg4 harg4 arg5 harg5 arg6 harg6 arg7 harg7 arg8 harg8 arg9 harg9 arg10 harg10 x0 x1 x2 x3 x4 2))) 2 :=
  cov10 arg10.view 2 (first10_2 c i arg2 harg2 arg3 harg3 arg4 harg4 arg5 harg5 arg6 harg6 arg7 harg7 arg8 harg8 arg9 harg9 arg10 harg10 x0 x1 x2 x3 x4)

theorem first10_3 : kernelRun0_B.sl.HS2_3_1 c i arg2 harg2 arg3 harg3 arg4 harg4 arg5 harg5 arg6 harg6 arg7 harg7 arg8 harg8 arg9 harg9 arg10 harg10 x0 x1 x2 x3 x4 = first10 c i arg2 harg2 arg3 harg3 arg4 harg4 arg5 harg5 arg6 harg6 arg7 harg7 arg8 harg8 arg9 harg9 arg10 harg10 x0 x1 x2 x3 x4 3 := by
  have h := read10_2 c i arg2 harg2 arg3 harg3 arg4 harg4 arg5 harg5 arg6 harg6 arg7 harg7 arg8 harg8 arg9 harg9 arg10 harg10 x0 x1 x2 x3 x4
  unfold kernelRun0_B.sl.HS2_3_1 kernelRun0_B.sl.r_70
  refine congrArg₂ List.cons (congrArg (Sigma.mk _) ?_) (first10_2 c i arg2 harg2 arg3 harg3 arg4 harg4 arg5 harg5 arg6 harg6 arg7 harg7 arg8 harg8 arg9 harg9 arg10 harg10 x0 x1 x2 x3 x4)
  rw [h]
  generalize carOf _ _ = y
  rfl

theorem read10_3 : kernelRun0_B.sl.v617 c i arg2 harg2 arg3 harg3 arg4 harg4 arg5 harg5 arg6 harg6 arg7 harg7 arg8 harg8 arg9 harg9 arg10 harg10 x0 x1 x2 x3 x4 = carOf (arg10.view.read (Elt Ideal) (arg10.view.writes (Elt Ideal) arg10.view.junk (first10 c i arg2 harg2 arg3 harg3 arg4 harg4 arg5 harg5 arg6 harg6 arg7 harg7 arg8 harg8 arg9 harg9 arg10 harg10 x0 x1 x2 x3 x4 3))) 3 :=
  cov10 arg10.view 3 (first10_3 c i arg2 harg2 arg3 harg3 arg4 harg4 arg5 harg5 arg6 harg6 arg7 harg7 arg8 harg8 arg9 harg9 arg10 harg10 x0 x1 x2 x3 x4)

theorem first9_1 : kernelRun0_B.sl.HS1_1_1 c i arg2 harg2 arg3 harg3 arg4 harg4 arg5 harg5 arg6 harg6 arg7 harg7 arg8 harg8 arg9 harg9 arg10 harg10 x0 x1 x2 x3 x4 = first9 c i arg2 harg2 arg3 harg3 arg4 harg4 arg5 harg5 arg6 harg6 arg7 harg7 arg8 harg8 arg9 harg9 arg10 harg10 x0 x1 x2 x3 x4 1 :=
  congrArg₂ List.cons (congrArg (Sigma.mk _) (congrArg₂ (fun x y => oneAcc k0_pay173 k0_pay174 (aT _ _ _ (carIn x)) _ y) (read10_0 c i arg2 harg2 arg3 harg3 arg4 harg4 arg5 harg5 arg6 harg6 arg7 harg7 arg8 harg8 arg9 harg9 arg10 harg10 x0 x1 x2 x3 x4)
    (cov9 arg9.view 0 (named9 c i arg2 harg2 arg3 harg3 arg4 harg4 arg5 harg5 arg6 harg6 arg7 harg7 arg8 harg8 arg9 harg9 arg10 harg10 x0 x1 x2 x3 x4)))) (named9 c i arg2 harg2 arg3 harg3 arg4 harg4 arg5 harg5 arg6 harg6 arg7 harg7 arg8 harg8 arg9 harg9 arg10 harg10 x0 x1 x2 x3 x4)

theorem first9_2 : kernelRun0_B.sl.HS1_2_1 c i arg2 harg2 arg3 harg3 arg4 harg4 arg5 harg5 arg6 harg6 arg7 harg7 arg8 harg8 arg9 harg9 arg10 harg10 x0 x1 x2 x3 x4 = first9 c i arg2 harg2 arg3 harg3 arg4 harg4 arg5 harg5 arg6 harg6 arg7 harg7 arg8 harg8 arg9 harg9 arg10 harg10 x0 x1 x2 x3 x4 2 :=
  congrArg₂ List.cons (congrArg (Sigma.mk _) (congrArg₂ (fun x y => oneAcc k0_pay173 k0_pay174 (aT _ _ _ (carIn x)) _ y) (read10_1 c i arg2 harg2 arg3 harg3 arg4 harg4 arg5 harg5 arg6 harg6 arg7 harg7 arg8 harg8 arg9 harg9 arg10 harg10 x0 x1 x2 x3 x4)
    (cov9 arg9.view 1 (first9_1 c i arg2 harg2 arg3 harg3 arg4 harg4 arg5 harg5 arg6 harg6 arg7 harg7 arg8 harg8 arg9 harg9 arg10 harg10 x0 x1 x2 x3 x4)))) (first9_1 c i arg2 harg2 arg3 harg3 arg4 harg4 arg5 harg5 arg6 harg6 arg7 harg7 arg8 harg8 arg9 harg9 arg10 harg10 x0 x1 x2 x3 x4)

theorem first9_3 : kernelRun0_B.sl.HS1_3_1 c i arg2 harg2 arg3 harg3 arg4 harg4 arg5 harg5 arg6 harg6 arg7 harg7 arg8 harg8 arg9 harg9 arg10 harg10 x0 x1 x2 x3 x4 = first9 c i arg2 harg2 arg3 harg3 arg4 harg4 arg5 harg5 arg6 harg6 arg7 harg7 arg8 harg8 arg9 harg9 arg10 harg10 x0 x1 x2 x3 x4 3 :=
  congrArg₂ List.cons (congrArg (Sigma.mk _) (congrArg₂ (fun x y => oneAcc k0_pay173 k0_pay174 (aT _ _ _ (carIn x)) _ y) (read10_2 c i arg2 harg2 arg3 harg3 arg4 harg4 arg5 harg5 arg6 harg6 arg7 harg7 arg8 harg8 arg9 harg9 arg10 harg10 x0 x1 x2 x3 x4)
    (cov9 arg9.view 2 (first9_2 c i arg2 harg2 arg3 harg3 arg4 harg4 arg5 harg5 arg6 harg6 arg7 harg7 arg8 harg8 arg9 harg9 arg10 harg10 x0 x1 x2 x3 x4)))) (first9_2 c i arg2 harg2 arg3 harg3 arg4 harg4 arg5 harg5 arg6 harg6 arg7 harg7 arg8 harg8 arg9 harg9 arg10 harg10 x0 x1 x2 x3 x4)

theorem first9_4 : kernelRun0_B.sl.HS1_4_1 c i arg2 harg2 arg3 harg3 arg4 harg4 arg5 harg5 arg6 harg6 arg7 harg7 arg8 harg8 arg9 harg9 arg10 harg10 x0 x1 x2 x3 x4 = first9 c i arg2 harg2 arg3 harg3 arg4 harg4 arg5 harg5 arg6 harg6 arg7 harg7 arg8 harg8 arg9 harg9 arg10 harg10 x0 x1 x2 x3 x4 4 :=
  congrArg₂ List.cons (congrArg (Sigma.mk _) (congrArg₂ (fun x y => oneAcc k0_pay173 k0_pay174 (aT _ _ _ (carIn x)) _ y) (read10_3 c i arg2 harg2 arg3 harg3 arg4 harg4 arg5 harg5 arg6 harg6 arg7 harg7 arg8 harg8 arg9 harg9 arg10 harg10 x0 x1 x2 x3 x4)
    (cov9 arg9.view 3 (first9_3 c i arg2 harg2 arg3 harg3 arg4 harg4 arg5 harg5 arg6 harg6 arg7 harg7 arg8 harg8 arg9 harg9 arg10 harg10 x0 x1 x2 x3 x4)))) (first9_3 c i arg2 harg2 arg3 harg3 arg4 harg4 arg5 harg5 arg6 harg6 arg7 harg7 arg8 harg8 arg9 harg9 arg10 harg10 x0 x1 x2 x3 x4)

/-- The odd blocks of queries: the first block of keys is still to come. -/
theorem run_odd (hc0 : cond0_0 i) :
    (kernelRun0_B c i arg2 harg2 arg3 harg3 arg4 harg4 arg5 harg5 arg6 harg6 arg7 harg7 arg8 harg8 arg9 harg9 arg10 harg10 hc0 x0 x1 x2 x3 x4).1
      = [⟨Rect.unit (s := S128x512) ![0, 0] S128x512.size inb_S128x512_S128x512_0_0,
          VecWindow.window (arg9.view.read (Elt Ideal) (arg9.view.writes (Elt Ideal) arg9.view.junk (first9 c i arg2 harg2 arg3 harg3 arg4 harg4 arg5 harg5 arg6 harg6 arg7 harg7 arg8 harg8 arg9 harg9 arg10 harg10 x0 x1 x2 x3 x4 4)))
            ![0, 0] S128x512.size inb_S128x512_S128x512_0_0⟩] := by
  rw [← first9_4]
  rfl

end Cert.StickProof

end
-- ==== Proof.StickRead.lean ====
/-
  The stick-breaking kernel's block functions, read at an index, and at real scores.
-/
module

public import proofs.«01_k».proof.Proof.StickRun
public import proofs.«01_k».proof.Proof.ProjMath

@[expose] public section

set_option maxRecDepth 16384

noncomputable section

namespace Cert.StickProof

open Idealize.ShloMosaic Idealize.ShloMosaic.TcCoe Idealize.SL.Sem
open Cert.StickIdeal Cert.StickIdeal.Gen
open Cert.ProjProof (sum_coe)

/-- A lane of head `h` of a tile's pair, of 256 lanes. -/
abbrev lane (h : Fin 2) (j : Fin 128) : Fin 256 := ⟨128 * h.val + j.val, by omega⟩

/-- A lane of head `h` of a tile's pair, of 128 lanes. -/
abbrev dim (h : Fin 2) (e : Fin 64) : Fin 128 := ⟨64 * h.val + e.val, by omega⟩

/-- A sum over lanes, head by head. -/
theorem sum_lanes {M : Type} [AddCommMonoid M] (f : Fin 256 → M) : ∑ l, f l = ∑ h : Fin 2, ∑ j : Fin 128, f (lane h j) := by
  rw [← Fintype.sum_equiv (finProdFinEquiv : Fin 2 × Fin 128 ≃ Fin 256) (fun p => f (lane p.1 p.2)) f
    (fun p => congrArg f (Fin.ext (Nat.add_comm _ _))), Fintype.sum_prod_type]

theorem sum_dims {M : Type} [AddCommMonoid M] (f : Fin 128 → M) : ∑ l, f l = ∑ h : Fin 2, ∑ e : Fin 64, f (dim h e) := by
  rw [← Fintype.sum_equiv (finProdFinEquiv : Fin 2 × Fin 64 ≃ Fin 128) (fun p => f (dim p.1 p.2)) f
    (fun p => congrArg f (Fin.ext (Nat.add_comm _ _))), Fintype.sum_prod_type]

theorem pay173_eq (d : Fin 128) : k0_pay173 (ix2 0 d) = BitVec.ofBool (decide (d.val < 64)) := by
  unfold k0_pay173
  revert d; decide +kernel

theorem pay174_eq (d : Fin 128) : k0_pay174 (ix2 0 d) = BitVec.ofBool (decide (64 ≤ d.val)) := by
  unfold k0_pay174
  revert d; decide +kernel

theorem pay175_eq (d : Fin 256) : k0_pay175 (ix2 0 d) = BitVec.ofBool (decide (d.val < 128)) := by
  unfold k0_pay175
  revert d; decide +kernel

theorem heads_apply (x : Vec Ideal S128x128 .f32) (h h' : Fin 2) (j : Fin 128) (e : Fin 64) :
    heads k0_pay173 k0_pay174 x (ix2 (lane h j) (dim h' e)) = if h = h' then x (ix2 j (dim h e)) else 0 := by
  unfold heads
  pointwise [pay173_eq, pay174_eq]
  have hj := j.isLt
  have he := e.isLt
  match h, h' with
  | 0, 0 => simp [dim, he]
  | 0, 1 => simp
  | 1, 0 => simp [he]
  | 1, 1 => simp [dim]

theorem mskT_apply (x : FVec Ideal S128x256 .f32) (r : Fin 128) (h : Fin 2) (j : Fin 128) :
    mskT x (ix2 r (lane h j)) = if j < r then x (ix2 r (lane h j)) else 0 := by
  have hm : IntOp.cmpi .slt (IntOp.andi (BitVec.ofNat 32 (128 * h.val + j.val)) 127#32) (BitVec.ofNat 32 r.val) = BitVec.ofBool (decide (j < r)) := by
    have a : IntOp.andi (BitVec.ofNat 32 (128 * h.val + j.val)) 127#32 = BitVec.ofNat 32 j.val := by
      revert h j; decide +kernel
    rw [a]
    clear a
    revert j r; decide +kernel
  unfold mskT k0_pay184
  pointwise
  rw [hm]
  by_cases hj : j < r <;> simp [hj, Scalar.select]

/-- The softplus of a real number. -/
def sp (x : ℝ) : ℝ := max x 0 + Real.log (1 + Real.exp (-|x|))

theorem coe_sp (x : ℝ) : max (x : EReal) 0 + Ideal.log (1 + Ideal.exp (-(max (x : EReal) (-(x : EReal))))) = ((sp x : ℝ) : EReal) := by
  have pos : ¬ 1 + Real.exp (-|x|) ≤ 0 := by have := Real.exp_pos (-|x|); linarith
  have cm : ∀ a b : ℝ, max (a : EReal) b = ((max a b : ℝ) : EReal) := fun a b => (EReal.coe_strictMono.monotone.map_max).symm
  rw [← EReal.coe_neg, cm, ← abs_eq_max_neg, ← EReal.coe_neg, Ideal.exp_coe, ← EReal.coe_one, ← EReal.coe_add, Ideal.log_coe,
    ← EReal.coe_zero, cm, if_neg pos, ← EReal.coe_add]
  rfl

theorem top_sp : max (⊤ : EReal) 0 + Ideal.log (1 + Ideal.exp (-(max (⊤ : EReal) (-⊤)))) = ⊤ := by
  have e : Ideal.log (1 + Ideal.exp (⊥ : EReal)) = 0 := by
    rw [Ideal.exp_bot, add_zero, ← EReal.coe_one, Ideal.log_coe, if_neg (by norm_num), Real.log_one, EReal.coe_zero]
  rw [max_eq_left le_top, max_eq_left le_top, EReal.neg_top, e, add_zero]

theorem sp_neg (x : ℝ) : sp (-x) = sp x - x := by
  unfold sp
  rw [abs_neg]
  rcases le_total x 0 with h | h
  · rw [max_eq_left (by linarith), max_eq_right h]; ring
  · rw [max_eq_right (by linarith), max_eq_left h]; ring

theorem spT_apply (z : FVec Ideal S128x256 .f32) (r : Fin 128) (l : Fin 256) (x : ℝ) (hx : z (ix2 r l) = (x : EReal)) :
    spT z (ix2 r l) = ((sp x : ℝ) : EReal) := by
  unfold spT
  pointwise
  rw [hx, zero_sub]
  exact coe_sp x

theorem spT_top (z : FVec Ideal S128x256 .f32) (r : Fin 128) (l : Fin 256) (hx : z (ix2 r l) = (⊤ : EReal)) : spT z (ix2 r l) = (⊤ : EReal) := by
  unfold spT
  pointwise
  rw [hx, zero_sub]
  exact top_sp

theorem csT_apply (tri : FVec Ideal S256x256 .bf16)
    (htri : ∀ (h h' : Fin 2) (j j' : Fin 128), tri (ix2 (lane h' j') (lane h j)) = if h' = h ∧ j < j' then 1 else 0)
    (s : FVec Ideal S128x256 .f32) (r : Fin 128) (h : Fin 2) (f : Fin 128 → ℝ) (hs : ∀ j, s (ix2 r (lane h j)) = ((f j : ℝ) : EReal))
    (j : Fin 128) : csT tri s (ix2 r (lane h j)) = ((∑ j' : Fin 128, if j < j' then f j' else 0 : ℝ) : EReal) := by
  unfold csT
  pointwise
  rw [sum_lanes, sum_lanes]
  simp only [htri]
  rw [Finset.sum_eq_single h (fun x _ hx => Finset.sum_eq_zero fun y _ => by rw [if_neg fun e => hx e.1, mul_zero]) (fun e => absurd (Finset.mem_univ h) e),
    Finset.sum_eq_single h (fun x _ hx => Finset.sum_eq_zero fun y _ => by rw [if_neg fun e => hx e.1, mul_zero]) (fun e => absurd (Finset.mem_univ h) e)]
  simp only [hs]
  have z : ∀ y, (((f y : ℝ) : EReal) - ((f y : ℝ) : EReal)) = 0 := fun y => by rw [← EReal.coe_sub, sub_self, EReal.coe_zero]
  simp only [z, zero_mul, Finset.sum_const_zero, add_zero]
  rw [← sum_coe]
  refine Finset.sum_congr rfl fun y _ => ?_
  by_cases e : j < y <;> simp [e]

theorem totT_apply (s : FVec Ideal S128x256 .f32) (r : Fin 128) (h : Fin 2) (j : Fin 128) :
    totT s (ix2 r (lane h j)) = ∑ j', s (ix2 r (lane h j')) := by
  unfold totT halfT
  pointwise
  have hj := j.isLt
  match h with
  | 0 => simp [lane]
  | 1 => simp [lane]

theorem aT_apply (z s cs car : FVec Ideal S128x256 .f32) (r : Fin 128) (l : Fin 256) :
    aT z s cs car (ix2 r l) = Ideal.exp (z (ix2 r l) - s (ix2 r l) - cs (ix2 r l) - car (ix2 r l)) := by
  unfold aT
  pointwise

theorem dT_apply (a : FVec Ideal S128x256 .f32) (v : Vec Ideal S128x128 .f32) (r : Fin 128) (h : Fin 2) (e : Fin 64) :
    dT k0_pay173 k0_pay174 a v (ix2 r (dim h e)) = ∑ j : Fin 128, a (ix2 r (lane h j)) * v (ix2 j (dim h e)) := by
  unfold dT
  have hh := heads_apply v
  generalize heads k0_pay173 k0_pay174 v = w at hh ⊢
  pointwise
  rw [sum_lanes]
  simp only [hh]
  rw [Finset.sum_eq_single h (fun x _ hx => Finset.sum_eq_zero fun y _ => by rw [if_neg hx, mul_zero]) (fun e => absurd (Finset.mem_univ h) e)]
  simp only [if_true]

theorem zT_apply (q : Vec Ideal S1x128x128 .bf16) (k : Vec Ideal S128x128 .f32) (b0 b1 : Elt Ideal .f32) (r : Fin 128) (h : Fin 2) (j : Fin 128) :
    zT k0_pay173 k0_pay174 k0_pay175 q k b0 b1 (ix2 r (lane h j))
      = (∑ e : Fin 64, q (ix3 0 r (dim h e)) * k (ix2 j (dim h e))) + if h = 0 then b0 else b1 := by
  unfold zT
  have hh := heads_apply k
  generalize heads k0_pay173 k0_pay174 k = w at hh ⊢
  pointwise [pay175_eq]
  rw [sum_dims]
  simp only [hh]
  rw [Finset.sum_eq_single h (fun x _ hx => Finset.sum_eq_zero fun y _ => by rw [if_neg (Ne.symm hx), mul_zero]) (fun e => absurd (Finset.mem_univ h) e)]
  simp only [if_true]
  have hj := j.isLt
  match h with
  | 0 => simp
  | 1 => simp

theorem oneCar_apply (s : FVec Ideal S128x256 .f32) (car : Vec Ideal S1x128x256 .f32) (r : Fin 128) (l : Fin 256) :
    oneCar s car (ix3 0 r l) = car (ix3 0 r l) + totT s (ix2 r l) := by
  unfold oneCar
  generalize totT s = w
  pointwise

theorem oneAcc_apply (a : FVec Ideal S128x256 .f32) (w acc : Vec Ideal S128x128 .f32) (r : Fin 128) (d : Fin 128) :
    oneAcc k0_pay173 k0_pay174 a w acc (ix2 r d) = acc (ix2 r d) + dT k0_pay173 k0_pay174 a w (ix2 r d) := by
  unfold oneAcc
  generalize dT k0_pay173 k0_pay174 a w = y
  pointwise

/-- A pair of blocks is two blocks, the later one first. -/
theorem pairCar_eq (z0 z1 : FVec Ideal S128x256 .f32) (car : Vec Ideal S1x128x256 .f32) :
    pairCar z0 z1 car = oneCar (spT z1) (oneCar (spT z0) car) := by
  unfold pairCar oneCar
  generalize totT (spT z0) = u
  generalize totT (spT z1) = v
  funext y
  idx_vars y
  pointwise

theorem pairAcc_eq (tri : FVec Ideal S256x256 .bf16) (z0 z1 : FVec Ideal S128x256 .f32) (car : Vec Ideal S1x128x256 .f32) (w0 w1 acc : Vec Ideal S128x128 .f32) :
    pairAcc k0_pay173 k0_pay174 tri z0 z1 car w0 w1 acc
      = oneAcc k0_pay173 k0_pay174 (aT z1 (spT z1) (csT tri (spT z1)) (carIn (oneCar (spT z0) car))) w1
          (oneAcc k0_pay173 k0_pay174 (aT z0 (spT z0) (csT tri (spT z0)) (carIn car)) w0 acc) := by
  have e : carIn (oneCar (spT z0) car) = addf (carIn car) (totT (spT z0)) := by
    unfold oneCar
    generalize totT (spT z0) = u
    funext y
    idx_vars y
    pointwise
  rw [e]
  unfold pairAcc oneAcc
  generalize dT _ _ _ w0 = u
  generalize dT _ _ _ w1 = v
  funext y
  idx_vars y
  pointwise
  rw [add_assoc]

end Cert.StickProof

end
-- ==== Proof.StickStep.lean ====
/-
  One block of keys of the stick-breaking kernel, against the sums over the keys it has met: what the two scratch buffers
  hold after it, from what they hold before.
-/
module

public import proofs.«01_k».proof.Proof.StickRead

@[expose] public section

set_option maxRecDepth 16384

noncomputable section

namespace Cert.StickProof

open Idealize.ShloMosaic Idealize.ShloMosaic.TcCoe Idealize.SL.Sem
open Cert.StickIdeal Cert.StickIdeal.Gen

/-- The softplus of the score of an earlier key. -/
def early (Z : ℕ → ℝ) (p k : ℕ) : ℝ := if k < p then sp (Z k) else 0

/-- The sum of them from key `n` on. -/
def suff (Z : ℕ → ℝ) (p n : ℕ) : ℝ := ∑ k ∈ Finset.Ico n 2048, early Z p k

/-- The weight of a key. -/
def wt (Z : ℕ → ℝ) (p k : ℕ) : ℝ := if k < p then Real.exp (Z k - sp (Z k) - suff Z p (k + 1)) else 0

/-- What a row's scores are: real numbers, or all of them infinite where the head's bias is. -/
def Fits (Z : Option (ℕ → ℝ)) (k : ℕ) (z : EReal) : Prop := Z.elim (z = ⊤ ∨ z = ⊥) fun f => z = ((f k : ℝ) : EReal)

/-- The weight of a key in such a row: zero where the scores are infinite. -/
def weight (Z : Option (ℕ → ℝ)) (p k : ℕ) : ℝ := Z.elim 0 fun f => wt f p k

/-- The weighted sum of the values from key `n` on. -/
def mix (Z : Option (ℕ → ℝ)) (p : ℕ) (V : ℕ → EReal) (n : ℕ) : EReal := ∑ k ∈ Finset.Ico n 2048, ((weight Z p k : ℝ) : EReal) * V k

theorem sum_block {M : Type} [AddCommMonoid M] (f : ℕ → M) (m : ℕ) :
    ∑ j : Fin 128, f (128 * m + j.val) = ∑ k ∈ Finset.Ico (128 * m) (128 * (m + 1)), f k := by
  rw [Finset.sum_Ico_eq_sum_range, show 128 * (m + 1) - 128 * m = 128 by omega, Finset.sum_range]

theorem sum_block_after (f : ℕ → ℝ) (m : ℕ) (j : Fin 128) :
    ∑ j' : Fin 128, (if j < j' then f (128 * m + j'.val) else 0) = ∑ k ∈ Finset.Ico (128 * m + j.val + 1) (128 * (m + 1)), f k := by
  have h := sum_block (fun k => if 128 * m + j.val < k then f k else 0) m
  have e : ∀ j' : Fin 128, (if j < j' then f (128 * m + j'.val) else 0) = if 128 * m + j.val < 128 * m + j'.val then f (128 * m + j'.val) else 0 := fun j' => by
    by_cases c : j < j'
    · rw [if_pos c, if_pos (by have : j.val < j'.val := c; omega)]
    · rw [if_neg c, if_neg (fun h => c (show j.val < j'.val by omega))]
  rw [Finset.sum_congr rfl fun j' _ => e j', h, ← Finset.sum_filter]
  refine Finset.sum_congr (Finset.ext fun k => ?_) fun _ _ => rfl
  rw [Finset.mem_filter, Finset.mem_Ico, Finset.mem_Ico]
  omega

variable (Z : Fin 128 → Fin 2 → Option (ℕ → ℝ)) (V : Fin 2 → Fin 64 → ℕ → EReal) (p : ℕ)

/-- The running sums hold the sums from block `m` on, where the scores are real numbers. -/
def CarOk (m : ℕ) (car : Vec Ideal S1x128x256 .f32) : Prop :=
  ∀ (r : Fin 128) (h : Fin 2) (j : Fin 128) (f : ℕ → ℝ), Z r h = some f → car (ix3 0 r (lane h j)) = ((suff f (p + r.val) (128 * m) : ℝ) : EReal)

/-- The output holds the weighted values from block `m` on. -/
def AccOk (m : ℕ) (acc : Vec Ideal S128x128 .f32) : Prop :=
  ∀ (r : Fin 128) (h : Fin 2) (e : Fin 64), acc (ix2 r (dim h e)) = mix (Z r h) (p + r.val) (V h e) (128 * m)

variable {Z V p}

theorem step_car {m : ℕ} (hm : m < 16) {s : FVec Ideal S128x256 .f32} {car : Vec Ideal S1x128x256 .f32}
    (hs : ∀ r h j (f : ℕ → ℝ), Z r h = some f → s (ix2 r (lane h j)) = ((early f (p + r.val) (128 * m + j.val) : ℝ) : EReal)) (hc : CarOk Z p (m + 1) car) :
    CarOk Z p m (oneCar s car) := by
  intro r h j f hf
  rw [oneCar_apply, totT_apply, hc r h j f hf, Finset.sum_congr rfl fun j' _ => hs r h j' f hf, Cert.ProjProof.sum_coe,
    sum_block (fun k => early f (p + r.val) k), ← EReal.coe_add]
  unfold suff
  rw [add_comm, Finset.sum_Ico_consecutive _ (by omega) (by omega)]

theorem step_acc {m : ℕ} (hm : m < 16) {a : FVec Ideal S128x256 .f32} {w acc : Vec Ideal S128x128 .f32}
    (ha : ∀ r h j, a (ix2 r (lane h j)) = ((weight (Z r h) (p + r.val) (128 * m + j.val) : ℝ) : EReal))
    (hw : ∀ j h e, w (ix2 j (dim h e)) = V h e (128 * m + j.val)) (hacc : AccOk Z V p (m + 1) acc) :
    AccOk Z V p m (oneAcc k0_pay173 k0_pay174 a w acc) := by
  intro r h e
  rw [oneAcc_apply, dT_apply, hacc r h e, Finset.sum_congr rfl fun j _ => congrArg₂ (· * ·) (ha r h j) (hw j h e),
    sum_block (fun k => ((weight (Z r h) (p + r.val) k : ℝ) : EReal) * V h e k)]
  unfold mix
  rw [add_comm, Finset.sum_Ico_consecutive _ (by omega) (by omega)]

/-- The weights before the mask. -/
theorem step_wt {m : ℕ} (hm : m < 16) {tri : FVec Ideal S256x256 .bf16}
    (htri : ∀ (h h' : Fin 2) (j j' : Fin 128), tri (ix2 (lane h' j') (lane h j)) = if h' = h ∧ j < j' then 1 else 0)
    {z s : FVec Ideal S128x256 .f32} {car : Vec Ideal S1x128x256 .f32}
    (hz : ∀ r h j, Fits (Z r h) (128 * m + j.val) (z (ix2 r (lane h j))))
    (hs : ∀ r h j (f : ℕ → ℝ), Z r h = some f → s (ix2 r (lane h j)) = ((early f (p + r.val) (128 * m + j.val) : ℝ) : EReal)) (hc : CarOk Z p (m + 1) car)
    (r : Fin 128) (h : Fin 2) (j : Fin 128) (f : ℕ → ℝ) (hf : Z r h = some f) :
    aT z (spT z) (csT tri s) (carIn car) (ix2 r (lane h j))
      = ((Real.exp (f (128 * m + j.val) - sp (f (128 * m + j.val)) - suff f (p + r.val) (128 * m + j.val + 1)) : ℝ) : EReal) := by
  have hx := hz r h j
  rw [hf] at hx
  have hx' : z (ix2 r (lane h j)) = ((f (128 * m + j.val) : ℝ) : EReal) := hx
  have e : carIn car (ix2 r (lane h j)) = car (ix3 0 r (lane h j)) := by pointwise
  rw [aT_apply, spT_apply _ _ _ _ hx', csT_apply tri htri s r h _ (fun j => hs r h j f hf), hx', e, hc r h j f hf,
    sum_block_after (fun k => early f (p + r.val) k), ← EReal.coe_sub, ← EReal.coe_sub, ← EReal.coe_sub, Ideal.exp_coe]
  unfold suff
  rw [sub_sub _ (∑ k ∈ _, _), Finset.sum_Ico_consecutive _ (by omega) (by omega)]

/-- Where the scores are infinite the weights are zero, whatever the sums are. -/
theorem step_zero {k : ℕ} {z c car : FVec Ideal S128x256 .f32} {r : Fin 128} {l : Fin 256} (hz : Fits none k (z (ix2 r l))) :
    aT z (spT z) c car (ix2 r l) = 0 := by
  have e : z (ix2 r l) - spT z (ix2 r l) = (⊥ : EReal) := by
    rcases (hz : z (ix2 r l) = (⊤ : EReal) ∨ z (ix2 r l) = (⊥ : EReal)) with h | h
    · rw [spT_top z r l h, h, sub_eq_add_neg, EReal.neg_top, EReal.add_bot]
    · rw [h, sub_eq_add_neg, EReal.bot_add]
  rw [aT_apply, e, sub_eq_add_neg (⊥ : EReal), EReal.bot_add, sub_eq_add_neg (⊥ : EReal), EReal.bot_add, Ideal.exp_bot]

/-- A block below the diagonal. -/
theorem below {m : ℕ} (hp : 128 * (m + 1) ≤ p) {z : FVec Ideal S128x256 .f32}
    (hz : ∀ r h j, Fits (Z r h) (128 * m + j.val) (z (ix2 r (lane h j)))) (r : Fin 128) (h : Fin 2) (j : Fin 128) (f : ℕ → ℝ)
    (hf : Z r h = some f) : spT z (ix2 r (lane h j)) = ((early f (p + r.val) (128 * m + j.val) : ℝ) : EReal) := by
  have hx := hz r h j
  rw [hf] at hx
  rw [spT_apply _ _ _ _ hx, early, if_pos (by omega)]

theorem below_wt {m : ℕ} (hm : m < 16) (hp : 128 * (m + 1) ≤ p) {tri : FVec Ideal S256x256 .bf16}
    (htri : ∀ (h h' : Fin 2) (j j' : Fin 128), tri (ix2 (lane h' j') (lane h j)) = if h' = h ∧ j < j' then 1 else 0)
    {z : FVec Ideal S128x256 .f32} {car : Vec Ideal S1x128x256 .f32}
    (hz : ∀ r h j, Fits (Z r h) (128 * m + j.val) (z (ix2 r (lane h j)))) (hc : CarOk Z p (m + 1) car)
    (r : Fin 128) (h : Fin 2) (j : Fin 128) :
    aT z (spT z) (csT tri (spT z)) (carIn car) (ix2 r (lane h j)) = ((weight (Z r h) (p + r.val) (128 * m + j.val) : ℝ) : EReal) := by
  cases hf : Z r h with
  | none =>
    have hx := hz r h j
    rw [hf] at hx
    exact (step_zero hx).trans EReal.coe_zero.symm
  | some f =>
    rw [step_wt hm htri hz (below hp hz) hc r h j f hf]
    unfold weight
    rw [Option.elim_some, wt, if_pos (by omega)]

/-- The block that meets the diagonal. -/
theorem diag {m : ℕ} (hp : p = 128 * m) {z : FVec Ideal S128x256 .f32}
    (hz : ∀ r h j, Fits (Z r h) (128 * m + j.val) (z (ix2 r (lane h j)))) (r : Fin 128) (h : Fin 2) (j : Fin 128) (f : ℕ → ℝ)
    (hf : Z r h = some f) : mskT (spT z) (ix2 r (lane h j)) = ((early f (p + r.val) (128 * m + j.val) : ℝ) : EReal) := by
  have hx := hz r h j
  rw [hf] at hx
  rw [mskT_apply, spT_apply _ _ _ _ hx, early]
  by_cases c : j < r
  · rw [if_pos c, if_pos (by have : j.val < r.val := c; omega)]
  · rw [if_neg c, if_neg (fun h => c (show j.val < r.val by omega)), EReal.coe_zero]

theorem diag_wt {m : ℕ} (hm : m < 16) (hp : p = 128 * m) {tri : FVec Ideal S256x256 .bf16}
    (htri : ∀ (h h' : Fin 2) (j j' : Fin 128), tri (ix2 (lane h' j') (lane h j)) = if h' = h ∧ j < j' then 1 else 0)
    {z : FVec Ideal S128x256 .f32} {car : Vec Ideal S1x128x256 .f32}
    (hz : ∀ r h j, Fits (Z r h) (128 * m + j.val) (z (ix2 r (lane h j)))) (hc : CarOk Z p (m + 1) car)
    (r : Fin 128) (h : Fin 2) (j : Fin 128) :
    mskT (aT z (spT z) (csT tri (mskT (spT z))) (carIn car)) (ix2 r (lane h j)) = ((weight (Z r h) (p + r.val) (128 * m + j.val) : ℝ) : EReal) := by
  rw [mskT_apply]
  cases hf : Z r h with
  | none =>
    have hx := hz r h j
    rw [hf] at hx
    rw [step_zero hx, ite_self]
    exact EReal.coe_zero.symm
  | some f =>
    rw [step_wt hm htri hz (diag hp hz) hc r h j f hf]
    unfold weight
    rw [Option.elim_some, wt]
    by_cases c : j < r
    · rw [if_pos c, if_pos (by have : j.val < r.val := c; omega)]
    · rw [if_neg c, if_neg (fun h => c (show j.val < r.val by omega)), EReal.coe_zero]

/-- Above the diagonal nothing is summed. -/
theorem car_start {m : ℕ} (hp : p + 128 ≤ 128 * m) {car : Vec Ideal S1x128x256 .f32} (h0 : ∀ r l, car (ix3 0 r l) = 0) : CarOk Z p m car := by
  intro r h j f hf
  rw [h0, suff, Finset.sum_eq_zero, EReal.coe_zero]
  intro k hk
  rw [Finset.mem_Ico] at hk
  rw [early, if_neg (by omega)]

theorem acc_start {m : ℕ} (hp : p + 128 ≤ 128 * m) {acc : Vec Ideal S128x128 .f32} (h0 : ∀ r d, acc (ix2 r d) = 0) : AccOk Z V p m acc := by
  intro r h e
  rw [h0, mix, Finset.sum_eq_zero]
  intro k hk
  rw [Finset.mem_Ico] at hk
  have e : weight (Z r h) (p + r.val) k = 0 := by
    cases Z r h with
    | none => rfl
    | some f => exact if_neg (by omega)
  rw [e, EReal.coe_zero, zero_mul]

end Cert.StickProof

end
-- ==== Proof.StickLoop.lean ====
/-
  The stick-breaking kernel's two scratch buffers along its blocks of keys: after the pieces of a block they hold the sums
  from that block on.
-/
module

public import proofs.«01_k».proof.Proof.StickStep

@[expose] public section

set_option maxRecDepth 16384

noncomputable section

namespace Cert.StickProof

open Idealize.ShloMosaic Idealize.ShloMosaic.TcCoe Idealize.SL.Sem
open Cert.StickIdeal Cert.StickIdeal.Gen

/-! A tile of a buffer after a piece that covers a tile. -/

theorem tile_cons (v : View sig .tc .vmem S128x512 .f32) (f : v.ty.Contents (Elt Ideal)) (t t' : Fin 4) (w : Vec Ideal S128x128 .f32)
    (L : List (View.Piece (Elt Ideal) S128x512 .f32)) :
    tileOf (v.read (Elt Ideal) (v.writes (Elt Ideal) f (⟨Rect.unit (s := S128x512) ![0, 128 * t'.val] S128x128.size (tile_inb t'), w⟩ :: L))) t
      = if t' = t then w else tileOf (v.read (Elt Ideal) (v.writes (Elt Ideal) f L)) t := by
  rw [View.read_writes_cons_put v f (tile_inb t') w L rfl]
  unfold tileOf
  by_cases h : t' = t
  · subst h
    rw [if_pos rfl]
    exact VecWindow.window_put_same _ _ _ _ _
  · rw [if_neg h]
    refine VecWindow.window_put_of_disjoint _ _ _ _ _ _ _ 1 ?_
    have : t'.val ≠ t.val := fun e => h (Fin.ext e)
    show 128 * t.val + 128 ≤ 128 * t'.val ∨ 128 * t'.val + 128 ≤ 128 * t.val
    omega

theorem car_cons (v : View sig .tc .vmem S4x128x256 .f32) (f : v.ty.Contents (Elt Ideal)) (t t' : Fin 4) (w : Vec Ideal S1x128x256 .f32)
    (L : List (View.Piece (Elt Ideal) S4x128x256 .f32)) :
    carOf (v.read (Elt Ideal) (v.writes (Elt Ideal) f (⟨Rect.unit (s := S4x128x256) ![t'.val, 0, 0] S1x128x256.size (car_inb t'), w⟩ :: L))) t
      = if t' = t then w else carOf (v.read (Elt Ideal) (v.writes (Elt Ideal) f L)) t := by
  rw [View.read_writes_cons_put v f (car_inb t') w L rfl]
  unfold carOf
  by_cases h : t' = t
  · subst h
    rw [if_pos rfl]
    exact VecWindow.window_put_same _ _ _ _ _
  · rw [if_neg h]
    refine VecWindow.window_put_of_disjoint _ _ _ _ _ _ _ 0 ?_
    have : t'.val ≠ t.val := fun e => h (Fin.ext e)
    show t.val + 1 ≤ t'.val ∨ t'.val + 1 ≤ t.val
    omega

theorem sweep9_tile (v : View sig .tc .vmem S128x512 .f32) (f : Fin 4 → Vec Ideal S128x128 .f32 → Vec Ideal S128x128 .f32)
    (L : List (View.Piece (Elt Ideal) S128x512 .f32)) (n : ℕ) (hn : n ≤ 4) (t : Fin 4) :
    tileOf (v.read (Elt Ideal) (v.writes (Elt Ideal) v.junk (sweep9 v f L n))) t
      = if t.val < n then f t (tileOf (v.read (Elt Ideal) (v.writes (Elt Ideal) v.junk L)) t)
        else tileOf (v.read (Elt Ideal) (v.writes (Elt Ideal) v.junk L)) t := by
  induction n generalizing t with
  | zero => rw [if_neg (by omega)]; rfl
  | succ n ih =>
    have e : (Fin.ofNat 4 n).val = n := Nat.mod_eq_of_lt (by omega)
    unfold sweep9
    rw [tile_cons, ih (by omega), ih (by omega), if_neg (show ¬ (Fin.ofNat 4 n).val < n by omega)]
    by_cases h : Fin.ofNat 4 n = t
    · rw [if_pos h, if_pos (show t.val < n + 1 by rw [← h]; omega), h]
    · have : t.val ≠ n := fun c => h (Fin.ext (by omega))
      rw [if_neg h]
      by_cases c : t.val < n
      · rw [if_pos c, if_pos (by omega)]
      · rw [if_neg c, if_neg (by omega)]

theorem sweep10_car (v : View sig .tc .vmem S4x128x256 .f32) (f : Fin 4 → Vec Ideal S1x128x256 .f32 → Vec Ideal S1x128x256 .f32)
    (L : List (View.Piece (Elt Ideal) S4x128x256 .f32)) (n : ℕ) (hn : n ≤ 4) (t : Fin 4) :
    carOf (v.read (Elt Ideal) (v.writes (Elt Ideal) v.junk (sweep10 v f L n))) t
      = if t.val < n then f t (carOf (v.read (Elt Ideal) (v.writes (Elt Ideal) v.junk L)) t)
        else carOf (v.read (Elt Ideal) (v.writes (Elt Ideal) v.junk L)) t := by
  induction n generalizing t with
  | zero => rw [if_neg (by omega)]; rfl
  | succ n ih =>
    have e : (Fin.ofNat 4 n).val = n := Nat.mod_eq_of_lt (by omega)
    unfold sweep10
    rw [car_cons, ih (by omega), ih (by omega), if_neg (show ¬ (Fin.ofNat 4 n).val < n by omega)]
    by_cases h : Fin.ofNat 4 n = t
    · rw [if_pos h, if_pos (show t.val < n + 1 by rw [← h]; omega), h]
    · have : t.val ≠ n := fun c => h (Fin.ext (by omega))
      rw [if_neg h]
      by_cases c : t.val < n
      · rw [if_pos c, if_pos (by omega)]
      · rw [if_neg c, if_neg (by omega)]

theorem list9_tile (v : View sig .tc .vmem S128x512 .f32) (f : v.ty.Contents (Elt Ideal)) (w : Fin 4 → Vec Ideal S128x128 .f32)
    (L : List (View.Piece (Elt Ideal) S128x512 .f32)) (t : Fin 4) :
    tileOf (v.read (Elt Ideal) (v.writes (Elt Ideal) f (([(3 : Fin 4), 2, 1, 0].map fun t =>
      (⟨Rect.unit (s := S128x512) ![0, 128 * t.val] S128x128.size (tile_inb t), w t⟩ : View.Piece (Elt Ideal) S128x512 .f32)) ++ L))) t = w t := by
  show tileOf (v.read (Elt Ideal) (v.writes (Elt Ideal) f (⟨Rect.unit (s := S128x512) ![0, 128 * (3 : Fin 4).val] S128x128.size (tile_inb 3), w 3⟩
    :: ⟨Rect.unit (s := S128x512) ![0, 128 * (2 : Fin 4).val] S128x128.size (tile_inb 2), w 2⟩
    :: ⟨Rect.unit (s := S128x512) ![0, 128 * (1 : Fin 4).val] S128x128.size (tile_inb 1), w 1⟩
    :: ⟨Rect.unit (s := S128x512) ![0, 128 * (0 : Fin 4).val] S128x128.size (tile_inb 0), w 0⟩ :: L))) t = w t
  rw [tile_cons, tile_cons, tile_cons, tile_cons]
  match t with
  | 0 => rfl
  | 1 => rfl
  | 2 => rfl
  | 3 => rfl

theorem list10_car (v : View sig .tc .vmem S4x128x256 .f32) (f : v.ty.Contents (Elt Ideal)) (w : Fin 4 → Vec Ideal S1x128x256 .f32)
    (L : List (View.Piece (Elt Ideal) S4x128x256 .f32)) (t : Fin 4) :
    carOf (v.read (Elt Ideal) (v.writes (Elt Ideal) f (([(3 : Fin 4), 2, 1, 0].map fun t =>
      (⟨Rect.unit (s := S4x128x256) ![t.val, 0, 0] S1x128x256.size (car_inb t), w t⟩ : View.Piece (Elt Ideal) S4x128x256 .f32)) ++ L))) t = w t := by
  show carOf (v.read (Elt Ideal) (v.writes (Elt Ideal) f (⟨Rect.unit (s := S4x128x256) ![(3 : Fin 4).val, 0, 0] S1x128x256.size (car_inb 3), w 3⟩
    :: ⟨Rect.unit (s := S4x128x256) ![(2 : Fin 4).val, 0, 0] S1x128x256.size (car_inb 2), w 2⟩
    :: ⟨Rect.unit (s := S4x128x256) ![(1 : Fin 4).val, 0, 0] S1x128x256.size (car_inb 1), w 1⟩
    :: ⟨Rect.unit (s := S4x128x256) ![(0 : Fin 4).val, 0, 0] S1x128x256.size (car_inb 0), w 0⟩ :: L))) t = w t
  rw [car_cons, car_cons, car_cons, car_cons]
  match t with
  | 0 => rfl
  | 1 => rfl
  | 2 => rfl
  | 3 => rfl

/-! Where the blocks are. -/

theorem trips_eq : ∀ i : grid0.Coords, (k0_t1_loop i).trips = (i 1).val / 2 := by decide +kernel

theorem offD_eq : ∀ (i : grid0.Coords) (t : Fin 4), offD i t = ![128 * (i 1).val, 128 * t.val] := by decide +kernel

theorem offT_eq : ∀ (i : grid0.Coords) (k : Fin (k0_t1_loop i).trips) (r : Fin 2) (t : Fin 4),
    offT i k (BitVec.ofNat 32 (1 + r.val)) t = ![128 * ((i 1).val - 1 - r.val - 2 * k.val), 128 * t.val] := by decide +kernel

variable (Z : Fin 4 → Fin 128 → Fin 2 → Option (ℕ → ℝ)) (V : Fin 4 → Fin 2 → Fin 64 → ℕ → EReal) (p : ℕ)

/-- Both buffers hold the sums from block `m` on. -/
def Ok10 (v : View sig .tc .vmem S4x128x256 .f32) (m : ℕ) (L : List (View.Piece (Elt Ideal) S4x128x256 .f32)) : Prop :=
  ∀ t, CarOk (Z t) p m (carOf (v.read (Elt Ideal) (v.writes (Elt Ideal) v.junk L)) t)

def Ok9 (v : View sig .tc .vmem S128x512 .f32) (m : ℕ) (L : List (View.Piece (Elt Ideal) S128x512 .f32)) : Prop :=
  ∀ t, AccOk (Z t) (V t) p m (tileOf (v.read (Elt Ideal) (v.writes (Elt Ideal) v.junk L)) t)

/-- What the loads of a block's keys and values give. -/
def KeysOk (x0 : Vec Ideal S8 .f32) (x8 : Vec Ideal S4x128x128 .bf16) (x2 : Vec Ideal S2048x512 .f32) : Prop :=
  ∀ (t : Fin 4) (m : ℕ) (off : Fin 2 → ℕ) (inb : ∀ a, off a + S128x128.size a ≤ S2048x512.size a), off = ![128 * m, 128 * t.val] →
    ∀ (r : Fin 128) (h : Fin 2) (j : Fin 128), Fits (Z t r h) (128 * m + j.val) (zK x0 x8 t (blkOf x2 off inb) (ix2 r (lane h j)))

def ValsOk (x3 : Vec Ideal S2048x512 .f32) : Prop :=
  ∀ (t : Fin 4) (m : ℕ) (off : Fin 2 → ℕ) (inb : ∀ a, off a + S128x128.size a ≤ S2048x512.size a), off = ![128 * m, 128 * t.val] →
    ∀ (j : Fin 128) (h : Fin 2) (e : Fin 64), blkOf x3 off inb (ix2 j (dim h e)) = V t h e (128 * m + j.val)

def TriOk (tri : FVec Ideal S256x256 .bf16) : Prop :=
  ∀ (h h' : Fin 2) (j j' : Fin 128), tri (ix2 (lane h' j') (lane h j)) = if h' = h ∧ j < j' then 1 else 0

variable {Z V p}

variable (c : Dev nD) (i : grid0.Coords) (arg2 : Memref sig .tc .smem S8 .f32) (harg2 : arg2.IsWhole) (arg3 : Memref sig .tc .vmem S128x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S256x256 .bf16) (harg6 : arg6.IsWhole) (arg7 : Memref sig .tc .vmem S128x512 .f32) (harg7 : arg7.IsWhole) (arg8 : Memref sig .tc .vmem S4x128x128 .bf16) (harg8 : arg8.IsWhole) (arg9 : Memref sig .tc .vmem S128x512 .f32) (harg9 : arg9.IsWhole) (arg10 : Memref sig .tc .vmem S4x128x256 .f32) (harg10 : arg10.IsWhole)
  (x0 : Vec Ideal S8 .f32) (x1 : Vec Ideal S128x512 .f32) (x2 : Vec Ideal S2048x512 .f32) (x3 : Vec Ideal S2048x512 .f32) (x4 : Vec Ideal S256x256 .bf16)
  (D9 : List (View.Piece (Elt Ideal) S128x512 .f32)) (D10 : List (View.Piece (Elt Ideal) S4x128x256 .f32)) (q : List (View.Piece (Elt Ideal) S4x128x128 .bf16)) (tri : FVec Ideal S256x256 .bf16)

/-- The pairs of blocks. -/
theorem pairs_ok (hp : p = 128 * (i 1).val) (htri : TriOk tri)
    (hk : KeysOk Z (arg2.view.read (Elt Ideal) (harg2.unread x0)) (arg8.view.read (Elt Ideal) (arg8.view.writes (Elt Ideal) arg8.view.junk q)) (arg4.view.read (Elt Ideal) (harg4.unread x2)))
    (hv : ValsOk V (arg5.view.read (Elt Ideal) (harg5.unread x3)))
    (h9 : Ok9 Z V p arg9.view (i 1).val D9) (h10 : Ok10 Z p arg10.view (i 1).val D10) (n : ℕ) (hn : n ≤ (k0_t1_loop i).trips) :
    Ok9 Z V p arg9.view ((i 1).val - 2 * n) ((pairs c i arg2 harg2 arg3 harg3 arg4 harg4 arg5 harg5 arg6 harg6 arg7 harg7 arg8 harg8 arg9 harg9 arg10 harg10 x0 x2 x3 D9 D10 q tri n).1 ++ D9)
      ∧ Ok10 Z p arg10.view ((i 1).val - 2 * n) ((pairs c i arg2 harg2 arg3 harg3 arg4 harg4 arg5 harg5 arg6 harg6 arg7 harg7 arg8 harg8 arg9 harg9 arg10 harg10 x0 x2 x3 D9 D10 q tri n).2 ++ D10) := by
  have hi : (i 1).val < 16 := (i 1).isLt
  induction n with
  | zero => exact ⟨h9, h10⟩
  | succ n ih =>
    obtain ⟨a9, a10⟩ := ih (by omega)
    have ht : n < (k0_t1_loop i).trips := hn
    have hT := trips_eq i
    unfold pairs at a9 a10 ⊢
    rw [pb_k0_t1_succ (F := Ideal) Variants.none c none i arg2 harg2 arg3 harg3 arg4 harg4 arg5 harg5 arg6 harg6 arg7 harg7 arg8 harg8 arg9 harg9 arg10 harg10 _ _ _ _ _ _ _ _ _ _ _ ⟨n, ht⟩, trip_pieces]
    have o0 := offT_eq i ⟨n, ht⟩ 0
    have o1 := offT_eq i ⟨n, ht⟩ 1
    have m0 : (i 1).val - 1 - (0 : Fin 2).val - 2 * n = (i 1).val - 2 * n - 1 := by show (i 1).val - 1 - 0 - 2 * n = _; omega
    have m1 : (i 1).val - 1 - (1 : Fin 2).val - 2 * n = (i 1).val - 2 * (n + 1) := by show (i 1).val - 1 - 1 - 2 * n = _; omega
    rw [m0] at o0
    rw [m1] at o1
    have s0 : (i 1).val - 2 * n = (i 1).val - 2 * n - 1 + 1 := by omega
    have s1 : (i 1).val - 2 * n - 1 = (i 1).val - 2 * (n + 1) + 1 := by omega
    rw [s0] at a9 a10
    have z0 := fun t => hk t _ _ (offT_inb i ⟨n, ht⟩ 0 t) (o0 t)
    have z1 := fun t => hk t _ _ (offT_inb i ⟨n, ht⟩ 1 t) (o1 t)
    have w0 := fun t => hv t _ _ (offT_inb i ⟨n, ht⟩ 0 t) (o0 t)
    have w1 := fun t => hv t _ _ (offT_inb i ⟨n, ht⟩ 1 t) (o1 t)
    have c0 := fun t => step_car (by omega) (below (by omega) (z0 t)) (a10 t)
    constructor
    · intro t
      rw [List.append_assoc, list9_tile, pairAcc_eq, ← View.writes_append, ← View.writes_append]
      have b := step_acc (by omega) (below_wt (by omega) (by omega) htri (z0 t) (a10 t)) (w0 t) (a9 t)
      have d := c0 t
      rw [s1] at b d
      exact step_acc (by omega) (below_wt (by omega) (by omega) htri (z1 t) d) (w1 t) b
    · intro t
      rw [List.append_assoc, list10_car, pairCar_eq, ← View.writes_append]
      have d := c0 t
      rw [s1] at d
      exact step_car (by omega) (below (by omega) (z1 t)) d

end Cert.StickProof

end
-- ==== Proof.StickBody.lean ====
/-
  The stick-breaking kernel's body at a point: what it stores is the weighted values of all the keys.
-/
module

public import proofs.«01_k».proof.Proof.StickLoop

@[expose] public section

set_option maxRecDepth 16384

noncomputable section

namespace Cert.StickProof

open Idealize.ShloMosaic Idealize.ShloMosaic.TcCoe Idealize.SL.Sem
open Cert.StickIdeal Cert.StickIdeal.Gen

variable {Z : Fin 4 → Fin 128 → Fin 2 → Option (ℕ → ℝ)} {V : Fin 4 → Fin 2 → Fin 64 → ℕ → EReal} {p : ℕ}

theorem sweep10_ok (v : View sig .tc .vmem S4x128x256 .f32) (f : Fin 4 → Vec Ideal S1x128x256 .f32 → Vec Ideal S1x128x256 .f32)
    (L : List (View.Piece (Elt Ideal) S4x128x256 .f32)) {m : ℕ} (hL : Ok10 Z p v (m + 1) L)
    (hf : ∀ t car, CarOk (Z t) p (m + 1) car → CarOk (Z t) p m (f t car)) : Ok10 Z p v m (sweep10 v f L 4) := by
  intro t
  rw [sweep10_car v f L 4 (by omega) t, if_pos t.isLt]
  exact hf t _ (hL t)

/-- A tile's running sums are the same until the tile's own turn. -/
theorem sweep10_before (v : View sig .tc .vmem S4x128x256 .f32) (f : Fin 4 → Vec Ideal S1x128x256 .f32 → Vec Ideal S1x128x256 .f32)
    (L : List (View.Piece (Elt Ideal) S4x128x256 .f32)) {m : ℕ} (hL : Ok10 Z p v m L) (t : Fin 4) :
    CarOk (Z t) p m (carOf (v.read (Elt Ideal) (v.writes (Elt Ideal) v.junk (sweep10 v f L t.val))) t) := by
  rw [sweep10_car v f L t.val (by omega) t, if_neg (lt_irrefl _)]
  exact hL t

theorem sweep9_ok (v : View sig .tc .vmem S128x512 .f32) (f : Fin 4 → Vec Ideal S128x128 .f32 → Vec Ideal S128x128 .f32)
    (L : List (View.Piece (Elt Ideal) S128x512 .f32)) {m : ℕ} (hL : Ok9 Z V p v (m + 1) L)
    (hf : ∀ t acc, AccOk (Z t) (V t) p (m + 1) acc → AccOk (Z t) (V t) p m (f t acc)) : Ok9 Z V p v m (sweep9 v f L 4) := by
  intro t
  rw [sweep9_tile v f L 4 (by omega) t, if_pos t.isLt]
  exact hf t _ (hL t)

theorem start10 (v : View sig .tc .vmem S4x128x256 .f32) {m : ℕ} (hp : p + 128 ≤ 128 * m) :
    Ok10 Z p v m [⟨Rect.unit (s := S4x128x256) ![0, 0, 0] S4x128x256.size inb_S4x128x256_S4x128x256_0_0_0, k0_pay183 (F := Ideal)⟩] := by
  intro t
  refine car_start hp fun r l => ?_
  rw [View.read_writes_full]
  have e : ∀ y, k0_pay183 (F := Ideal) y = 0 := fun y => by
    unfold k0_pay183
    idx_vars y
    pointwise
  rw [funext e]
  rfl

theorem start9 (v : View sig .tc .vmem S128x512 .f32) {m : ℕ} (hp : p + 128 ≤ 128 * m) :
    Ok9 Z V p v m [⟨Rect.unit (s := S128x512) ![0, 0] S128x512.size inb_S128x512_S128x512_0_0, k0_pay182 (F := Ideal)⟩] := by
  intro t
  refine acc_start hp fun r l => ?_
  rw [View.read_writes_full]
  have e : ∀ y, k0_pay182 (F := Ideal) y = 0 := fun y => by
    unfold k0_pay182
    idx_vars y
    pointwise
  rw [funext e]
  rfl

variable (c : Dev nD) (i : grid0.Coords) (arg2 : Memref sig .tc .smem S8 .f32) (harg2 : arg2.IsWhole) (arg3 : Memref sig .tc .vmem S128x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S256x256 .bf16) (harg6 : arg6.IsWhole) (arg7 : Memref sig .tc .vmem S128x512 .f32) (harg7 : arg7.IsWhole) (arg8 : Memref sig .tc .vmem S4x128x128 .bf16) (harg8 : arg8.IsWhole) (arg9 : Memref sig .tc .vmem S128x512 .f32) (harg9 : arg9.IsWhole) (arg10 : Memref sig .tc .vmem S4x128x256 .f32) (harg10 : arg10.IsWhole)
  (x0 : Vec Ideal S8 .f32) (x1 : Vec Ideal S128x512 .f32) (x2 : Vec Ideal S2048x512 .f32) (x3 : Vec Ideal S2048x512 .f32) (x4 : Vec Ideal S256x256 .bf16)

/-- The block that meets the diagonal. -/
theorem diag10_ok (hp : p = 128 * (i 1).val)
    (hk : KeysOk Z (arg2.view.read (Elt Ideal) (harg2.unread x0)) (arg8.view.read (Elt Ideal) (qBuf arg8 (arg3.view.read (Elt Ideal) (harg3.unread x1)))) (arg4.view.read (Elt Ideal) (harg4.unread x2))) :
    Ok10 Z p arg10.view (i 1).val (diag10 i arg2 harg2 arg3 harg3 arg4 harg4 arg8 arg10 x0 x1 x2 4) := by
  have hi : (i 1).val < 16 := (i 1).isLt
  exact sweep10_ok _ _ _ (start10 _ (by omega)) fun t car hc => step_car hi (diag hp (hk t _ _ (offD_inb i t) (offD_eq i t))) hc

theorem diag9_ok (hp : p = 128 * (i 1).val) (htri : TriOk (triK arg6 harg6 x4))
    (hk : KeysOk Z (arg2.view.read (Elt Ideal) (harg2.unread x0)) (arg8.view.read (Elt Ideal) (qBuf arg8 (arg3.view.read (Elt Ideal) (harg3.unread x1)))) (arg4.view.read (Elt Ideal) (harg4.unread x2)))
    (hv : ValsOk V (arg5.view.read (Elt Ideal) (harg5.unread x3))) :
    Ok9 Z V p arg9.view (i 1).val (diag9 i arg2 harg2 arg3 harg3 arg4 harg4 arg5 harg5 arg6 harg6 arg8 arg9 arg10 x0 x1 x2 x3 x4) := by
  have hi : (i 1).val < 16 := (i 1).isLt
  refine sweep9_ok _ _ _ (start9 _ (by omega)) fun t acc ha => ?_
  exact step_acc hi (diag_wt hi hp htri (hk t _ _ (offD_inb i t) (offD_eq i t)) (sweep10_before _ _ _ (start10 _ (by omega)) t))
    (hv t _ _ (offD_inb i t) (offD_eq i t)) ha

/-- The pairs of blocks after it. -/
theorem found_ok (hp : p = 128 * (i 1).val) (htri : TriOk (triK arg6 harg6 x4))
    (hk : KeysOk Z (arg2.view.read (Elt Ideal) (harg2.unread x0)) (arg8.view.read (Elt Ideal) (qBuf arg8 (arg3.view.read (Elt Ideal) (harg3.unread x1)))) (arg4.view.read (Elt Ideal) (harg4.unread x2)))
    (hv : ValsOk V (arg5.view.read (Elt Ideal) (harg5.unread x3))) :
    Ok9 Z V p arg9.view ((i 1).val - 2 * ((i 1).val / 2)) (found9 c i arg2 harg2 arg3 harg3 arg4 harg4 arg5 harg5 arg6 harg6 arg7 harg7 arg8 harg8 arg9 harg9 arg10 harg10 x0 x1 x2 x3 x4)
      ∧ Ok10 Z p arg10.view ((i 1).val - 2 * ((i 1).val / 2)) (found10 c i arg2 harg2 arg3 harg3 arg4 harg4 arg5 harg5 arg6 harg6 arg7 harg7 arg8 harg8 arg9 harg9 arg10 harg10 x0 x1 x2 x3 x4) := by
  have h := pairs_ok c i arg2 harg2 arg3 harg3 arg4 harg4 arg5 harg5 arg6 harg6 arg7 harg7 arg8 harg8 arg9 harg9 arg10 harg10 x0 x2 x3 _ _ _ _ hp htri hk hv (diag9_ok i arg2 harg2 arg3 harg3 arg4 harg4 arg5 harg5 arg6 harg6 arg8 arg9 arg10 x0 x1 x2 x3 x4 hp htri hk hv)
    (diag10_ok i arg2 harg2 arg3 harg3 arg4 harg4 arg8 arg10 x0 x1 x2 hp hk) (k0_t1_loop i).trips le_rfl
  rw [← trips_eq]
  unfold found9 found10 foundAt9 foundAt10
  rw [rest_eq]
  exact h

theorem first9_ok (hp : p = 128 * (i 1).val) (hi0 : 0 < (i 1).val) (htri : TriOk (triK arg6 harg6 x4))
    (hk : KeysOk Z (arg2.view.read (Elt Ideal) (harg2.unread x0)) (arg8.view.read (Elt Ideal) (qBuf arg8 (arg3.view.read (Elt Ideal) (harg3.unread x1)))) (arg4.view.read (Elt Ideal) (harg4.unread x2)))
    (hv : ValsOk V (arg5.view.read (Elt Ideal) (harg5.unread x3)))
    (h9 : Ok9 Z V p arg9.view 1 (found9 c i arg2 harg2 arg3 harg3 arg4 harg4 arg5 harg5 arg6 harg6 arg7 harg7 arg8 harg8 arg9 harg9 arg10 harg10 x0 x1 x2 x3 x4)) (h10 : Ok10 Z p arg10.view 1 (found10 c i arg2 harg2 arg3 harg3 arg4 harg4 arg5 harg5 arg6 harg6 arg7 harg7 arg8 harg8 arg9 harg9 arg10 harg10 x0 x1 x2 x3 x4)) :
    Ok9 Z V p arg9.view 0 (first9 c i arg2 harg2 arg3 harg3 arg4 harg4 arg5 harg5 arg6 harg6 arg7 harg7 arg8 harg8 arg9 harg9 arg10 harg10 x0 x1 x2 x3 x4 4) := by
  refine sweep9_ok _ _ _ h9 fun t acc ha => ?_
  have z := hk t 0 _ (off0_inb t) rfl
  exact step_acc (by omega) (below_wt (by omega) (by omega) htri z (sweep10_before _ _ _ h10 t)) (hv t 0 _ (off0_inb t) rfl) ha

end Cert.StickProof

end
-- ==== Proof.StickRef.lean ====
/- The reference's stick-breaking attention, entry by entry: an entry of the result is the sum of the values of the earlier
   positions, each weighted as `weight` says: as `wt` where a row's scores are real numbers, and with zero where all are infinite. -/
module

public import proofs.«01_k».proof.Proof.Gen.StickRefIdeal.Read
public import proofs.«01_k».proof.Proof.StickStep

@[expose] public section

set_option maxRecDepth 16384

noncomputable section

namespace Cert.StickProof

open Idealize.ShloMosaic Idealize.ShloMosaic.TcCoe Idealize.SL.Sem
open Cert.StickRefIdeal Cert.StickRefIdeal.Read

/-- A sum over the window that starts at a position and, past the end, finds nothing. -/
theorem window_sum {A B C N : ℕ} (x : (⟨4, ![A, B, C, N]⟩ : Shape).Idx → EReal) (hi : Fin 4 → ℕ)
    (H : (⟨4, ![A, B, C, N]⟩ : Shape).ReduceWindows (![1, 1, 1, N] : Fin 4 → ℕ) ![1, 1, 1, 1] ![0, 0, 0, 0] hi ⟨4, ![A, B, C, N]⟩)
    (b : Fin A) (h : Fin B) (p : Fin C) (k : Fin N) :
    Ideal.hostReduceWindowAdd ![1, 1, 1, N] ![1, 1, 1, 1] ![0, 0, 0, 0] hi H x 0 (ix4 b h p k)
      = ∑ n : Fin N, if hn : k.val + n.val < N then x (ix4 b h p ⟨k.val + n.val, hn⟩) else 0 := by
  unfold Ideal.hostReduceWindowAdd Host.reduceWindow
  dsimp only
  refine ((congrArg (fun f : EReal → Fin _ → EReal => List.foldl f 0 (List.finRange _)) (funext₂ fun r n => congrArg (r + ·) ?_)).trans
    (sum_idx_eq_foldl (M := EReal) (⟨4, ![1, 1, 1, N]⟩ : Shape) fun w => if hin : ∀ a : Fin 4, (![0, 0, 0, 0] : Fin 4 → ℕ) a
      ≤ (ix4 b h p k a).val * (![1, 1, 1, 1] : Fin 4 → ℕ) a + (w a).val ∧ (ix4 b h p k a).val * (![1, 1, 1, 1] : Fin 4 → ℕ) a + (w a).val
        - (![0, 0, 0, 0] : Fin 4 → ℕ) a < (⟨4, ![A, B, C, N]⟩ : Shape).size a
    then x (fun a => ⟨_, (hin a).2⟩) else 0).symm).trans ?_
  · congr
  rw [sum_idx4]
  simp only [Finset.univ_unique, Finset.sum_singleton]
  refine Finset.sum_congr rfl fun n _ => ?_
  by_cases hn : k.val + n.val < N
  · rw [dif_pos hn, dif_pos]
    · refine congrArg x (funext fun a => Fin.ext ?_)
      match a with
      | ⟨0, _⟩ => show b.val * 1 + 0 - 0 = b.val; omega
      | ⟨1, _⟩ => show h.val * 1 + 0 - 0 = h.val; omega
      | ⟨2, _⟩ => show p.val * 1 + 0 - 0 = p.val; omega
      | ⟨3, _⟩ => show k.val * 1 + n.val - 0 = k.val + n.val; omega
    · intro a
      match a with
      | ⟨0, _⟩ => show 0 ≤ b.val * 1 + 0 ∧ b.val * 1 + 0 - 0 < A; omega
      | ⟨1, _⟩ => show 0 ≤ h.val * 1 + 0 ∧ h.val * 1 + 0 - 0 < B; omega
      | ⟨2, _⟩ => show 0 ≤ p.val * 1 + 0 ∧ p.val * 1 + 0 - 0 < C; omega
      | ⟨3, _⟩ => show 0 ≤ k.val * 1 + n.val ∧ k.val * 1 + n.val - 0 < N; omega
  · rw [dif_neg hn, dif_neg]
    intro hin
    have h3 : 0 ≤ k.val * 1 + n.val ∧ k.val * 1 + n.val - 0 < N := hin 3
    omega

/-- From a position on, a sum over offsets is one over positions. -/
theorem sum_offsets (f : ℕ → ℝ) (k : Fin 2048) :
    ∑ n : Fin 2048, (if k.val + n.val < 2048 then f (k.val + n.val) else 0) = ∑ j ∈ Finset.Ico k.val 2048, f j := by
  rw [Fin.sum_univ_eq_sum_range (fun n => if k.val + n < 2048 then f (k.val + n) else 0), Finset.sum_Ico_eq_sum_range, ← Finset.sum_filter]
  refine Finset.sum_congr (Finset.ext fun n => ?_) fun _ _ => rfl
  simp only [Finset.mem_filter, Finset.mem_range]
  omega

variable (x0 : (⟨S32768x6656, .f32⟩ : BufTy).Contents (Elt Ideal)) (x1 : (⟨S1x8, .f32⟩ : BufTy).Contents (Elt Ideal))

/-- A column of a row of the joined projections. -/
abbrev colAt (o : ℕ) (ho : o + 512 ≤ 6656) (b : Fin 16) (p : Fin 2048) (h : Fin 8) (e : Fin 64) : EReal :=
  x0 (ix2 (⟨b.val * 2048 + p.val, by omega⟩ : Fin 32768) (⟨o + (h.val * 64 + e.val), by omega⟩ : Fin 6656))

/-- The score of a key for a query. -/
def score (b : Fin 16) (h : Fin 8) (p k : Fin 2048) : EReal :=
  (∑ e : Fin 64, colAt x0 0 (by omega) b p h e * colAt x0 512 (by omega) b k h e) * Ideal.ofBits .f32 0x3E000000#32 + x1 (ix2 0 h)

theorem score_apply (b : Fin 16) (h : Fin 8) (p k : Fin 2048) : val_main_v13 (F := Ideal) x0 x1 (ix4 b h p k) = score x0 x1 b h p k := by
  unfold score colAt
  pointwise [val_main_v0, val_main_v1, val_main_v2, val_main_v3, val_main_v7, val_main_cst, val_main_v8, val_main_v9, val_main_v10,
    val_main_v11, val_main_v12, val_main_v13]

theorem mask_apply (p k : Fin 2048) : val_main_v18 (F := Ideal) (ix2 p k) = BitVec.ofBool (decide (k < p)) := by
  pointwise [val_main_v6, val_main_v14, val_main_v15, val_main_v16, val_main_v17, val_main_v18]
  have f : ∀ n : Fin 2048, (BitVec.ofNat 32 n.val).toInt = n.val := fun n => by
    rw [BitVec.toInt_eq_toNat_cond]
    simp
    omega
  show BitVec.ofBool (decide ((BitVec.ofNat 32 k.val).toInt < (BitVec.ofNat 32 p.val).toInt)) = _
  rw [f, f]
  exact congrArg BitVec.ofBool (decide_eq_decide.2 Int.ofNat_lt)

/-- The reference's softplus of a real number. -/
theorem soft (z : ℝ) :
    (if (z : EReal) ≠ z then (z : EReal) else max (z : EReal) 0 + Ideal.log1p (Ideal.exp (-FloatOps.absf (F := Ideal) (φ := .f32) (z : EReal))))
      = ((sp z : ℝ) : EReal) := by
  rw [if_neg (fun h => h rfl)]
  exact coe_sp z

theorem soft_top :
    (if (⊤ : EReal) ≠ ⊤ then (⊤ : EReal) else max (⊤ : EReal) 0 + Ideal.log1p (Ideal.exp (-FloatOps.absf (F := Ideal) (φ := .f32) (⊤ : EReal))))
      = ⊤ := by
  rw [if_neg (fun h => h rfl)]
  exact top_sp

theorem early_apply (Z : ℕ → ℝ) (b : Fin 16) (h : Fin 8) (p k : Fin 2048) (hz : score x0 x1 b h p k = ((Z k.val : ℝ) : EReal)) :
    val_main_v21 (F := Ideal) x0 x1 (ix4 b h p k) = ((- early Z p.val k.val : ℝ) : EReal) := by
  have hs := score_apply x0 x1 b h p k
  have hm := mask_apply p k
  rw [hz] at hs
  pointwise [val_main_v19, val_main_call0_v0, val_main_call0_call0_cst, val_main_call0_call0_v0, val_main_call0_call0_v1, val_main_call0_call0_v2,
    val_main_call0_call0_v3, val_main_call0_call0_v4, val_main_call0_call0_v5, val_main_call0_call0_v6, val_main_call0_call0_v7,
    val_main_call0_call0_v8, val_main_call0_call0_v9, val_main_call0_call0_v10, val_main_call0_call0_v11, val_main_call0_v1, val_main_v20,
    val_main_cst_0, val_main_call1_v0, val_main_call1_v1, val_main_call1_v2, val_main_v21, hs, hm]
  by_cases hk : k < p
  · rw [if_pos hk, neg_neg]
    refine (congrArg (fun u : EReal => -u) (soft (Z k.val))).trans ?_
    rw [early, if_pos (show k.val < p.val from hk), EReal.coe_neg]
  · rw [if_neg hk, early, if_neg (show ¬ k.val < p.val from hk), neg_zero]
    exact Ideal.ofBits_zero .f32

theorem early_top (b : Fin 16) (h : Fin 8) (p k : Fin 2048) (hk : k < p) (hz : score x0 x1 b h p k = (⊤ : EReal)) :
    val_main_v21 (F := Ideal) x0 x1 (ix4 b h p k) = (⊥ : EReal) := by
  have hs := score_apply x0 x1 b h p k
  have hm := mask_apply p k
  rw [hz] at hs
  pointwise [val_main_v19, val_main_call0_v0, val_main_call0_call0_cst, val_main_call0_call0_v0, val_main_call0_call0_v1, val_main_call0_call0_v2,
    val_main_call0_call0_v3, val_main_call0_call0_v4, val_main_call0_call0_v5, val_main_call0_call0_v6, val_main_call0_call0_v7,
    val_main_call0_call0_v8, val_main_call0_call0_v9, val_main_call0_call0_v10, val_main_call0_call0_v11, val_main_call0_v1, val_main_v20,
    val_main_cst_0, val_main_call1_v0, val_main_call1_v1, val_main_call1_v2, val_main_v21, hs, hm]
  rw [if_pos hk, neg_neg]
  exact (congrArg (fun u : EReal => -u) soft_top).trans EReal.neg_top

/-- The sum of a row from a position on, by position. -/
theorem suffix_sum (b : Fin 16) (h : Fin 8) (p k : Fin 2048) : val_main_v22 (F := Ideal) x0 x1 (ix4 b h p k)
    = ∑ n : Fin 2048, if hn : k.val + n.val < 2048 then val_main_v21 (F := Ideal) x0 x1 (ix4 b h p ⟨k.val + n.val, hn⟩) else 0 := by
  have h0 : val_main_call2_v0 (F := Ideal) (Shape.Idx.first (show 0 < S_.numel by decide)) = (0 : EReal) := by
    rw [show Shape.Idx.first (show 0 < S_.numel by decide) = ix0 from funext fun a => a.elim0]
    pointwise [val_main_call2_cst, val_main_call2_v0]
  unfold val_main_v22
  generalize val_main_v21 (F := Ideal) x0 x1 = y
  unfold Host.reduceWindowAdd
  rw [h0]
  exact window_sum y _ _ b h p k

theorem suffix_top (b : Fin 16) (h : Fin 8) (p k : Fin 2048) (hk : k < p) (hz : score x0 x1 b h p k = (⊤ : EReal)) :
    val_main_v22 (F := Ideal) x0 x1 (ix4 b h p k) = (⊥ : EReal) := by
  rw [suffix_sum, Fin.sum_univ_succ, dif_pos (show k.val + (0 : Fin 2048).val < 2048 from k.isLt)]
  refine (congrArg (fun u : EReal => u + _) (early_top x0 x1 b h p k hk hz)).trans ?_
  exact EReal.bot_add _

/-- The sum of a row from a position on. -/
theorem suffix_apply (Z : ℕ → ℝ) (b : Fin 16) (h : Fin 8) (p : Fin 2048) (hz : ∀ k : Fin 2048, score x0 x1 b h p k = ((Z k.val : ℝ) : EReal))
    (k : Fin 2048) : val_main_v22 (F := Ideal) x0 x1 (ix4 b h p k) = ((- suff Z p.val k.val : ℝ) : EReal) := by
  have he := fun k => early_apply x0 x1 Z b h p k (hz k)
  rw [suffix_sum, suff, ← Finset.sum_neg_distrib, ← sum_offsets, ← Cert.ProjProof.sum_coe]
  refine Finset.sum_congr rfl fun n _ => ?_
  split
  · exact he _
  · rfl

/-- The weight of a position. -/
theorem wt_apply (Z : ℕ → ℝ) (b : Fin 16) (h : Fin 8) (p : Fin 2048) (hz : ∀ k : Fin 2048, score x0 x1 b h p k = ((Z k.val : ℝ) : EReal))
    (k : Fin 2048) : val_main_v27 (F := Ideal) x0 x1 (ix4 b h p k) = ((wt Z p.val k.val : ℝ) : EReal) := by
  have hs := (score_apply x0 x1 b h p k).trans (hz k)
  have hm := mask_apply p k
  have he := early_apply x0 x1 Z b h p k (hz k)
  have hc := suffix_apply x0 x1 Z b h p hz k
  pointwise [val_main_v23, val_main_call3_v0, val_main_call3_call0_cst, val_main_call3_call0_v0, val_main_call3_call0_v1, val_main_call3_call0_v2,
    val_main_call3_call0_v3, val_main_call3_call0_v4, val_main_call3_call0_v5, val_main_call3_call0_v6, val_main_call3_call0_v7,
    val_main_call3_call0_v8, val_main_call3_call0_v9, val_main_call3_call0_v10, val_main_call3_call0_v11, val_main_call3_v1, val_main_v24,
    val_main_v25, val_main_v26, val_main_cst_1, val_main_call4_v0, val_main_call4_v1, val_main_call4_v2, val_main_v27, hs, hm, he, hc]
  by_cases hk : k < p
  · have hk' : k.val < p.val := hk
    have e := soft (- Z k.val)
    rw [EReal.coe_neg] at e
    have d : suff Z p.val k.val = early Z p.val k.val + suff Z p.val (k.val + 1) := Finset.sum_eq_sum_Ico_succ_bot k.isLt _
    rw [if_pos hk, wt, if_pos hk', ← Ideal.exp_coe]
    refine congrArg Ideal.exp ((congrArg (fun u : EReal => -u + ((-suff Z p.val k.val : ℝ) - (-early Z p.val k.val : ℝ) : EReal)) e).trans ?_)
    rw [← EReal.coe_neg, ← EReal.coe_sub, ← EReal.coe_add, sp_neg, d]
    refine congrArg ((↑) : ℝ → EReal) ?_
    ring
  · rw [if_neg hk, wt, if_neg (show ¬ k.val < p.val from hk)]
    exact Ideal.ofBits_zero .f32

/-- The weight of a position with an infinite score is zero. -/
theorem zero_apply (b : Fin 16) (h : Fin 8) (p k : Fin 2048) (hz : score x0 x1 b h p k = (⊤ : EReal) ∨ score x0 x1 b h p k = (⊥ : EReal)) :
    val_main_v27 (F := Ideal) x0 x1 (ix4 b h p k) = (0 : EReal) := by
  have hm := mask_apply p k
  by_cases hk : k < p
  · rcases hz with hz | hz
    · have hs := (score_apply x0 x1 b h p k).trans hz
      have hc := suffix_top x0 x1 b h p k hk hz
      pointwise [val_main_v23, val_main_call3_v0, val_main_call3_call0_cst, val_main_call3_call0_v0, val_main_call3_call0_v1, val_main_call3_call0_v2,
      val_main_call3_call0_v3, val_main_call3_call0_v4, val_main_call3_call0_v5, val_main_call3_call0_v6, val_main_call3_call0_v7,
      val_main_call3_call0_v8, val_main_call3_call0_v9, val_main_call3_call0_v10, val_main_call3_call0_v11, val_main_call3_v1, val_main_v24,
      val_main_v25, val_main_v26, val_main_cst_1, val_main_call4_v0, val_main_call4_v1, val_main_call4_v2, val_main_v27, hs, hm, hc]
      rw [if_pos hk]
      refine (congrArg Ideal.exp ?_).trans Ideal.exp_bot
      rw [sub_eq_add_neg, EReal.bot_add, EReal.add_bot]
    · have hs := (score_apply x0 x1 b h p k).trans hz
      pointwise [val_main_v23, val_main_call3_v0, val_main_call3_call0_cst, val_main_call3_call0_v0, val_main_call3_call0_v1, val_main_call3_call0_v2,
      val_main_call3_call0_v3, val_main_call3_call0_v4, val_main_call3_call0_v5, val_main_call3_call0_v6, val_main_call3_call0_v7,
      val_main_call3_call0_v8, val_main_call3_call0_v9, val_main_call3_call0_v10, val_main_call3_call0_v11, val_main_call3_v1, val_main_v24,
      val_main_v25, val_main_v26, val_main_cst_1, val_main_call4_v0, val_main_call4_v1, val_main_call4_v2, val_main_v27, hs, hm]
      rw [if_pos hk, EReal.neg_bot]
      refine (congrArg Ideal.exp ?_).trans Ideal.exp_bot
      refine (congrArg (fun u : EReal => -u + _) soft_top).trans ?_
      exact (congrArg (fun u : EReal => u + _) EReal.neg_top).trans (EReal.bot_add _)
  · pointwise [val_main_v23, val_main_call3_v0, val_main_call3_call0_cst, val_main_call3_call0_v0, val_main_call3_call0_v1, val_main_call3_call0_v2,
      val_main_call3_call0_v3, val_main_call3_call0_v4, val_main_call3_call0_v5, val_main_call3_call0_v6, val_main_call3_call0_v7,
      val_main_call3_call0_v8, val_main_call3_call0_v9, val_main_call3_call0_v10, val_main_call3_call0_v11, val_main_call3_v1, val_main_v24,
      val_main_v25, val_main_v26, val_main_cst_1, val_main_call4_v0, val_main_call4_v1, val_main_call4_v2, val_main_v27, hm]
    rw [if_neg hk]
    exact Ideal.ofBits_zero .f32

theorem weight_apply (Z : Option (ℕ → ℝ)) (b : Fin 16) (h : Fin 8) (p : Fin 2048) (hz : ∀ k : Fin 2048, Fits Z k.val (score x0 x1 b h p k))
    (k : Fin 2048) : val_main_v27 (F := Ideal) x0 x1 (ix4 b h p k) = ((weight Z p.val k.val : ℝ) : EReal) := by
  cases Z with
  | none => exact (zero_apply x0 x1 b h p k (hz k)).trans EReal.coe_zero.symm
  | some f => exact wt_apply x0 x1 f b h p hz k

/-- The values of a head's column by position. -/
def column (b : Fin 16) (h : Fin 8) (e : Fin 64) (k : ℕ) : EReal :=
  if hk : k < 2048 then colAt x0 1024 (by omega) b ⟨k, hk⟩ h e else 0

theorem result_apply (Z : Option (ℕ → ℝ)) (b : Fin 16) (h : Fin 8) (p : Fin 2048) (e : Fin 64)
    (hz : ∀ k : Fin 2048, Fits Z k.val (score x0 x1 b h p k)) :
    val_main_v30 (F := Ideal) x0 x1 (ix2 (⟨b.val * 2048 + p.val, by omega⟩ : Fin 32768) (⟨h.val * 64 + e.val, by omega⟩ : Fin 512))
      = mix Z p.val (column x0 b h e) 0 := by
  have hw := weight_apply x0 x1 Z b h p hz
  have h28 : val_main_v28 (F := Ideal) x0 x1 (ix4 b h e p) = mix Z p.val (column x0 b h e) 0 := by
    unfold mix
    rw [Nat.Ico_zero_eq_range, ← Fin.sum_univ_eq_sum_range (fun k => ((weight Z p.val k : ℝ) : EReal) * column x0 b h e k)]
    pointwise [val_main_v4, val_main_v5, val_main_v28, hw]
    refine Finset.sum_congr rfl fun k _ => ?_
    unfold column
    rw [dif_pos k.isLt, mul_comm]
  rw [← h28]
  pointwise [val_main_v29, val_main_v30]

end Cert.StickProof

end
-- ==== Proof.StickTable.lean ====
/- The table of sums that the host computes for the stick-breaking kernel, and the bias of each head as its block holds it. -/
module

public import proofs.«01_k».proof.Proof.Gen.StickIdeal.Value
public import proofs.«01_k».proof.Proof.StickRead
public import Idealize.ShloMosaic.Lib.Pipeline.ValueKit
public import Idealize.ShloMosaic.Lib.StableHlo.ReadAt

@[expose] public section

set_option maxRecDepth 16384

noncomputable section

namespace Cert.StickProof

open Idealize.ShloMosaic Idealize.ShloMosaic.TcCoe Idealize.SL.Sem
open Cert.StickIdeal Cert.StickIdeal.Gen

variable (m : (ℓ : Loc nD τ sig) → Buf (Elt Ideal) ℓ)

/-- One where the row, moved by `w`, is not before the column. -/
def lower (w : BitVec 32) : FVec Ideal S128x128 .f32 :=
  select (cmpi .sge (addi (iotaInDim S128x128 32 0) (broadcastInDim S128x128 ![] bcast_S_S128x128 (constantI S_ 32 w)))
      (iotaInDim S128x128 32 1))
    (broadcastInDim S128x128 ![] bcast_S_S128x128 (constant S_ .f32 0x3F800000#32))
    (broadcastInDim S128x128 ![] bcast_S_S128x128 (constant S_ .f32 0x00000000#32))

/-- One on the diagonal. -/
def unit2 : FVec Ideal S2x2 .f32 :=
  uitofp .f32 (cmpi .eq (addi (iotaInDim S2x2 32 0) (broadcastInDim S2x2 ![] bcast_S_S2x2 (constantI S_ 32 0#32))) (iotaInDim S2x2 32 1))

/-- The second table in each block where the first has a one. -/
def blocks (E : FVec Ideal S2x2 .f32) (T : FVec Ideal S128x128 .f32) : Vec Ideal S256x256 .bf16 :=
  truncf .bf16 (shapeCast S256x256 (mulf
    (broadcastInDim S2x128x2x128 ![0, 1, 2, 3] bcast_S2x1x2x1_S2x128x2x128_0_1_2_3 (broadcastInDim S2x1x2x1 ![0, 2] bcast_S2x2_S2x1x2x1_0_2 E))
    (broadcastInDim S2x128x2x128 ![0, 1, 2, 3] bcast_S1x128x1x128_S2x128x2x128_0_1_2_3 (broadcastInDim S1x128x1x128 ![1, 3] bcast_S128x128_S1x128x1x128_1_3 T))
    : FVec Ideal S2x128x2x128 .f32) shapeCasts_S2x128x2x128_S256x256) bitsLt_bf16_f32

/-- The table that the host computes: within a head, one where the row comes after the column. -/
def triTable : Vec Ideal S256x256 .bf16 := blocks unit2 (lower 4294967295#32)

theorem lower_apply (w : BitVec 32) (j' j : Fin 128) :
    lower w (ix2 j' j) = if IntOp.cmpi .sge (IntOp.addi (BitVec.ofNat 32 j'.val) w) (BitVec.ofNat 32 j.val) = 1#1 then 1 else 0 := by
  unfold lower
  pointwise
  rfl

theorem unit2_apply (h' h : Fin 2) : unit2 (ix2 h' h) = if h' = h then 1 else 0 := by
  unfold unit2
  pointwise
  match h', h with
  | 0, 0 => show (((1 : ℕ) : ℝ) : EReal) = 1; simp
  | 0, 1 => show (((0 : ℕ) : ℝ) : EReal) = 0; simp
  | 1, 0 => show (((0 : ℕ) : ℝ) : EReal) = 0; simp
  | 1, 1 => show (((1 : ℕ) : ℝ) : EReal) = 1; simp

theorem blocks_apply (E : FVec Ideal S2x2 .f32) (T : FVec Ideal S128x128 .f32) (h h' : Fin 2) (j j' : Fin 128) :
    blocks E T (ix2 (lane h' j') (lane h j)) = E (ix2 h' h) * T (ix2 j' j) := by
  have e : blocks E T (ix2 (lane h' j') (lane h j)) = E (ix2 (⟨(128 * h'.val + j'.val) / 128, by omega⟩ : Fin 2) (⟨(128 * h.val + j.val) / 128, by omega⟩ : Fin 2))
      * T (ix2 (⟨(128 * h'.val + j'.val) % 128, by omega⟩ : Fin 128) (⟨(128 * h.val + j.val) % 128, by omega⟩ : Fin 128)) := by
    unfold blocks
    pointwise
  rw [e]
  congr 3 <;> exact Fin.ext (by dsimp only; omega)

theorem word_lt (j' j : Fin 128) :
    IntOp.cmpi .sge (IntOp.addi (BitVec.ofNat 32 j'.val) 4294967295#32) (BitVec.ofNat 32 j.val) = 1#1 ↔ j < j' := by
  revert j' j
  decide +kernel

theorem tri_apply (h h' : Fin 2) (j j' : Fin 128) :
    triTable (ix2 (lane h' j') (lane h j)) = if h' = h ∧ j < j' then 1 else 0 := by
  unfold triTable
  rw [blocks_apply, unit2_apply, lower_apply, if_congr (word_lt j' j) rfl rfl]
  by_cases a : h' = h <;> by_cases b : j < j' <;> simp [a, b]

theorem V_tri (c : Dev nD) : V m c main_v10 = triTable := by
  unfold V
  simp only [hostOps0, hostOps0_1, hostOps0_2, hostOps0_3, List.flatten_cons, List.flatten_nil, List.append_nil,
    List.cons_append, List.nil_append]
  after_reads_simp
  simp -implicitDefEqProofs only [StableHlo.TRef.toBuf, StableHlo.TRef.ofBuf, cast_cast, cast_eq]
  rfl

theorem V_bias (c : Dev nD) (n : Fin 8) : V m c main_v0 (ix1 n) = m ((c : Thread nD τ).loc main_arg1) (ix2 0 n) := by
  unfold V
  simp only [hostOps0, hostOps0_1, hostOps0_2, hostOps0_3, List.flatten_cons, List.flatten_nil, List.append_nil,
    List.cons_append, List.nil_append]
  after_reads_at

end Cert.StickProof

end
-- ==== Proof.StickIn.lean ====
/- What the stick-breaking kernel finds in its blocks: the queries, keys and values as columns of the joined projections, the
   bias of each head, and the table of sums that the host computes for it. -/
module

public import proofs.«01_k».proof.Proof.StickBody
public import proofs.«01_k».proof.Proof.StickRef
public import proofs.«01_k».proof.Proof.StickTable
public import Idealize.ShloMosaic.Lib.Pipeline.ValueKit
public import Idealize.ShloMosaic.Lib.StableHlo.ReadAt

@[expose] public section

set_option maxRecDepth 16384

noncomputable section

namespace Cert.StickProof

open Idealize.ShloMosaic Idealize.ShloMosaic.TcCoe Idealize.SL.Sem
open Cert.StickIdeal Cert.StickIdeal.Gen

variable (m : (ℓ : Loc nD τ sig) → Buf (Elt Ideal) ℓ)

/-- Where each window's block sits. -/
theorem idx : ∀ t : Fin cfg0.N, win0_0.index t = ![0] ∧ win0_1.index t = ![t.val, 0] ∧ win0_2.index t = ![t.val / 16, 1]
    ∧ win0_3.index t = ![t.val / 16, 2] ∧ win0_4.index t = ![0, 0] ∧ win0_5.index t = ![t.val, 0] :=
  (by decide +kernel : ∀ t : Fin grid0.N, _)

theorem coord : ∀ t : Fin cfg0.N, (grid0.coords t 1).val = t.val % 16 := (by decide +kernel : ∀ t : Fin grid0.N, _)

/-- The sequence that point `t` works on, and row `r` of its block of queries as a position of it. -/
abbrev bat (t : Fin cfg0.N) : Fin 16 := ⟨t.val / 16, by have := t.isLt; have : cfg0.N = 256 := rfl; omega⟩
abbrev pos (t : Fin cfg0.N) (r : Fin 128) : Fin 2048 := ⟨t.val % 16 * 128 + r.val, by omega⟩
abbrev row (b : Fin 16) (p : Fin 2048) : Fin 32768 := ⟨b.val * 2048 + p.val, by omega⟩

theorem in_q (c : Dev nD) (t : Fin cfg0.N) (r : Fin 128) (l : Fin 512) :
    iblk m c 1 t (ix2 r l) = m ((c : Thread nD τ).loc main_arg0) (ix2 (row (bat t) (pos t r)) (⟨0 + l.val, by omega⟩ : Fin 6656)) := by
  unfold iblk
  rw [show V m c (Pipeline.arrRef spec0 1) = m ((c : Thread nD τ).loc main_arg0) from V_main_arg0 m c]
  generalize m ((c : Thread nD τ).loc main_arg0) = A
  blk_ext [idx t]

theorem in_k (c : Dev nD) (t : Fin cfg0.N) (k : Fin 2048) (l : Fin 512) :
    iblk m c 2 t (ix2 k l) = m ((c : Thread nD τ).loc main_arg0) (ix2 (row (bat t) k) (⟨512 + l.val, by omega⟩ : Fin 6656)) := by
  unfold iblk
  rw [show V m c (Pipeline.arrRef spec0 2) = m ((c : Thread nD τ).loc main_arg0) from V_main_arg0 m c]
  generalize m ((c : Thread nD τ).loc main_arg0) = A
  blk_ext [idx t]

theorem in_v (c : Dev nD) (t : Fin cfg0.N) (k : Fin 2048) (l : Fin 512) :
    iblk m c 3 t (ix2 k l) = m ((c : Thread nD τ).loc main_arg0) (ix2 (row (bat t) k) (⟨1024 + l.val, by omega⟩ : Fin 6656)) := by
  unfold iblk
  rw [show V m c (Pipeline.arrRef spec0 3) = m ((c : Thread nD τ).loc main_arg0) from V_main_arg0 m c]
  generalize m ((c : Thread nD τ).loc main_arg0) = A
  blk_ext [idx t]

theorem in_bias (c : Dev nD) (t : Fin cfg0.N) (n : Fin 8) : iblk m c 0 t (ix1 n) = m ((c : Thread nD τ).loc main_arg1) (ix2 0 n) :=
  (show _ = V m c main_v0 (ix1 n) by blk_ext [iblk, idx t]).trans (V_bias m c n)

theorem blk4 (c : Dev nD) (A : Buf (Elt Ideal) ((c : Thread nD τ).loc main_v10)) (t : Fin cfg0.N) (a b : Fin 256) :
    ((cfg0.win 4).blk t).view.read (Elt Ideal) A (ix2 a b) = A (ix2 a b) := by
  blk_ext [idx t]

theorem in_tri (c : Dev nD) (t : Fin cfg0.N) (a b : Fin 256) : iblk m c 4 t (ix2 a b) = triTable (ix2 a b) := by
  refine Eq.trans ?_ (blk4 c triTable t a b)
  have e := V_tri m c
  generalize triTable = T at e ⊢
  subst e
  rfl

/-! Reading the buffers. -/

theorem q_cons (v : View sig .tc .vmem S4x128x128 .bf16) (f : v.ty.Contents (Elt Ideal)) (t t' : Fin 4) (w : Vec Ideal S1x128x128 .bf16)
    (L : List (View.Piece (Elt Ideal) S4x128x128 .bf16)) :
    VecWindow.window (v.read (Elt Ideal) (v.writes (Elt Ideal) f (⟨Rect.unit (s := S4x128x128) ![t'.val, 0, 0] S1x128x128.size (q_inb t'), w⟩ :: L)))
        ![t.val, 0, 0] S1x128x128.size (q_inb t)
      = if t' = t then w else VecWindow.window (v.read (Elt Ideal) (v.writes (Elt Ideal) f L)) ![t.val, 0, 0] S1x128x128.size (q_inb t) := by
  rw [View.read_writes_cons_put v f (q_inb t') w L rfl]
  by_cases h : t' = t
  · subst h
    rw [if_pos rfl]
    exact VecWindow.window_put_same _ _ _ _ _
  · rw [if_neg h]
    refine VecWindow.window_put_of_disjoint _ _ _ _ _ _ _ 0 ?_
    have : t'.val ≠ t.val := fun e => h (Fin.ext e)
    show t.val + 1 ≤ t'.val ∨ t'.val + 1 ≤ t.val
    omega

/-- The queries, scaled, in the buffer that the body keeps them in. -/
theorem q_read (v : View sig .tc .vmem S4x128x128 .bf16) (f : v.ty.Contents (Elt Ideal)) (x1 : Vec Ideal S128x512 .f32) (t : Fin 4) :
    VecWindow.window (v.read (Elt Ideal) (v.writes (Elt Ideal) f (qPieces x1))) ![t.val, 0, 0] S1x128x128.size (q_inb t) = k0_pay176 (tileOf x1 t) := by
  unfold qPieces
  simp only [List.map_cons, List.map_nil]
  rw [q_cons, q_cons, q_cons, q_cons]
  match t with
  | 0 => rfl
  | 1 => rfl
  | 2 => rfl
  | 3 => rfl

theorem tile_apply (x : Vec Ideal S128x512 .f32) (t : Fin 4) (r : Fin 128) (l : Fin 128) :
    tileOf x t (ix2 r l) = x (ix2 r (⟨128 * t.val + l.val, by omega⟩ : Fin 512)) := by
  unfold tileOf VecWindow.window
  refine congrArg x (funext fun a => Fin.ext ?_)
  match a with
  | ⟨0, _⟩ => exact (ValueKit.rect_emb_unit_val ..).trans (Nat.zero_add _)
  | ⟨1, _⟩ => exact ValueKit.rect_emb_unit_val ..

theorem blk_apply (x : Vec Ideal S2048x512 .f32) (t : Fin 4) (b : ℕ) (off : Fin 2 → ℕ) (inb : ∀ a, off a + S128x128.size a ≤ S2048x512.size a)
    (e : off = ![128 * b, 128 * t.val]) (j l : Fin 128) :
    ∃ hb : 128 * b + j.val < 2048,
    blkOf x off inb (ix2 j l) = x (ix2 (⟨128 * b + j.val, hb⟩ : Fin 2048) (⟨128 * t.val + l.val, by omega⟩ : Fin 512)) := by
  subst e
  have := inb 0
  have h0 : 128 * b + 128 ≤ 2048 := this
  refine ⟨by omega, ?_⟩
  unfold blkOf VecWindow.window
  refine congrArg x (funext fun a => Fin.ext ?_)
  match a with
  | ⟨0, _⟩ => exact ValueKit.rect_emb_unit_val ..
  | ⟨1, _⟩ => exact ValueKit.rect_emb_unit_val ..

theorem bias_apply (x : Vec Ideal S8 .f32) (n : Fin 8) : biasOf x n = x (ix1 n) := by
  unfold biasOf VecWindow.window
  refine congrArg x (funext fun a => Fin.ext ?_)
  match a with
  | ⟨0, _⟩ => rfl

theorem scaled_apply (x : Vec Ideal S128x128 .f32) (r l : Fin 128) :
    k0_pay176 x (ix3 0 r l) = x (ix2 r l) * Ideal.ofBits .f32 0x3E000000#32 := by
  unfold k0_pay176
  pointwise

end Cert.StickProof

end
-- ==== Proof.StickValue.lean ====
/-
  The value of the stick-breaking kernel: entry by entry the array that it writes is what the reference computes on the whole
  joined projections, where the queries and the keys are finite.
-/
module

public import proofs.«01_k».proof.Proof.StickIn

@[expose] public section

set_option maxRecDepth 16384

noncomputable section

namespace Cert.StickProof

open Idealize.ShloMosaic Idealize.ShloMosaic.TcCoe Idealize.SL.Sem
open Cert.StickRefIdeal.Read (val_main_v30)
open Cert.StickIdeal Cert.StickIdeal.Gen
open Idealize.ShloMosaic.Pipeline (Dat)

theorem scale_real : ∃ x : ℝ, Ideal.ofBits .f32 0x3E000000#32 = (x : EReal) :=
  ⟨_, by simp [Ideal.ofBits, Ideal.ieee]; rfl⟩

/-- The scale may be taken before the sum or after it. -/
theorem scaled_sum {n : ℕ} (q k : Fin n → EReal) (s : EReal) (hq : ∀ e, ∃ x : ℝ, q e = (x : EReal)) (hk : ∀ e, ∃ x : ℝ, k e = (x : EReal))
    (hs : ∃ x : ℝ, s = (x : EReal)) : ∑ e, q e * s * k e = (∑ e, q e * k e) * s := by
  choose f hf using hq
  choose g hg using hk
  obtain ⟨x, rfl⟩ := hs
  simp only [hf, hg, ← EReal.coe_mul]
  rw [Cert.ProjProof.sum_coe, Cert.ProjProof.sum_coe, ← EReal.coe_mul, Finset.sum_mul]
  exact congrArg ((↑) : ℝ → EReal) (Finset.sum_congr rfl fun e _ => by ring)

variable (m : (ℓ : Loc nD τ sig) → Buf (Elt Ideal) ℓ)

/-- Finite are the queries and the keys. -/
def Finite (c : Dev nD) : Prop :=
  ∀ (n : Fin 32768) (l : Fin 1024), ∃ x : ℝ, m ((c : Thread nD τ).loc main_arg0) (ix2 n (⟨l.val, by omega⟩ : Fin 6656)) = (x : EReal)

/-- The head that half `h` of tile `u` holds. -/
abbrev head (u : Fin 4) (h : Fin 2) : Fin 8 := ⟨2 * u.val + h.val, by omega⟩

/-- The score of a query of point `t` at a key. -/
abbrev scoreAt (c : Dev nD) (t : Fin cfg0.N) (u : Fin 4) (r : Fin 128) (h : Fin 2) (k : Fin 2048) : EReal :=
  score (m ((c : Thread nD τ).loc main_arg0)) (m ((c : Thread nD τ).loc main_arg1)) (bat t) (head u h) (pos t r) k

/-- The bias of a head is infinite. -/
def NoBias (c : Dev nD) (n : Fin 8) : Prop :=
  m ((c : Thread nD τ).loc main_arg1) (ix2 0 n) = (⊤ : EReal) ∨ m ((c : Thread nD τ).loc main_arg1) (ix2 0 n) = (⊥ : EReal)

open Classical in
/-- A query's scores by key: real numbers where the head's bias is one. -/
def scores (c : Dev nD) (t : Fin cfg0.N) (u : Fin 4) (r : Fin 128) (h : Fin 2) : Option (ℕ → ℝ) :=
  if NoBias m c (head u h) then none else some fun k => if hk : k < 2048 then (scoreAt m c t u r h ⟨k, hk⟩).toReal else 0

def columns (c : Dev nD) (t : Fin cfg0.N) (u : Fin 4) (h : Fin 2) (e : Fin 64) : ℕ → EReal :=
  column (m ((c : Thread nD τ).loc main_arg0)) (bat t) (head u h) e

variable {m}

theorem colAt_real {c : Dev nD} (hF : Finite m c) (o : ℕ) (ho : o + 512 ≤ 1024) (b : Fin 16) (p : Fin 2048) (h : Fin 8) (e : Fin 64) :
    ∃ x : ℝ, colAt (m ((c : Thread nD τ).loc main_arg0)) o (by omega) b p h e = (x : EReal) :=
  hF _ (⟨o + (h.val * 64 + e.val), by omega⟩ : Fin 1024)

theorem scores_fit {c : Dev nD} (hF : Finite m c) (t : Fin cfg0.N) (u : Fin 4) (r : Fin 128) (h : Fin 2) (k : Fin 2048) :
    Fits (scores m c t u r h) k.val (scoreAt m c t u r h k) := by
  obtain ⟨a, ha⟩ := Cert.ProjProof.mul_real (Cert.ProjProof.sum_real _ fun e => Cert.ProjProof.mul_real
    (colAt_real hF 0 (by omega) (bat t) (pos t r) (head u h) e) (colAt_real hF 512 (by omega) (bat t) k (head u h) e)) scale_real
  have e : scoreAt m c t u r h k = (a : EReal) + m ((c : Thread nD τ).loc main_arg1) (ix2 0 (head u h)) := by
    unfold scoreAt score
    rw [ha]
  unfold scores
  by_cases hb : NoBias m c (head u h)
  · rw [if_pos hb, e]
    rcases hb with hb | hb
    · exact Or.inl (by rw [hb, EReal.coe_add_top])
    · exact Or.inr (by rw [hb, EReal.add_bot])
  · rw [if_neg hb]
    show scoreAt m c t u r h k = ((if hk : k.val < 2048 then (scoreAt m c t u r h ⟨k.val, hk⟩).toReal else 0 : ℝ) : EReal)
    rw [dif_pos k.isLt]
    refine (EReal.coe_toReal ?_ ?_).symm
    · intro hx
      rw [e] at hx
      refine hb (Or.inl ?_)
      generalize m ((c : Thread nD τ).loc main_arg1) (ix2 0 (head u h)) = v at hx ⊢
      induction v using EReal.rec with
      | bot => rw [EReal.add_bot] at hx; exact absurd hx (by simp)
      | top => rfl
      | coe y => rw [← EReal.coe_add] at hx; exact absurd hx (EReal.coe_ne_top _)
    · intro hx
      rw [e] at hx
      refine hb (Or.inr ?_)
      generalize m ((c : Thread nD τ).loc main_arg1) (ix2 0 (head u h)) = v at hx ⊢
      induction v using EReal.rec with
      | bot => rfl
      | top => rw [EReal.coe_add_top] at hx; exact absurd hx (by simp)
      | coe y => rw [← EReal.coe_add] at hx; exact absurd hx (EReal.coe_ne_bot _)

theorem keys_ok {c : Dev nD} (hF : Finite m c) (t : Fin cfg0.N) (arg2 : Memref sig .tc .smem S8 .f32) (harg2 : arg2.IsWhole)
    (arg3 : Memref sig .tc .vmem S128x512 .f32) (harg3 : arg3.IsWhole) (arg4 : Memref sig .tc .vmem S2048x512 .f32) (harg4 : arg4.IsWhole)
    (arg8 : Memref sig .tc .vmem S4x128x128 .bf16) :
    KeysOk (scores m c t) (arg2.view.read (Elt Ideal) (harg2.unread (iblk m c 0 t)))
      (arg8.view.read (Elt Ideal) (qBuf arg8 (arg3.view.read (Elt Ideal) (harg3.unread (iblk m c 1 t)))))
      (arg4.view.read (Elt Ideal) (harg4.unread (iblk m c 2 t))) := by
  rw [harg2.read_unread, harg3.read_unread, harg4.read_unread]
  intro u n off inb e r h j
  obtain ⟨hb, -⟩ := blk_apply (iblk m c 2 t) u n off inb e j 0
  refine Eq.mpr (congrArg (Fits (scores m c t u r h) (128 * n + j.val)) ?_) (scores_fit hF t u r h ⟨128 * n + j.val, hb⟩)
  unfold zK zOf
  rw [zT_apply, q_read]
  have hs : ∀ d : Fin 64, k0_pay176 (tileOf (iblk m c 1 t) u) (ix3 0 r (dim h d)) * blkOf (iblk m c 2 t) off inb (ix2 j (dim h d))
      = colAt (m ((c : Thread nD τ).loc main_arg0)) 0 (by omega) (bat t) (pos t r) (head u h) d * Ideal.ofBits .f32 0x3E000000#32
        * colAt (m ((c : Thread nD τ).loc main_arg0)) 512 (by omega) (bat t) ⟨128 * n + j.val, hb⟩ (head u h) d := by
    intro d
    obtain ⟨_, hk⟩ := blk_apply (iblk m c 2 t) u n off inb e j (dim h d)
    rw [hk, scaled_apply, tile_apply, in_q, in_k]
    unfold colAt
    have e1 : (⟨0 + (⟨128 * u.val + (dim h d).val, by omega⟩ : Fin 512).val, by dsimp only; omega⟩ : Fin 6656)
        = ⟨0 + ((head u h).val * 64 + d.val), by dsimp only; omega⟩ := Fin.ext (by dsimp only; omega)
    have e2 : (⟨512 + (⟨128 * u.val + (dim h d).val, by omega⟩ : Fin 512).val, by dsimp only; omega⟩ : Fin 6656)
        = ⟨512 + ((head u h).val * 64 + d.val), by dsimp only; omega⟩ := Fin.ext (by dsimp only; omega)
    rw [e1, e2]
  rw [Finset.sum_congr rfl fun d _ => hs d,
    scaled_sum _ _ _ (colAt_real hF 0 (by omega) (bat t) (pos t r) (head u h)) (colAt_real hF 512 (by omega) (bat t) _ (head u h)) scale_real,
    bias_apply, bias_apply, in_bias, in_bias]
  unfold scoreAt score
  match h with
  | 0 => rfl
  | 1 => rfl

theorem vals_ok (c : Dev nD) (t : Fin cfg0.N) (arg5 : Memref sig .tc .vmem S2048x512 .f32) (harg5 : arg5.IsWhole) :
    ValsOk (columns m c t) (arg5.view.read (Elt Ideal) (harg5.unread (iblk m c 3 t))) := by
  rw [harg5.read_unread]
  intro u n off inb e j h d
  obtain ⟨hb, hk⟩ := blk_apply (iblk m c 3 t) u n off inb e j (dim h d)
  rw [hk, in_v]
  unfold columns column
  rw [dif_pos hb]
  unfold colAt
  have e2 : (⟨1024 + (⟨128 * u.val + (dim h d).val, by omega⟩ : Fin 512).val, by dsimp only; omega⟩ : Fin 6656)
      = ⟨1024 + ((head u h).val * 64 + d.val), by dsimp only; omega⟩ := Fin.ext (by dsimp only; omega)
  rw [e2]

theorem tri_ok (c : Dev nD) (t : Fin cfg0.N) (arg6 : Memref sig .tc .vmem S256x256 .bf16) (harg6 : arg6.IsWhole) :
    TriOk (triK arg6 harg6 (iblk m c 4 t)) := by
  unfold triK
  rw [harg6.read_unread]
  intro h h' j j'
  unfold k0_pay181
  rw [shapeCast_self]
  refine Eq.trans (congrArg (iblk m c 4 t) (Rect.emb_unit_full _ _)) ?_
  rw [in_tri, tri_apply]

theorem whole_window (x : Vec Ideal S128x512 .f32) : VecWindow.window x ![0, 0] S128x512.size inb_S128x512_S128x512_0_0 = x :=
  funext fun y => congrArg x (Rect.emb_unit_full _ y)

theorem body_value {c : Dev nD} (hF : Finite m c) (t : Fin cfg0.N) (u : Fin 4) (r : Fin 128) (h : Fin 2) (e : Fin 64) :
    tileOf (outsAt0 m c t.val t.isLt) u (ix2 r (dim h e)) = mix (scores m c t u r h) (pos t r).val (columns m c t u h e) 0 := by
  have hi := coord t
  have key := found_ok (Z := scores m c t) (V := columns m c t) (p := 128 * (grid0.coords t 1).val)
    c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t)
    rfl (tri_ok c t _ _) (keys_ok hF t _ _ _ _ _ _ _) (vals_ok c t _ _)
  have fin : ∀ acc, AccOk (scores m c t u) (columns m c t u) (128 * (grid0.coords t 1).val) 0 acc
      → acc (ix2 r (dim h e)) = mix (scores m c t u r h) (pos t r).val (columns m c t u h e) 0 := fun acc ha => by
    rw [ha r h e, hi, Nat.mul_comm]
  by_cases h0 : t.val % 2 = 1
  · rw [show (grid0.coords t 1).val - 2 * ((grid0.coords t 1).val / 2) = 1 by rw [hi]; omega] at key
    rw [outsAt0_B m c t h0]
    unfold out0_B_5
    rw [run_odd, View.read_writes_full, whole_window]
    exact fin _ (first9_ok (Z := scores m c t) (V := columns m c t) (p := 128 * (grid0.coords t 1).val)
      c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t)
      rfl (by rw [hi]; omega) (tri_ok c t _ _) (keys_ok hF t _ _ _ _ _ _ _) (vals_ok c t _ _) key.1 key.2 u)
  · rw [show (grid0.coords t 1).val - 2 * ((grid0.coords t 1).val / 2) = 0 by rw [hi]; omega] at key
    rw [outsAt0_A m c t h0]
    unfold out0_A_5
    rw [run_even, View.read_writes_full, whole_window]
    exact fin _ (key.1 u)

theorem emb5 (t : Fin cfg0.N) (r : Fin 128) (l : Fin 512) :
    ((cfg0.win 5).blk t).view.emb (ix2 r l) = ix2 (row (bat t) (pos t r)) l := by
  blk_ext [idx t]

variable (m) in
/-- The reference's result at the kernel's argument arrays. -/
def mixed (c : Dev nD) : Buf (Elt Ideal) ((c : Thread nD τ).loc main_v11) :=
  val_main_v30 (F := Ideal) (m ((c : Thread nD τ).loc main_arg0)) (m ((c : Thread nD τ).loc main_arg1))

theorem lane_value {c : Dev nD} (hF : Finite m c) (t : Fin cfg0.N) (r : Fin 128) (u : Fin 4) (h : Fin 2) (e : Fin 64) (l : Fin 512)
    (hl : l.val = 128 * u.val + (64 * h.val + e.val)) :
    outsAt0 m c t.val t.isLt (ix2 r l) = mixed m c (ix2 (row (bat t) (pos t r)) l) := by
  have a := tile_apply (outsAt0 m c t.val t.isLt) u r (dim h e)
  rw [body_value hF] at a
  rw [show l = (⟨128 * u.val + (dim h e).val, by omega⟩ : Fin 512) from Fin.ext hl, ← a]
  unfold mixed columns
  rw [← result_apply _ _ (scores m c t u r h) (bat t) (head u h) (pos t r) e fun k => scores_fit hF t u r h k]
  exact congrArg (fun y => val_main_v30 (F := Ideal) (m ((c : Thread nD τ).loc main_arg0)) (m ((c : Thread nD τ).loc main_arg1))
    (ix2 (row (bat t) (pos t r)) y)) (Fin.ext (by dsimp only; omega))

theorem arr5 (c : Dev nD) (hF : Finite m c) : (dats m 0 c).arrAt 5 cfg0.N = mixed m c := by
  refine (dats m 0 c).arrAt_eq_of_covers 5 _ (by decide +kernel) fun t hf y => ?_
  blk_simp
  rw [after0_5]
  idx_vars y
  rw [emb5]
  exact lane_value hF t y0 (⟨y1.val / 128, by omega⟩ : Fin 4) (⟨y1.val % 128 / 64, by omega⟩ : Fin 2) (⟨y1.val % 64, by omega⟩ : Fin 64) y1
    (by dsimp only; omega)

end Cert.StickProof

end
-- ==== Proof.StickPre.lean ====
/- What the precondition of the stick-breaking attention's claim says: an absolute value below infinity is a real number's. -/
module

public import proofs.«01_k».proof.Defs
public import proofs.«01_k».proof.Proof.ProjPre
public import proofs.«01_k».proof.Proof.StickValue

@[expose] public section

noncomputable section

namespace Cert.StickProof

open Idealize.ShloMosaic Idealize.ShloMosaic.TcCoe Idealize.SL.Sem

/-- The predicate's side conditions. -/
theorem preFacts : Cert.Pre_finite_scores.Facts := ⟨by decide, by decide, by decide⟩

theorem finite_of_pre (m : (ℓ : Loc Cert.StickIdeal.nD Cert.StickIdeal.τ Cert.StickIdeal.sig) → Buf (Elt Ideal) ℓ)
    (h : Cert.Pre_StickIdeal_finite_scores (hPre_finite_scores := preFacts) m) (c : Dev Cert.StickIdeal.nD) : Finite m c := by
  intro n l
  have e := congrFun (h c) (ix2 n l)
  refine Cert.ProjProof.real_of_test _ (Eq.trans ?_ e)
  unfold Cert.Pre_finite_scores.fn
  pointwise
  rfl

end Cert.StickProof

end
-- ==== Proof.lean ====
module

public import proofs.«01_k».proof.Defs
public import proofs.«01_k».proof.Proof.Gen.KernelIdeal.Value
public import proofs.«01_k».proof.Proof.Gen.ProjIdeal.Value
public import proofs.«01_k».proof.Proof.Gen.MergeIdeal.Value
public import proofs.«01_k».proof.Proof.Gen.PleIdeal.Value
public import proofs.«01_k».proof.Proof.Gen.StickIdeal.Value
public import proofs.«01_k».proof.Proof.Gen.ReferenceIdeal.Run
public import proofs.«01_k».proof.Proof.Gen.ReferenceIdeal.Step
public import proofs.«01_k».proof.Proof.Gen.ProjRefIdeal.Run
public import proofs.«01_k».proof.Proof.Gen.ProjRefIdeal.Read
public import proofs.«01_k».proof.Proof.Gen.MergeRefIdeal.Run
public import proofs.«01_k».proof.Proof.Gen.MergeRefIdeal.Read
public import proofs.«01_k».proof.Proof.Gen.PleRefIdeal.Run
public import proofs.«01_k».proof.Proof.Gen.PleRefIdeal.Read
public import proofs.«01_k».proof.Proof.Gen.StickRefIdeal.Run
public import proofs.«01_k».proof.Proof.Gen.StickRefIdeal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Ple
public import proofs.«01_k».proof.Proof.Gen.Ple.Skeleton
public import proofs.«01_k».proof.Proof.Gen.Ple.Launch
public import proofs.«01_k».proof.Proof.Gen.Ple.Points
public import proofs.«01_k».proof.Proof.Gen.Ple.Frame
public import proofs.«01_k».proof.Proof.Gen.PleIdeal
public import proofs.«01_k».proof.Proof.Gen.PleIdeal.Skeleton
public import proofs.«01_k».proof.Proof.Gen.PleIdeal.Launch
public import proofs.«01_k».proof.Proof.Gen.PleIdeal.Points
public import proofs.«01_k».proof.Proof.Gen.PleIdeal.Frame
public import proofs.«01_k».proof.Proof.Gen.PleRefIdeal
public import proofs.«01_k».proof.Proof.Gen.Stick
public import proofs.«01_k».proof.Proof.Gen.Stick.Skeleton
public import proofs.«01_k».proof.Proof.Gen.Stick.Loops
public import proofs.«01_k».proof.Proof.Gen.Stick.Launch
public import proofs.«01_k».proof.Proof.Gen.Stick.Points
public import proofs.«01_k».proof.Proof.Gen.Stick.Frame
public import proofs.«01_k».proof.Proof.Gen.StickIdeal
public import proofs.«01_k».proof.Proof.Gen.StickIdeal.Skeleton
public import proofs.«01_k».proof.Proof.Gen.StickIdeal.Loops
public import proofs.«01_k».proof.Proof.Gen.StickIdeal.Launch
public import proofs.«01_k».proof.Proof.Gen.StickIdeal.Points
public import proofs.«01_k».proof.Proof.Gen.StickIdeal.Frame
public import proofs.«01_k».proof.Proof.Gen.StickRefIdeal
public import proofs.«01_k».proof.Proof.RetRun
public import proofs.«01_k».proof.Proof.ProjPre
public import proofs.«01_k».proof.Proof.ProjValue
public import proofs.«01_k».proof.Proof.RetValue
public import proofs.«01_k».proof.Proof.MergeValue
public import proofs.«01_k».proof.Proof.PleValue
public import proofs.«01_k».proof.Proof.StickPre
public import proofs.«01_k».proof.Proof.StickValue
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-! ## The references' frames: a run of host operations keeps its arguments, and there is no counter to leave. -/

theorem frame_ref : quiescent_ReferenceIdeal (hReferenceIdeal := Cert.ReferenceIdeal.Gen.facts) := fun m ρ _ =>
  (θ_run _ _ _).mono (fun r h => ⟨fun c => (h c).2.2, sem_eq_zero_of_no_sems (by decide) r.2⟩)
    (RetProof.ref_run m ρ)
theorem frame_proj_ref : quiescent_ProjRefIdeal (hProjRefIdeal := Cert.ProjRefIdeal.Gen.facts) := fun m ρ _ =>
  (θ_run _ _ _).mono (fun r h => ⟨fun c => (h c).2.2.2, sem_eq_zero_of_no_sems (by decide) r.2⟩) (ProjRefIdeal.Value.run (F := Ideal) m ρ)
theorem frame_merge_ref : quiescent_MergeRefIdeal (hMergeRefIdeal := Cert.MergeRefIdeal.Gen.facts) := fun m ρ _ =>
  (θ_run _ _ _).mono (fun r h => ⟨fun c => (h c).2.2.2, sem_eq_zero_of_no_sems (by decide) r.2⟩) (MergeRefIdeal.Value.run (F := Ideal) m ρ)
theorem frame_ple_ref : quiescent_PleRefIdeal (hPleRefIdeal := Cert.PleRefIdeal.Gen.facts) := fun m ρ _ =>
  (θ_run _ _ _).mono (fun r h => ⟨fun c => (h c).2, sem_eq_zero_of_no_sems (by decide) r.2⟩) (PleRefIdeal.Value.run (F := Ideal) m ρ)
theorem frame_stick_ref : quiescent_StickRefIdeal (hStickRefIdeal := Cert.StickRefIdeal.Gen.facts) := fun m ρ _ =>
  (θ_run _ _ _).mono (fun r h => ⟨fun c => (h c).2, sem_eq_zero_of_no_sems (by decide) r.2⟩) (StickRefIdeal.Value.run (F := Ideal) m ρ)

/-! ## Kernel and reference compute the same -/

/-- The retention call: the gated outputs of the chunks, and the last state. -/
theorem ret_value : algebraic_KernelIdeal_ReferenceIdeal (hKernelIdeal := Cert.KernelIdeal.Gen.facts)
    (hReferenceIdeal := Cert.ReferenceIdeal.Gen.facts) := fun m ρ m' ρ' _ hag =>
  ⟨fun c => RetProof.gated m c, fun c => RetProof.last m c,
    (θ_run _ _ _).mono (fun r h c => ⟨(h c).1.trans (RetProof.arr12 m c), (h c).2.1.trans (RetProof.arr13 m c), (h c).2.2⟩)
      (KernelIdeal.Value.run_blocks (F := Ideal) m ρ),
    (θ_run _ _ _).mono (fun r h c => ⟨(h c).1.trans (by
        obtain ⟨a0, a1⟩ := hag c
        unfold RetProof.gated
        rw [a0, a1]), (h c).2.1.trans (by
        obtain ⟨a0, a1⟩ := hag c
        unfold RetProof.last
        rw [a0]), (h c).2.2⟩)
      (RetProof.ref_run m' ρ')⟩

/-- The merge of the two branches: the rows, their norm and its queries. -/
theorem merge_value : algebraic_MergeIdeal_MergeRefIdeal (hMergeIdeal := Cert.MergeIdeal.Gen.facts)
    (hMergeRefIdeal := Cert.MergeRefIdeal.Gen.facts) := fun m ρ m' ρ' _ hag =>
  ⟨fun c => MergeProof.rows m c, fun c => MergeProof.normed m c, fun c => MergeProof.queries m c,
    (θ_run _ _ _).mono (fun r h c => ⟨(h c).1.trans (MergeProof.arr12 m c), (h c).2.1.trans (MergeProof.arr13 m c),
        (h c).2.2.1.trans (MergeProof.arr14 m c), (h c).2.2.2⟩)
      (MergeIdeal.Value.run_blocks (F := Ideal) m ρ),
    (θ_run _ _ _).mono (fun r h c => ⟨(h c).1.trans ((MergeRefIdeal.Read.val_main_v24_eq ..).trans (by
        obtain ⟨a0, a1, a2, a3, a4, a5, a6, a7, a8⟩ := hag c
        unfold MergeProof.rows
        rw [a0, a1, a2, a3, a4, a5, a6])), (h c).2.1.trans ((MergeRefIdeal.Read.val_main_v38_eq m' c).trans (by
        obtain ⟨a0, a1, a2, a3, a4, a5, a6, a7, a8⟩ := hag c
        unfold MergeProof.normed
        rw [a0, a1, a2, a3, a4, a5, a6, a7])), (h c).2.2.1.trans ((MergeRefIdeal.Read.val_main_v40_eq m' c).trans (by
        obtain ⟨a0, a1, a2, a3, a4, a5, a6, a7, a8⟩ := hag c
        unfold MergeProof.queries
        rw [a0, a1, a2, a3, a4, a5, a6, a7, a8])), (h c).2.2.2⟩)
      (MergeRefIdeal.Value.run (F := Ideal) m' ρ')⟩

/-- The gated input embedding: the rows with the embedding added. -/
theorem ple_value : algebraic_PleIdeal_PleRefIdeal (hPleIdeal := Cert.PleIdeal.Gen.facts)
    (hPleRefIdeal := Cert.PleRefIdeal.Gen.facts) := fun m ρ m' ρ' _ hag =>
  ⟨fun c => PleProof.target m c,
    (θ_run _ _ _).mono (fun r h c => ⟨(h c).1.trans (PleProof.arr m c), (h c).2⟩) (PleIdeal.Value.run_blocks (F := Ideal) m ρ),
    (θ_run _ _ _).mono (fun r h c => ⟨(h c).1.trans ((PleRefIdeal.Read.val_main_v27_eq ..).trans (by
        obtain ⟨a0, a1, a2, a3, a4⟩ := hag c
        rw [a0, a1, a2, a3, a4])), (h c).2⟩)
      (PleRefIdeal.Value.run (F := Ideal) m' ρ')⟩

/-- The projection: the joined rows, and the attention's keys and values with the position last. -/
theorem proj_value : algebraic_ProjIdeal_ProjRefIdeal_pre_finite_normed (hProjIdeal := Cert.ProjIdeal.Gen.facts)
    (hProjRefIdeal := Cert.ProjRefIdeal.Gen.facts) (hPre_finite_normed := ProjProof.preFacts) := fun m ρ m' ρ' hp hag =>
  ⟨fun c => ProjProof.joined m c, fun c => ProjProof.keysT m c, fun c => ProjProof.valuesT m c,
    (θ_run _ _ _).mono (fun r h c => ⟨(h c).1.trans (ProjProof.arr8 m c (ProjProof.finite_of_pre m hp c)),
        (h c).2.1.trans (ProjProof.arr9 m c (ProjProof.finite_of_pre m hp c)), (h c).2.2.1.trans (ProjProof.arr10 m c), (h c).2.2.2⟩)
      (ProjIdeal.Value.run_blocks (F := Ideal) m ρ),
    (θ_run _ _ _).mono (fun r h c => ⟨(h c).1.trans ((ProjRefIdeal.Read.val_main_v120_eq m' c).trans (by
        obtain ⟨a0, a1, a2, a3, a4⟩ := hag c
        unfold ProjProof.joined
        rw [a0, a1, a2, a3, a4])), (h c).2.1.trans ((ProjRefIdeal.Read.val_main_v121_eq m' c).trans (by
        obtain ⟨a0, a1, a2, a3, a4⟩ := hag c
        unfold ProjProof.keysT
        rw [a0, a1, a2, a4])), (h c).2.2.1.trans ((ProjRefIdeal.Read.val_main_v122_eq ..).trans (by
        obtain ⟨a0, a1, a2, a3, a4⟩ := hag c
        unfold ProjProof.valuesT
        rw [a0, a1, a2])), (h c).2.2.2⟩)
      (ProjRefIdeal.Value.run (F := Ideal) m' ρ')⟩

/-- The stick-breaking attention: the mixed values of every head. -/
theorem stick_value : algebraic_StickIdeal_StickRefIdeal_pre_finite_scores (hStickIdeal := Cert.StickIdeal.Gen.facts)
    (hStickRefIdeal := Cert.StickRefIdeal.Gen.facts) (hPre_finite_scores := StickProof.preFacts) := fun m ρ m' ρ' hp hag =>
  ⟨fun c => StickProof.mixed m c,
    (θ_run _ _ _).mono (fun r h c => ⟨(h c).1.trans (StickProof.arr5 c (StickProof.finite_of_pre m hp c)), (h c).2⟩)
      (StickIdeal.Value.run_blocks (F := Ideal) m ρ),
    (θ_run _ _ _).mono (fun r h c => ⟨(h c).1.trans ((StickRefIdeal.Read.val_main_v30_eq ..).trans (by
        obtain ⟨a0, a1⟩ := hag c
        unfold StickProof.mixed
        rw [a0, a1])), (h c).2⟩)
      (StickRefIdeal.Value.run (F := Ideal) m' ρ')⟩

theorem claim : Cert.Claim := ⟨Cert.Kernel.Gen.facts,
    Cert.KernelIdeal.Gen.facts,
    Cert.ReferenceIdeal.Gen.facts,
    Cert.Proj.Gen.facts,
    Cert.ProjIdeal.Gen.facts,
    Cert.ProjRefIdeal.Gen.facts,
    Cert.Merge.Gen.facts,
    Cert.MergeIdeal.Gen.facts,
    Cert.MergeRefIdeal.Gen.facts,
    Cert.Ple.Gen.facts,
    Cert.PleIdeal.Gen.facts,
    Cert.PleRefIdeal.Gen.facts,
    Cert.Stick.Gen.facts,
    Cert.StickIdeal.Gen.facts,
    Cert.StickRefIdeal.Gen.facts,
    ProjProof.preFacts,
    StickProof.preFacts,
    fun m ρ _ => Cert.Kernel.Gen.frame m ρ, fun m ρ _ => Cert.KernelIdeal.Gen.frame m ρ, frame_ref,
    fun m ρ _ => Cert.Proj.Gen.frame m ρ, fun m ρ _ => Cert.ProjIdeal.Gen.frame m ρ, fun m ρ _ => Cert.ProjIdeal.Gen.frame m ρ,
    frame_proj_ref, fun m ρ _ => frame_proj_ref m ρ trivial,
    fun m ρ _ => Cert.Merge.Gen.frame m ρ, fun m ρ _ => Cert.MergeIdeal.Gen.frame m ρ, frame_merge_ref,
    fun m ρ _ => Cert.Ple.Gen.frame m ρ, fun m ρ _ => Cert.PleIdeal.Gen.frame m ρ, frame_ple_ref,
    fun m ρ _ => Cert.Stick.Gen.frame m ρ, fun m ρ _ => Cert.StickIdeal.Gen.frame m ρ, fun m ρ _ => Cert.StickIdeal.Gen.frame m ρ,
    frame_stick_ref, fun m ρ _ => frame_stick_ref m ρ trivial,
    trivial, trivial, trivial, trivial, trivial, ret_value, merge_value, ple_value, proj_value, stick_value⟩

end Cert.Proof

end
